-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2 = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.bf16_pack.Statement Cert.KernelIdeal.S8x128

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_range : Cert.Pre_in_range.Facts) (hPre_admissible : Cert.Pre_admissible.Facts),
    quiescent_Kernel (hKernel := hKernel) (hPre_in_range := hPre_in_range)
    ∧ quiescent_KernelIdeal (hKernelIdeal := hKernelIdeal) (hPre_in_range := hPre_in_range)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S520x3x32x128 : Shape := ⟨4, ![520, 3, 32, 128]⟩
abbrev S520x3x32 : Shape := ⟨3, ![520, 3, 32]⟩
abbrev S32 : Shape := ⟨1, ![32]⟩
abbrev S520x3x1x64 : Shape := ⟨4, ![520, 3, 1, 64]⟩
abbrev S653x32x128x64 : Shape := ⟨4, ![653, 32, 128, 64]⟩
abbrev S653x32x128 : Shape := ⟨3, ![653, 32, 128]⟩
abbrev S520 : Shape := ⟨1, ![520]⟩
abbrev S_ : Shape := ⟨0, ![]⟩

class Facts : Prop where
  bcast_S_S520 : S_.BroadcastsInDim S520 (![] : Fin 0 → Fin S520.rank)
  bitsLt_bf16_f32 : FTy.bits .bf16 < FTy.bits .f32
  bcast_S_S520x3x32x128 : S_.BroadcastsInDim S520x3x32x128 (![] : Fin 0 → Fin S520x3x32x128.rank)
  bcast_S_S520x3x32 : S_.BroadcastsInDim S520x3x32 (![] : Fin 0 → Fin S520x3x32.rank)
  bcast_S_S32 : S_.BroadcastsInDim S32 (![] : Fin 0 → Fin S32.rank)
  bcast_S_S520x3x1x64 : S_.BroadcastsInDim S520x3x1x64 (![] : Fin 0 → Fin S520x3x1x64.rank)
  bcast_S_S653x32x128 : S_.BroadcastsInDim S653x32x128 (![] : Fin 0 → Fin S653x32x128.rank)

variable [Facts]

def fn_part1 {F : FTy → Type} [FloatOps F] (main_arg4 : FVec F S520x3x1x64 .bf16) (main_arg5 : FVec F S520x3x1x64 .bf16) (main_arg6 : FVec F S32 .f32) (main_arg8 : FVec F S653x32x128 .f32) (main_v4 : IVec S520 1) (main_v8 : IVec S520x3x32x128 1) (main_v12 : IVec S520x3x32 1) (main_v15 : IVec S32 1) (main_v16 : FVec F S32 .f32) (main_v17 : FVec F S32 .f32) : IVec S520 1 × IVec S520x3x32x128 1 × IVec S520x3x32 1 × IVec S32 1 × IVec S32 1 × IVec S520x3x1x64 1 × IVec S520x3x1x64 1 × IVec S32 1 × IVec S653x32x128 1 :=
  let main_v18 : IVec S32 1 := cmpf .olt main_v16 main_v17
  let main_v19 : FVec F S520x3x1x64 .f32 := (extf .f32 · bitsLt_bf16_f32) main_arg4
  let main_v20 : FVec F S520x3x1x64 .f32 := Host.absf main_v19
  let main_cst_4 : FVec F S_ .f32 := constant S_ .f32 0x7F800000#32
  let main_v21 : FVec F S520x3x1x64 .f32 := broadcastInDim S520x3x1x64 ![] bcast_S_S520x3x1x64 main_cst_4
  let main_v22 : IVec S520x3x1x64 1 := cmpf .olt main_v20 main_v21
  let main_v23 : FVec F S520x3x1x64 .f32 := (extf .f32 · bitsLt_bf16_f32) main_arg5
  let main_v24 : FVec F S520x3x1x64 .f32 := Host.absf main_v23
  let main_cst_5 : FVec F S_ .f32 := constant S_ .f32 0x7F800000#32
  let main_v25 : FVec F S520x3x1x64 .f32 := broadcastInDim S520x3x1x64 ![] bcast_S_S520x3x1x64 main_cst_5
  let main_v26 : IVec S520x3x1x64 1 := cmpf .olt main_v24 main_v25
  let main_v27 : FVec F S32 .f32 := Host.absf main_arg6
  let main_cst_6 : FVec F S_ .f32 := constant S_ .f32 0x7F800000#32
  let main_v28 : FVec F S32 .f32 := broadcastInDim S32 ![] bcast_S_S32 main_cst_6
  let main_v29 : IVec S32 1 := cmpf .olt main_v27 main_v28
  let main_cst_7 : FVec F S_ .f32 := constant S_ .f32 0x00000000#32
  let main_v30 : FVec F S653x32x128 .f32 := broadcastInDim S653x32x128 ![] bcast_S_S653x32x128 main_cst_7
  let main_v31 : IVec S653x32x128 1 := cmpf .oge main_arg8 main_v30
  let main_v32 : FVec F S653x32x128 .f32 := Host.absf main_arg8
  let main_cst_8 : FVec F S_ .f32 := constant S_ .f32 0x7F800000#32
  let main_v33 : FVec F S653x32x128 .f32 := broadcastInDim S653x32x128 ![] bcast_S_S653x32x128 main_cst_8
  let main_v34 : IVec S653x32x128 1 := cmpf .olt main_v32 main_v33
  let main_v35 : IVec S653x32x128 1 := andi main_v31 main_v34
  (main_v4, main_v8, main_v12, main_v15, main_v18, main_v22, main_v26, main_v29, main_v35)

def fn {F : FTy → Type} [FloatOps F] (main_arg0 : FVec F S520x3x32x128 .bf16) (main_arg1 : FVec F S520x3x32 .bf16) (main_arg2 : FVec F S32 .f32) (main_arg3 : FVec F S32 .f32) (main_arg4 : FVec F S520x3x1x64 .bf16) (main_arg5 : FVec F S520x3x1x64 .bf16) (main_arg6 : FVec F S32 .f32) (main_arg7 : FVec F S653x32x128x64 .fp8e4m3) (main_arg8 : FVec F S653x32x128 .f32) (main_arg9 : IVec S520 32) : IVec S520 1 × IVec S520x3x32x128 1 × IVec S520x3x32 1 × IVec S32 1 × IVec S32 1 × IVec S520x3x1x64 1 × IVec S520x3x1x64 1 × IVec S32 1 × IVec S653x32x128 1 :=
  let main_c : IVec S_ 32 := constantI S_ 32 0#32
  let main_v0 : IVec S520 32 := broadcastInDim S520 ![] bcast_S_S520 main_c
  let main_v1 : IVec S520 1 := cmpi .sge main_arg9 main_v0
  let main_c_0 : IVec S_ 32 := constantI S_ 32 653#32
  let main_v2 : IVec S520 32 := broadcastInDim S520 ![] bcast_S_S520 main_c_0
  let main_v3 : IVec S520 1 := cmpi .slt main_arg9 main_v2
  let main_v4 : IVec S520 1 := andi main_v1 main_v3
  let main_v5 : FVec F S520x3x32x128 .f32 := (extf .f32 · bitsLt_bf16_f32) main_arg0
  let main_v6 : FVec F S520x3x32x128 .f32 := Host.absf main_v5
  let main_cst : FVec F S_ .f32 := constant S_ .f32 0x7F800000#32
  let main_v7 : FVec F S520x3x32x128 .f32 := broadcastInDim S520x3x32x128 ![] bcast_S_S520x3x32x128 main_cst
  let main_v8 : IVec S520x3x32x128 1 := cmpf .olt main_v6 main_v7
  let main_v9 : FVec F S520x3x32 .f32 := (extf .f32 · bitsLt_bf16_f32) main_arg1
  let main_v10 : FVec F S520x3x32 .f32 := Host.absf main_v9
  let main_cst_1 : FVec F S_ .f32 := constant S_ .f32 0x7F800000#32
  let main_v11 : FVec F S520x3x32 .f32 := broadcastInDim S520x3x32 ![] bcast_S_S520x3x32 main_cst_1
  let main_v12 : IVec S520x3x32 1 := cmpf .olt main_v10 main_v11
  let main_v13 : FVec F S32 .f32 := Host.absf main_arg2
  let main_cst_2 : FVec F S_ .f32 := constant S_ .f32 0x7F800000#32
  let main_v14 : FVec F S32 .f32 := broadcastInDim S32 ![] bcast_S_S32 main_cst_2
  let main_v15 : IVec S32 1 := cmpf .olt main_v13 main_v14
  let main_v16 : FVec F S32 .f32 := Host.absf main_arg3
  let main_cst_3 : FVec F S_ .f32 := constant S_ .f32 0x7F800000#32
  let main_v17 : FVec F S32 .f32 := broadcastInDim S32 ![] bcast_S_S32 main_cst_3
  fn_part1 (F := F) main_arg4 main_arg5 main_arg6 main_arg8 main_v4 main_v8 main_v12 main_v15 main_v16 main_v17
-- ==== Pre_in_range.lean ====
abbrev S520x3x32x128 : Shape := ⟨4, ![520, 3, 32, 128]⟩
abbrev S520x3x32 : Shape := ⟨3, ![520, 3, 32]⟩
abbrev S32 : Shape := ⟨1, ![32]⟩
abbrev S520x3x1x64 : Shape := ⟨4, ![520, 3, 1, 64]⟩
abbrev S653x32x128x64 : Shape := ⟨4, ![653, 32, 128, 64]⟩
abbrev S653x32x128 : Shape := ⟨3, ![653, 32, 128]⟩
abbrev S520 : Shape := ⟨1, ![520]⟩
abbrev S_ : Shape := ⟨0, ![]⟩

class Facts : Prop where
  bcast_S_S520 : S_.BroadcastsInDim S520 (![] : Fin 0 → Fin S520.rank)

variable [Facts]

def fn {F : FTy → Type} [FloatOps F] (main_arg0 : FVec F S520x3x32x128 .bf16) (main_arg1 : FVec F S520x3x32 .bf16) (main_arg2 : FVec F S32 .f32) (main_arg3 : FVec F S32 .f32) (main_arg4 : FVec F S520x3x1x64 .bf16) (main_arg5 : FVec F S520x3x1x64 .bf16) (main_arg6 : FVec F S32 .f32) (main_arg7 : FVec F S653x32x128x64 .fp8e4m3) (main_arg8 : FVec F S653x32x128 .f32) (main_arg9 : IVec S520 32) : IVec S520 1 :=
  let main_c : IVec S_ 32 := constantI S_ 32 0#32
  let main_v0 : IVec S520 32 := broadcastInDim S520 ![] bcast_S_S520 main_c
  let main_v1 : IVec S520 1 := cmpi .sge main_arg9 main_v0
  let main_c_0 : IVec S_ 32 := constantI S_ 32 653#32
  let main_v2 : IVec S520 32 := broadcastInDim S520 ![] bcast_S_S520 main_c_0
  let main_v3 : IVec S520 1 := cmpi .slt main_arg9 main_v2
  let main_v4 : IVec S520 1 := andi main_v1 main_v3
  main_v4
-- ==== Kernel.lean ====
abbrev S520x3x32x128 : Shape := ⟨4, ![520, 3, 32, 128]⟩
abbrev S520x3x32 : Shape := ⟨3, ![520, 3, 32]⟩
abbrev S32 : Shape := ⟨1, ![32]⟩
abbrev S520x3x1x64 : Shape := ⟨4, ![520, 3, 1, 64]⟩
abbrev S653x32x128x64 : Shape := ⟨4, ![653, 32, 128, 64]⟩
abbrev S653x32x128 : Shape := ⟨3, ![653, 32, 128]⟩
abbrev S520 : Shape := ⟨1, ![520]⟩
abbrev S653x32x64x128 : Shape := ⟨4, ![653, 32, 64, 128]⟩
abbrev S3x32x520 : Shape := ⟨3, ![3, 32, 520]⟩
abbrev S520x3x64 : Shape := ⟨3, ![520, 3, 64]⟩
abbrev S3x64x520 : Shape := ⟨3, ![3, 64, 520]⟩
abbrev S3x520x64 : Shape := ⟨3, ![3, 520, 64]⟩
abbrev S_ : Shape := ⟨0, ![]⟩
abbrev S3x520x128 : Shape := ⟨3, ![3, 520, 128]⟩
abbrev S32x1 : Shape := ⟨2, ![32, 1]⟩
abbrev S32x3 : Shape := ⟨2, ![32, 3]⟩
abbrev S520x3x32x64x128 : Shape := ⟨5, ![520, 3, 32, 64, 128]⟩
abbrev S1x32x64x128 : Shape := ⟨4, ![1, 32, 64, 128]⟩
abbrev S1 : Shape := ⟨1, ![1]⟩
abbrev S1x32x128 : Shape := ⟨3, ![1, 32, 128]⟩
abbrev S1x3x32x128 : Shape := ⟨4, ![1, 3, 32, 128]⟩
abbrev S1x3x32x64x128 : Shape := ⟨5, ![1, 3, 32, 64, 128]⟩
abbrev S352x640 : Shape := ⟨2, ![352, 640]⟩
abbrev S192x640 : Shape := ⟨2, ![192, 640]⟩
abbrev S8x640 : Shape := ⟨2, ![8, 640]⟩
abbrev S208x128 : Shape := ⟨2, ![208, 128]⟩
abbrev S288x128 : Shape := ⟨2, ![288, 128]⟩
abbrev S32x192x128 : Shape := ⟨3, ![32, 192, 128]⟩
abbrev S864x128 : Shape := ⟨2, ![864, 128]⟩
abbrev S96x128 : Shape := ⟨2, ![96, 128]⟩
abbrev S1x32x520 : Shape := ⟨3, ![1, 32, 520]⟩
abbrev S32x520 : Shape := ⟨2, ![32, 520]⟩
abbrev S1x64x520 : Shape := ⟨3, ![1, 64, 520]⟩
abbrev S64x520 : Shape := ⟨2, ![64, 520]⟩
abbrev S1x520 : Shape := ⟨2, ![1, 520]⟩
abbrev S64x128 : Shape := ⟨2, ![64, 128]⟩
abbrev S64x128x1 : Shape := ⟨3, ![64, 128, 1]⟩
abbrev S1x1x128 : Shape := ⟨3, ![1, 1, 128]⟩
abbrev S1x128 : Shape := ⟨2, ![1, 128]⟩
abbrev S13x128 : Shape := ⟨2, ![13, 128]⟩
abbrev S16x128 : Shape := ⟨2, ![16, 128]⟩
abbrev S32x128 : Shape := ⟨2, ![32, 128]⟩
abbrev S1x1x32x128 : Shape := ⟨4, ![1, 1, 32, 128]⟩
abbrev S32x128x1 : Shape := ⟨3, ![32, 128, 1]⟩
abbrev S8x128 : Shape := ⟨2, ![8, 128]⟩
abbrev S1x1x64x128 : Shape := ⟨4, ![1, 1, 64, 128]⟩
abbrev S128x128 : Shape := ⟨2, ![128, 128]⟩
abbrev S128x256 : Shape := ⟨2, ![128, 256]⟩
abbrev S208x256 : Shape := ⟨2, ![208, 256]⟩
abbrev S192x128 : Shape := ⟨2, ![192, 128]⟩
abbrev S1x192x128 : Shape := ⟨3, ![1, 192, 128]⟩
abbrev S8x128x1 : Shape := ⟨3, ![8, 128, 1]⟩
abbrev S1x1x8x128 : Shape := ⟨4, ![1, 1, 8, 128]⟩
abbrev S1x8x128 : Shape := ⟨3, ![1, 8, 128]⟩
abbrev S1x1x1x64x128 : Shape := ⟨5, ![1, 1, 1, 64, 128]⟩
abbrev S1x1x1 : Shape := ⟨3, ![1, 1, 1]⟩
abbrev S128 : Shape := ⟨1, ![128]⟩
abbrev S1x1x1x128 : Shape := ⟨4, ![1, 1, 1, 128]⟩

abbrev nBuf : Space → Nat
  | .hbm => 27
  | .vmem => 28
  | .smem => 1
  | _ => 0

abbrev bufTy : (tb : Table) → Fin (tcTables nBuf tb) → BufTy
  | .hbm, ⟨0, _⟩ => ⟨S520x3x32x128, .bf16⟩
  | .hbm, ⟨1, _⟩ => ⟨S520x3x32, .bf16⟩
  | .hbm, ⟨2, _⟩ => ⟨S32, .f32⟩
  | .hbm, ⟨3, _⟩ => ⟨S32, .f32⟩
  | .hbm, ⟨4, _⟩ => ⟨S520x3x1x64, .bf16⟩
  | .hbm, ⟨5, _⟩ => ⟨S520x3x1x64, .bf16⟩
  | .hbm, ⟨6, _⟩ => ⟨S32, .f32⟩
  | .hbm, ⟨7, _⟩ => ⟨S653x32x128x64, .fp8e4m3⟩
  | .hbm, ⟨8, _⟩ => ⟨S653x32x128, .f32⟩
  | .hbm, ⟨9, _⟩ => ⟨S653x32x64x128, .fp8e4m3⟩
  | .hbm, ⟨10, _⟩ => ⟨S3x32x520, .bf16⟩
  | .hbm, ⟨11, _⟩ => ⟨S520x3x64, .bf16⟩
  | .hbm, ⟨12, _⟩ => ⟨S3x64x520, .bf16⟩
  | .hbm, ⟨13, _⟩ => ⟨S520x3x64, .bf16⟩
  | .hbm, ⟨14, _⟩ => ⟨S3x64x520, .bf16⟩
  | .hbm, ⟨15, _⟩ => ⟨S520x3x64, .bf16⟩
  | .hbm, ⟨16, _⟩ => ⟨S3x520x64, .bf16⟩
  | .hbm, ⟨17, _⟩ => ⟨S3x520x64, .f32⟩
  | .hbm, ⟨18, _⟩ => ⟨S_, .f32⟩
  | .hbm, ⟨19, _⟩ => ⟨S3x520x128, .f32⟩
  | .hbm, ⟨20, _⟩ => ⟨S32x1, .f32⟩
  | .hbm, ⟨21, _⟩ => ⟨S32x1, .f32⟩
  | .hbm, ⟨22, _⟩ => ⟨S32x1, .f32⟩
  | .hbm, ⟨23, _⟩ => ⟨S32x3, .f32⟩
  | .hbm, ⟨24, _⟩ => ⟨S520x3x32x128, .bf16⟩
  | .hbm, ⟨25, _⟩ => ⟨S520x3x32x64x128, .fp8e4m3⟩
  | .hbm, ⟨26, _⟩ => ⟨S520x3x32x128, .f32⟩
  | .local _ .vmem, ⟨0, _⟩ => ⟨S1x32x64x128, .fp8e4m3⟩
  | .local _ .vmem, ⟨1, _⟩ => ⟨S1x32x64x128, .fp8e4m3⟩
  | .local _ .vmem, ⟨2, _⟩ => ⟨S1x32x128, .f32⟩
  | .local _ .vmem, ⟨3, _⟩ => ⟨S1x32x128, .f32⟩
  | .local _ .vmem, ⟨4, _⟩ => ⟨S1x3x32x128, .bf16⟩
  | .local _ .vmem, ⟨5, _⟩ => ⟨S1x3x32x128, .bf16⟩
  | .local _ .vmem, ⟨6, _⟩ => ⟨S3x32x520, .bf16⟩
  | .local _ .vmem, ⟨7, _⟩ => ⟨S3x64x520, .bf16⟩
  | .local _ .vmem, ⟨8, _⟩ => ⟨S3x64x520, .bf16⟩
  | .local _ .vmem, ⟨9, _⟩ => ⟨S3x520x128, .f32⟩
  | .local _ .vmem, ⟨10, _⟩ => ⟨S32x3, .f32⟩
  | .local _ .vmem, ⟨11, _⟩ => ⟨S1x3x32x128, .bf16⟩
  | .local _ .vmem, ⟨12, _⟩ => ⟨S1x3x32x128, .bf16⟩
  | .local _ .vmem, ⟨13, _⟩ => ⟨S1x3x32x64x128, .fp8e4m3⟩
  | .local _ .vmem, ⟨14, _⟩ => ⟨S1x3x32x64x128, .fp8e4m3⟩
  | .local _ .vmem, ⟨15, _⟩ => ⟨S1x3x32x128, .f32⟩
  | .local _ .vmem, ⟨16, _⟩ => ⟨S1x3x32x128, .f32⟩
  | .local _ .vmem, ⟨17, _⟩ => ⟨S352x640, .f32⟩
  | .local _ .vmem, ⟨18, _⟩ => ⟨S192x640, .f32⟩
  | .local _ .vmem, ⟨19, _⟩ => ⟨S8x640, .f32⟩
  | .local _ .vmem, ⟨20, _⟩ => ⟨S208x128, .bf16⟩
  | .local _ .vmem, ⟨21, _⟩ => ⟨S288x128, .f32⟩
  | .local _ .vmem, ⟨22, _⟩ => ⟨S32x192x128, .f32⟩
  | .local _ .vmem, ⟨23, _⟩ => ⟨S864x128, .f32⟩
  | .local _ .vmem, ⟨24, _⟩ => ⟨S288x128, .f32⟩
  | .local _ .vmem, ⟨25, _⟩ => ⟨S96x128, .f32⟩
  | .local _ .vmem, ⟨26, _⟩ => ⟨S96x128, .f32⟩
  | .local _ .vmem, ⟨27, _⟩ => ⟨S96x128, .f32⟩
  | .local _ .smem, ⟨0, _⟩ => ⟨S520, .i32⟩
  | _, _ => ⟨S520x3x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_arg9 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_scratch9 : Ref sig .tc := ⟨.vmem, 26, rfl⟩
abbrev cc0_scratch10 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [BitOps F]

abbrev grid0 : Pipeline.Grid := ⟨1, ![520], ![false]⟩

abbrev pre0 : Pipeline.Prefetch sig := ⟨1, ![main_arg9.idx], fun | 0 => main_arg9.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (i : grid0.Coords) : BitVec 32 :=
  let arg0 : BitVec 32 := BitVec.ofNat 32 (i 0).val
  let c128_i32 : BitVec 32 := 128#32
  let v3 : BitVec 32 := Scalar.remsi arg0 c128_i32
  let v4 : BitVec 32 := Scalar.subi arg0 v3
  v4
def k0_off2 (i : grid0.Coords) : Fin 2 → Nat :=
  let c0 : Index := 0#32
  let arg0 : BitVec 32 := BitVec.ofNat 32 (i 0).val
  let c128_i32 : BitVec 32 := 128#32
  let v3 : BitVec 32 := Scalar.remsi arg0 c128_i32
  let v4 : BitVec 32 := Scalar.subi arg0 v3
  let v5 : BitVec 32 := v4
  let v12 : Index := Scalar.indexCast v5
  ![0, v12.toNat]
def k0_off3 (i : grid0.Coords) : Fin 2 → Nat :=
  let c64 : Index := 64#32
  let arg0 : BitVec 32 := BitVec.ofNat 32 (i 0).val
  let c128_i32 : BitVec 32 := 128#32
  let v3 : BitVec 32 := Scalar.remsi arg0 c128_i32
  let v4 : BitVec 32 := Scalar.subi arg0 v3
  let v5 : BitVec 32 := v4
  let v23 : Index := Scalar.indexCast v5
  ![64, v23.toNat]
def k0_off4 (i : grid0.Coords) : Fin 2 → Nat :=
  let c128 : Index := 128#32
  let arg0 : BitVec 32 := BitVec.ofNat 32 (i 0).val
  let c128_i32 : BitVec 32 := 128#32
  let v3 : BitVec 32 := Scalar.remsi arg0 c128_i32
  let v4 : BitVec 32 := Scalar.subi arg0 v3
  let v5 : BitVec 32 := v4
  let v34 : Index := Scalar.indexCast v5
  ![128, v34.toNat]
def k0_off5 (i : grid0.Coords) : Fin 3 → Nat :=
  let c0_15 : Index := 0#32
  let arg0 : BitVec 32 := BitVec.ofNat 32 (i 0).val
  let v88 : Index := Scalar.indexCast arg0
  let c0_16 : Index := 0#32
  ![0, v88.toNat, 0]
def k0_off6 (i : grid0.Coords) : Fin 3 → Nat :=
  let c1 : Index := 1#32
  let arg0 : BitVec 32 := BitVec.ofNat 32 (i 0).val
  let v91 : Index := Scalar.indexCast arg0
  let c0_17 : Index := 0#32
  ![1, v91.toNat, 0]
def k0_off7 (i : grid0.Coords) : Fin 3 → Nat :=
  let c2 : Index := 2#32
  let arg0 : BitVec 32 := BitVec.ofNat 32 (i 0).val
  let v94 : Index := Scalar.indexCast arg0
  let c0_18 : Index := 0#32
  ![2, v94.toNat, 0]
def k0_off8 (i : grid0.Coords) : Fin 2 → Nat :=
  let c0_36 : Index := 0#32
  let arg0 : BitVec 32 := BitVec.ofNat 32 (i 0).val
  let c128_i32 : BitVec 32 := 128#32
  let v3 : BitVec 32 := Scalar.remsi arg0 c128_i32
  let v4 : BitVec 32 := Scalar.subi arg0 v3
  let v5 : BitVec 32 := v4
  let v114 : Index := Scalar.indexCast v5
  ![0, v114.toNat]
def k0_off9 (i : grid0.Coords) : Fin 2 → Nat :=
  let c32 : Index := 32#32
  let arg0 : BitVec 32 := BitVec.ofNat 32 (i 0).val
  let c128_i32 : BitVec 32 := 128#32
  let v3 : BitVec 32 := Scalar.remsi arg0 c128_i32
  let v4 : BitVec 32 := Scalar.subi arg0 v3
  let v5 : BitVec 32 := v4
  let v126 : Index := Scalar.indexCast v5
  ![32, v126.toNat]
def k0_off10 (i : grid0.Coords) : Fin 2 → Nat :=
  let c64_41 : Index := 64#32
  let arg0 : BitVec 32 := BitVec.ofNat 32 (i 0).val
  let c128_i32 : BitVec 32 := 128#32
  let v3 : BitVec 32 := Scalar.remsi arg0 c128_i32
  let v4 : BitVec 32 := Scalar.subi arg0 v3
  let v5 : BitVec 32 := v4
  let v138 : Index := Scalar.indexCast v5
  ![64, v138.toNat]
def k0_off11 (i : grid0.Coords) : Fin 2 → Nat :=
  let c96 : Index := 96#32
  let arg0 : BitVec 32 := BitVec.ofNat 32 (i 0).val
  let c128_i32 : BitVec 32 := 128#32
  let v3 : BitVec 32 := Scalar.remsi arg0 c128_i32
  let v4 : BitVec 32 := Scalar.subi arg0 v3
  let v5 : BitVec 32 := v4
  let v150 : Index := Scalar.indexCast v5
  ![96, v150.toNat]
def k0_off12 (i : grid0.Coords) : Fin 2 → Nat :=
  let c128_46 : Index := 128#32
  let arg0 : BitVec 32 := BitVec.ofNat 32 (i 0).val
  let c128_i32 : BitVec 32 := 128#32
  let v3 : BitVec 32 := Scalar.remsi arg0 c128_i32
  let v4 : BitVec 32 := Scalar.subi arg0 v3
  let v5 : BitVec 32 := v4
  let v162 : Index := Scalar.indexCast v5
  ![128, v162.toNat]
def k0_off13 (i : grid0.Coords) : Fin 2 → Nat :=
  let c160 : Index := 160#32
  let arg0 : BitVec 32 := BitVec.ofNat 32 (i 0).val
  let c128_i32 : BitVec 32 := 128#32
  let v3 : BitVec 32 := Scalar.remsi arg0 c128_i32
  let v4 : BitVec 32 := Scalar.subi arg0 v3
  let v5 : BitVec 32 := v4
  let v174 : Index := Scalar.indexCast v5
  ![160, v174.toNat]
def k0_off14 (i : grid0.Coords) : Fin 2 → Nat :=
  let c192_51 : Index := 192#32
  let arg0 : BitVec 32 := BitVec.ofNat 32 (i 0).val
  let c128_i32 : BitVec 32 := 128#32
  let v3 : BitVec 32 := Scalar.remsi arg0 c128_i32
  let v4 : BitVec 32 := Scalar.subi arg0 v3
  let v5 : BitVec 32 := v4
  let v186 : Index := Scalar.indexCast v5
  ![192, v186.toNat]
def k0_off15 (i : grid0.Coords) : Fin 2 → Nat :=
  let c224 : Index := 224#32
  let arg0 : BitVec 32 := BitVec.ofNat 32 (i 0).val
  let c128_i32 : BitVec 32 := 128#32
  let v3 : BitVec 32 := Scalar.remsi arg0 c128_i32
  let v4 : BitVec 32 := Scalar.subi arg0 v3
  let v5 : BitVec 32 := v4
  let v225 : Index := Scalar.indexCast v5
  ![224, v225.toNat]
def k0_off16 (i : grid0.Coords) : Fin 2 → Nat :=
  let c256 : Index := 256#32
  let arg0 : BitVec 32 := BitVec.ofNat 32 (i 0).val
  let c128_i32 : BitVec 32 := 128#32
  let v3 : BitVec 32 := Scalar.remsi arg0 c128_i32
  let v4 : BitVec 32 := Scalar.subi arg0 v3
  let v5 : BitVec 32 := v4
  let v283 : Index := Scalar.indexCast v5
  ![256, v283.toNat]
@[reducible] def k0_t1_loop : Scf.Loop 32 :=
  let c0_i32_99 : BitVec 32 := 0#32
  let c16_i32 : BitVec 32 := 16#32
  let v361 : BitVec 32 := Scalar.addi c0_i32_99 c16_i32
  let c1_i32_100 : BitVec 32 := 1#32
  ⟨c0_i32_99, v361, c1_i32_100⟩
def k0_off17 (k0_t1 : Fin k0_t1_loop.trips) : Fin 2 → Nat :=
  let c2_i32_597 : BitVec 32 := 2#32
  let c0_i32_99 : BitVec 32 := 0#32
  let c1_i32_100 : BitVec 32 := 1#32
  let arg24 : BitVec 32 := Scf.iv c0_i32_99 c1_i32_100 k0_t1
  let v1632 : BitVec 32 := Scalar.muli c2_i32_597 arg24
  let c9_i32 : BitVec 32 := 9#32
  let v1634 : BitVec 32 := Scalar.muli v1632 c9_i32
  let v1635 : Index := Scalar.indexCast v1634
  let c0_599 : Index := 0#32
  ![v1635.toNat, 0]
def k0_off18 (k0_t1 : Fin k0_t1_loop.trips) : Fin 4 → Nat :=
  let c0_602 : Index := 0#32
  let c2_i32_597 : BitVec 32 := 2#32
  let c0_i32_99 : BitVec 32 := 0#32
  let c1_i32_100 : BitVec 32 := 1#32
  let arg24 : BitVec 32 := Scf.iv c0_i32_99 c1_i32_100 k0_t1
  let v1632 : BitVec 32 := Scalar.muli c2_i32_597 arg24
  let v1652 : Index := Scalar.indexCast v1632
  let c0_603 : Index := 0#32
  let c0_604 : Index := 0#32
  ![0, v1652.toNat, 0, 0]
def k0_off19 (k0_t1 : Fin k0_t1_loop.trips) : Fin 2 → Nat :=
  let c2_i32_597 : BitVec 32 := 2#32
  let c0_i32_99 : BitVec 32 := 0#32
  let c1_i32_100 : BitVec 32 := 1#32
  let arg24 : BitVec 32 := Scf.iv c0_i32_99 c1_i32_100 k0_t1
  let v1632 : BitVec 32 := Scalar.muli c2_i32_597 arg24
  let c1_i32_598 : BitVec 32 := 1#32
  let v1633 : BitVec 32 := Scalar.addi v1632 c1_i32_598
  let c9_i32_606 : BitVec 32 := 9#32
  let v1658 : BitVec 32 := Scalar.muli v1633 c9_i32_606
  let v1659 : Index := Scalar.indexCast v1658
  let c0_607 : Index := 0#32
  ![v1659.toNat, 0]
def k0_off20 (k0_t1 : Fin k0_t1_loop.trips) : Fin 4 → Nat :=
  let c0_611 : Index := 0#32
  let c2_i32_597 : BitVec 32 := 2#32
  let c0_i32_99 : BitVec 32 := 0#32
  let c1_i32_100 : BitVec 32 := 1#32
  let arg24 : BitVec 32 := Scf.iv c0_i32_99 c1_i32_100 k0_t1
  let v1632 : BitVec 32 := Scalar.muli c2_i32_597 arg24
  let c1_i32_598 : BitVec 32 := 1#32
  let v1633 : BitVec 32 := Scalar.addi v1632 c1_i32_598
  let v1676 : Index := Scalar.indexCast v1633
  let c0_612 : Index := 0#32
  let c0_613 : Index := 0#32
  ![0, v1676.toNat, 0, 0]
def k0_off21 (k0_t1 : Fin k0_t1_loop.trips) : Fin 3 → Nat :=
  let c2_i32_597 : BitVec 32 := 2#32
  let c0_i32_99 : BitVec 32 := 0#32
  let c1_i32_100 : BitVec 32 := 1#32
  let arg24 : BitVec 32 := Scf.iv c0_i32_99 c1_i32_100 k0_t1
  let v1632 : BitVec 32 := Scalar.muli c2_i32_597 arg24
  let v1687 : Index := Scalar.indexCast v1632
  let c0_617 : Index := 0#32
  let c0_618 : Index := 0#32
  ![v1687.toNat, 0, 0]
def k0_off22 (k0_t1 : Fin k0_t1_loop.trips) (c0_i32_621 : BitVec 32) : Fin 2 → Nat :=
  let c2_i32_597 : BitVec 32 := 2#32
  let c0_i32_99 : BitVec 32 := 0#32
  let c1_i32_100 : BitVec 32 := 1#32
  let arg24 : BitVec 32 := Scf.iv c0_i32_99 c1_i32_100 k0_t1
  let v1632 : BitVec 32 := Scalar.muli c2_i32_597 arg24
  let v1720 : BitVec 32 := Scalar.addi c0_i32_621 v1632
  let c9_i32_622 : BitVec 32 := 9#32
  let v1721 : BitVec 32 := Scalar.muli v1720 c9_i32_622
  let v1722 : Index := Scalar.indexCast v1721
  let c0_623 : Index := 0#32
  ![v1722.toNat, 0]
def k0_off23 (k0_t1 : Fin k0_t1_loop.trips) : Fin 3 → Nat :=
  let c2_i32_597 : BitVec 32 := 2#32
  let c0_i32_99 : BitVec 32 := 0#32
  let c1_i32_100 : BitVec 32 := 1#32
  let arg24 : BitVec 32 := Scf.iv c0_i32_99 c1_i32_100 k0_t1
  let v1632 : BitVec 32 := Scalar.muli c2_i32_597 arg24
  let c1_i32_616 : BitVec 32 := 1#32
  let v1684 : BitVec 32 := Scalar.addi v1632 c1_i32_616
  let v1786 : Index := Scalar.indexCast v1684
  let c0_630 : Index := 0#32
  let c0_631 : Index := 0#32
  ![v1786.toNat, 0, 0]
def k0_off24 (k0_t1 : Fin k0_t1_loop.trips) (c0_i32_634 : BitVec 32) : Fin 2 → Nat :=
  let c2_i32_597 : BitVec 32 := 2#32
  let c0_i32_99 : BitVec 32 := 0#32
  let c1_i32_100 : BitVec 32 := 1#32
  let arg24 : BitVec 32 := Scf.iv c0_i32_99 c1_i32_100 k0_t1
  let v1632 : BitVec 32 := Scalar.muli c2_i32_597 arg24
  let c1_i32_616 : BitVec 32 := 1#32
  let v1684 : BitVec 32 := Scalar.addi v1632 c1_i32_616
  let v1819 : BitVec 32 := Scalar.addi c0_i32_634 v1684
  let c9_i32_635 : BitVec 32 := 9#32
  let v1820 : BitVec 32 := Scalar.muli v1819 c9_i32_635
  let v1821 : Index := Scalar.indexCast v1820
  let c0_636 : Index := 0#32
  ![v1821.toNat, 0]
def k0_off25 (i : grid0.Coords) : Fin 2 → Nat :=
  let c0_102 : Index := 0#32
  let arg0 : BitVec 32 := BitVec.ofNat 32 (i 0).val
  let c128_i32 : BitVec 32 := 128#32
  let v3 : BitVec 32 := Scalar.remsi arg0 c128_i32
  let v4 : BitVec 32 := Scalar.subi arg0 v3
  let v5 : BitVec 32 := v4
  let v362 : Index := Scalar.indexCast v5
  ![0, v362.toNat]
@[reducible] def k0_t2_loop : Scf.Loop 32 :=
  let c0_i32_591 : BitVec 32 := 0#32
  let c32_i32 : BitVec 32 := 32#32
  let v1624 : BitVec 32 := Scalar.addi c0_i32_591 c32_i32
  let c1_i32_592 : BitVec 32 := 1#32
  ⟨c0_i32_591, v1624, c1_i32_592⟩
def k0_off26 (k0_t2 : Fin k0_t2_loop.trips) (c0_i32_597 : BitVec 32) : Fin 2 → Nat :=
  let c0_i32_591 : BitVec 32 := 0#32
  let c1_i32_592 : BitVec 32 := 1#32
  let arg24 : BitVec 32 := Scf.iv c0_i32_591 c1_i32_592 k0_t2
  let v1632 : BitVec 32 := Scalar.addi c0_i32_597 arg24
  let v1633 : Index := Scalar.indexCast v1632
  let c0_598 : Index := 0#32
  ![v1633.toNat, 0]
def k0_off27 (k0_t2 : Fin k0_t2_loop.trips) : Fin 3 → Nat :=
  let c0_i32_591 : BitVec 32 := 0#32
  let c1_i32_592 : BitVec 32 := 1#32
  let arg24 : BitVec 32 := Scf.iv c0_i32_591 c1_i32_592 k0_t2
  let v1637 : Index := Scalar.indexCast arg24
  let c0_599 : Index := 0#32
  let c0_600 : Index := 0#32
  ![v1637.toNat, 0, 0]
def k0_off28 (k0_t2 : Fin k0_t2_loop.trips) : Fin 3 → Nat :=
  let c0_i32_591 : BitVec 32 := 0#32
  let c1_i32_592 : BitVec 32 := 1#32
  let arg24 : BitVec 32 := Scf.iv c0_i32_591 c1_i32_592 k0_t2
  let v1641 : Index := Scalar.indexCast arg24
  let c8_601 : Index := 8#32
  let c0_602 : Index := 0#32
  ![v1641.toNat, 8, 0]
def k0_off29 (k0_t2 : Fin k0_t2_loop.trips) : Fin 3 → Nat :=
  let c0_i32_591 : BitVec 32 := 0#32
  let c1_i32_592 : BitVec 32 := 1#32
  let arg24 : BitVec 32 := Scf.iv c0_i32_591 c1_i32_592 k0_t2
  let v1645 : Index := Scalar.indexCast arg24
  let c16_603 : Index := 16#32
  let c0_604 : Index := 0#32
  ![v1645.toNat, 16, 0]
def k0_off30 (k0_t2 : Fin k0_t2_loop.trips) : Fin 3 → Nat :=
  let c0_i32_591 : BitVec 32 := 0#32
  let c1_i32_592 : BitVec 32 := 1#32
  let arg24 : BitVec 32 := Scf.iv c0_i32_591 c1_i32_592 k0_t2
  let v1649 : Index := Scalar.indexCast arg24
  let c24_605 : Index := 24#32
  let c0_606 : Index := 0#32
  ![v1649.toNat, 24, 0]
def k0_off31 (k0_t2 : Fin k0_t2_loop.trips) : Fin 3 → Nat :=
  let c0_i32_591 : BitVec 32 := 0#32
  let c1_i32_592 : BitVec 32 := 1#32
  let arg24 : BitVec 32 := Scf.iv c0_i32_591 c1_i32_592 k0_t2
  let v1653 : Index := Scalar.indexCast arg24
  let c32_607 : Index := 32#32
  let c0_608 : Index := 0#32
  ![v1653.toNat, 32, 0]
def k0_off32 (k0_t2 : Fin k0_t2_loop.trips) : Fin 3 → Nat :=
  let c0_i32_591 : BitVec 32 := 0#32
  let c1_i32_592 : BitVec 32 := 1#32
  let arg24 : BitVec 32 := Scf.iv c0_i32_591 c1_i32_592 k0_t2
  let v1657 : Index := Scalar.indexCast arg24
  let c40_609 : Index := 40#32
  let c0_610 : Index := 0#32
  ![v1657.toNat, 40, 0]
def k0_off33 (k0_t2 : Fin k0_t2_loop.trips) : Fin 3 → Nat :=
  let c0_i32_591 : BitVec 32 := 0#32
  let c1_i32_592 : BitVec 32 := 1#32
  let arg24 : BitVec 32 := Scf.iv c0_i32_591 c1_i32_592 k0_t2
  let v1661 : Index := Scalar.indexCast arg24
  let c48_611 : Index := 48#32
  let c0_612 : Index := 0#32
  ![v1661.toNat, 48, 0]
def k0_off34 (k0_t2 : Fin k0_t2_loop.trips) : Fin 3 → Nat :=
  let c0_i32_591 : BitVec 32 := 0#32
  let c1_i32_592 : BitVec 32 := 1#32
  let arg24 : BitVec 32 := Scf.iv c0_i32_591 c1_i32_592 k0_t2
  let v1665 : Index := Scalar.indexCast arg24
  let c56_613 : Index := 56#32
  let c0_614 : Index := 0#32
  ![v1665.toNat, 56, 0]
def k0_off35 (k0_t2 : Fin k0_t2_loop.trips) : Fin 5 → Nat :=
  let c0_615 : Index := 0#32
  let c0_616 : Index := 0#32
  let c0_i32_591 : BitVec 32 := 0#32
  let c1_i32_592 : BitVec 32 := 1#32
  let arg24 : BitVec 32 := Scf.iv c0_i32_591 c1_i32_592 k0_t2
  let v1671 : Index := Scalar.indexCast arg24
  let c0_617 : Index := 0#32
  let c0_618 : Index := 0#32
  ![0, 0, v1671.toNat, 0, 0]
def k0_off36 (k0_t2 : Fin k0_t2_loop.trips) : Fin 3 → Nat :=
  let c0_i32_591 : BitVec 32 := 0#32
  let c1_i32_592 : BitVec 32 := 1#32
  let arg24 : BitVec 32 := Scf.iv c0_i32_591 c1_i32_592 k0_t2
  let v1680 : Index := Scalar.indexCast arg24
  let c64_621 : Index := 64#32
  let c0_622 : Index := 0#32
  ![v1680.toNat, 64, 0]
def k0_off37 (k0_t2 : Fin k0_t2_loop.trips) : Fin 3 → Nat :=
  let c0_i32_591 : BitVec 32 := 0#32
  let c1_i32_592 : BitVec 32 := 1#32
  let arg24 : BitVec 32 := Scf.iv c0_i32_591 c1_i32_592 k0_t2
  let v1684 : Index := Scalar.indexCast arg24
  let c72_623 : Index := 72#32
  let c0_624 : Index := 0#32
  ![v1684.toNat, 72, 0]
def k0_off38 (k0_t2 : Fin k0_t2_loop.trips) : Fin 3 → Nat :=
  let c0_i32_591 : BitVec 32 := 0#32
  let c1_i32_592 : BitVec 32 := 1#32
  let arg24 : BitVec 32 := Scf.iv c0_i32_591 c1_i32_592 k0_t2
  let v1688 : Index := Scalar.indexCast arg24
  let c80_625 : Index := 80#32
  let c0_626 : Index := 0#32
  ![v1688.toNat, 80, 0]
def k0_off39 (k0_t2 : Fin k0_t2_loop.trips) : Fin 3 → Nat :=
  let c0_i32_591 : BitVec 32 := 0#32
  let c1_i32_592 : BitVec 32 := 1#32
  let arg24 : BitVec 32 := Scf.iv c0_i32_591 c1_i32_592 k0_t2
  let v1692 : Index := Scalar.indexCast arg24
  let c88_627 : Index := 88#32
  let c0_628 : Index := 0#32
  ![v1692.toNat, 88, 0]
def k0_off40 (k0_t2 : Fin k0_t2_loop.trips) : Fin 3 → Nat :=
  let c0_i32_591 : BitVec 32 := 0#32
  let c1_i32_592 : BitVec 32 := 1#32
  let arg24 : BitVec 32 := Scf.iv c0_i32_591 c1_i32_592 k0_t2
  let v1696 : Index := Scalar.indexCast arg24
  let c96_629 : Index := 96#32
  let c0_630 : Index := 0#32
  ![v1696.toNat, 96, 0]
def k0_off41 (k0_t2 : Fin k0_t2_loop.trips) : Fin 3 → Nat :=
  let c0_i32_591 : BitVec 32 := 0#32
  let c1_i32_592 : BitVec 32 := 1#32
  let arg24 : BitVec 32 := Scf.iv c0_i32_591 c1_i32_592 k0_t2
  let v1700 : Index := Scalar.indexCast arg24
  let c104 : Index := 104#32
  let c0_631 : Index := 0#32
  ![v1700.toNat, 104, 0]
def k0_off42 (k0_t2 : Fin k0_t2_loop.trips) : Fin 3 → Nat :=
  let c0_i32_591 : BitVec 32 := 0#32
  let c1_i32_592 : BitVec 32 := 1#32
  let arg24 : BitVec 32 := Scf.iv c0_i32_591 c1_i32_592 k0_t2
  let v1704 : Index := Scalar.indexCast arg24
  let c112 : Index := 112#32
  let c0_632 : Index := 0#32
  ![v1704.toNat, 112, 0]
def k0_off43 (k0_t2 : Fin k0_t2_loop.trips) : Fin 3 → Nat :=
  let c0_i32_591 : BitVec 32 := 0#32
  let c1_i32_592 : BitVec 32 := 1#32
  let arg24 : BitVec 32 := Scf.iv c0_i32_591 c1_i32_592 k0_t2
  let v1708 : Index := Scalar.indexCast arg24
  let c120 : Index := 120#32
  let c0_633 : Index := 0#32
  ![v1708.toNat, 120, 0]
def k0_off44 (k0_t2 : Fin k0_t2_loop.trips) : Fin 5 → Nat :=
  let c0_634 : Index := 0#32
  let c1_635 : Index := 1#32
  let c0_i32_591 : BitVec 32 := 0#32
  let c1_i32_592 : BitVec 32 := 1#32
  let arg24 : BitVec 32 := Scf.iv c0_i32_591 c1_i32_592 k0_t2
  let v1714 : Index := Scalar.indexCast arg24
  let c0_636 : Index := 0#32
  let c0_637 : Index := 0#32
  ![0, 1, v1714.toNat, 0, 0]
def k0_off45 (k0_t2 : Fin k0_t2_loop.trips) : Fin 3 → Nat :=
  let c0_i32_591 : BitVec 32 := 0#32
  let c1_i32_592 : BitVec 32 := 1#32
  let arg24 : BitVec 32 := Scf.iv c0_i32_591 c1_i32_592 k0_t2
  let v1723 : Index := Scalar.indexCast arg24
  let c128_640 : Index := 128#32
  let c0_641 : Index := 0#32
  ![v1723.toNat, 128, 0]
def k0_off46 (k0_t2 : Fin k0_t2_loop.trips) : Fin 3 → Nat :=
  let c0_i32_591 : BitVec 32 := 0#32
  let c1_i32_592 : BitVec 32 := 1#32
  let arg24 : BitVec 32 := Scf.iv c0_i32_591 c1_i32_592 k0_t2
  let v1727 : Index := Scalar.indexCast arg24
  let c136 : Index := 136#32
  let c0_642 : Index := 0#32
  ![v1727.toNat, 136, 0]
def k0_off47 (k0_t2 : Fin k0_t2_loop.trips) : Fin 3 → Nat :=
  let c0_i32_591 : BitVec 32 := 0#32
  let c1_i32_592 : BitVec 32 := 1#32
  let arg24 : BitVec 32 := Scf.iv c0_i32_591 c1_i32_592 k0_t2
  let v1731 : Index := Scalar.indexCast arg24
  let c144_643 : Index := 144#32
  let c0_644 : Index := 0#32
  ![v1731.toNat, 144, 0]
def k0_off48 (k0_t2 : Fin k0_t2_loop.trips) : Fin 3 → Nat :=
  let c0_i32_591 : BitVec 32 := 0#32
  let c1_i32_592 : BitVec 32 := 1#32
  let arg24 : BitVec 32 := Scf.iv c0_i32_591 c1_i32_592 k0_t2
  let v1735 : Index := Scalar.indexCast arg24
  let c152 : Index := 152#32
  let c0_645 : Index := 0#32
  ![v1735.toNat, 152, 0]
def k0_off49 (k0_t2 : Fin k0_t2_loop.trips) : Fin 3 → Nat :=
  let c0_i32_591 : BitVec 32 := 0#32
  let c1_i32_592 : BitVec 32 := 1#32
  let arg24 : BitVec 32 := Scf.iv c0_i32_591 c1_i32_592 k0_t2
  let v1739 : Index := Scalar.indexCast arg24
  let c160_646 : Index := 160#32
  let c0_647 : Index := 0#32
  ![v1739.toNat, 160, 0]
def k0_off50 (k0_t2 : Fin k0_t2_loop.trips) : Fin 3 → Nat :=
  let c0_i32_591 : BitVec 32 := 0#32
  let c1_i32_592 : BitVec 32 := 1#32
  let arg24 : BitVec 32 := Scf.iv c0_i32_591 c1_i32_592 k0_t2
  let v1743 : Index := Scalar.indexCast arg24
  let c168 : Index := 168#32
  let c0_648 : Index := 0#32
  ![v1743.toNat, 168, 0]
def k0_off51 (k0_t2 : Fin k0_t2_loop.trips) : Fin 3 → Nat :=
  let c0_i32_591 : BitVec 32 := 0#32
  let c1_i32_592 : BitVec 32 := 1#32
  let arg24 : BitVec 32 := Scf.iv c0_i32_591 c1_i32_592 k0_t2
  let v1747 : Index := Scalar.indexCast arg24
  let c176 : Index := 176#32
  let c0_649 : Index := 0#32
  ![v1747.toNat, 176, 0]
def k0_off52 (k0_t2 : Fin k0_t2_loop.trips) : Fin 3 → Nat :=
  let c0_i32_591 : BitVec 32 := 0#32
  let c1_i32_592 : BitVec 32 := 1#32
  let arg24 : BitVec 32 := Scf.iv c0_i32_591 c1_i32_592 k0_t2
  let v1751 : Index := Scalar.indexCast arg24
  let c184 : Index := 184#32
  let c0_650 : Index := 0#32
  ![v1751.toNat, 184, 0]
def k0_off53 (k0_t2 : Fin k0_t2_loop.trips) : Fin 5 → Nat :=
  let c0_651 : Index := 0#32
  let c2_652 : Index := 2#32
  let c0_i32_591 : BitVec 32 := 0#32
  let c1_i32_592 : BitVec 32 := 1#32
  let arg24 : BitVec 32 := Scf.iv c0_i32_591 c1_i32_592 k0_t2
  let v1757 : Index := Scalar.indexCast arg24
  let c0_653 : Index := 0#32
  let c0_654 : Index := 0#32
  ![0, 2, v1757.toNat, 0, 0]
def k0_off54 (i : grid0.Coords) : Fin 2 → Nat :=
  let c0_597 : Index := 0#32
  let arg0 : BitVec 32 := BitVec.ofNat 32 (i 0).val
  let c128_i32 : BitVec 32 := 128#32
  let v3 : BitVec 32 := Scalar.remsi arg0 c128_i32
  let v4 : BitVec 32 := Scalar.subi arg0 v3
  let v5 : BitVec 32 := v4
  let v1632 : Index := Scalar.indexCast v5
  ![0, v1632.toNat]
def k0_off55 (i : grid0.Coords) : Fin 2 → Nat :=
  let c192_606 : Index := 192#32
  let arg0 : BitVec 32 := BitVec.ofNat 32 (i 0).val
  let c128_i32 : BitVec 32 := 128#32
  let v3 : BitVec 32 := Scalar.remsi arg0 c128_i32
  let v4 : BitVec 32 := Scalar.subi arg0 v3
  let v5 : BitVec 32 := v4
  let v1650 : Index := Scalar.indexCast v5
  ![192, v1650.toNat]
def k0_off56 (i : grid0.Coords) : Fin 2 → Nat :=
  let c64_611 : Index := 64#32
  let arg0 : BitVec 32 := BitVec.ofNat 32 (i 0).val
  let c128_i32 : BitVec 32 := 128#32
  let v3 : BitVec 32 := Scalar.remsi arg0 c128_i32
  let v4 : BitVec 32 := Scalar.subi arg0 v3
  let v5 : BitVec 32 := v4
  let v1664 : Index := Scalar.indexCast v5
  ![64, v1664.toNat]
def k0_off57 (i : grid0.Coords) : Fin 2 → Nat :=
  let c288_620 : Index := 288#32
  let arg0 : BitVec 32 := BitVec.ofNat 32 (i 0).val
  let c128_i32 : BitVec 32 := 128#32
  let v3 : BitVec 32 := Scalar.remsi arg0 c128_i32
  let v4 : BitVec 32 := Scalar.subi arg0 v3
  let v5 : BitVec 32 := v4
  let v1682 : Index := Scalar.indexCast v5
  ![288, v1682.toNat]
def k0_off58 (i : grid0.Coords) : Fin 2 → Nat :=
  let c160_625 : Index := 160#32
  let arg0 : BitVec 32 := BitVec.ofNat 32 (i 0).val
  let c128_i32 : BitVec 32 := 128#32
  let v3 : BitVec 32 := Scalar.remsi arg0 c128_i32
  let v4 : BitVec 32 := Scalar.subi arg0 v3
  let v5 : BitVec 32 := v4
  let v1696 : Index := Scalar.indexCast v5
  ![160, v1696.toNat]
def k0_off59 (i : grid0.Coords) : Fin 2 → Nat :=
  let c320 : Index := 320#32
  let arg0 : BitVec 32 := BitVec.ofNat 32 (i 0).val
  let c128_i32 : BitVec 32 := 128#32
  let v3 : BitVec 32 := Scalar.remsi arg0 c128_i32
  let v4 : BitVec 32 := Scalar.subi arg0 v3
  let v5 : BitVec 32 := v4
  let v1714 : Index := Scalar.indexCast v5
  ![320, v1714.toNat]
def k0_off60 (i : grid0.Coords) : Fin 2 → Nat :=
  let c0_638 : Index := 0#32
  let arg0 : BitVec 32 := BitVec.ofNat 32 (i 0).val
  let c128_i32 : BitVec 32 := 128#32
  let v3 : BitVec 32 := Scalar.remsi arg0 c128_i32
  let v4 : BitVec 32 := Scalar.subi arg0 v3
  let v5 : BitVec 32 := v4
  let v1728 : Index := Scalar.indexCast v5
  ![0, v1728.toNat]
def k0_off61 (i : grid0.Coords) : Fin 2 → Nat :=
  let c64_641 : Index := 64#32
  let arg0 : BitVec 32 := BitVec.ofNat 32 (i 0).val
  let c128_i32 : BitVec 32 := 128#32
  let v3 : BitVec 32 := Scalar.remsi arg0 c128_i32
  let v4 : BitVec 32 := Scalar.subi arg0 v3
  let v5 : BitVec 32 := v4
  let v1739 : Index := Scalar.indexCast v5
  ![64, v1739.toNat]
def k0_off62 (i : grid0.Coords) : Fin 2 → Nat :=
  let c128_644 : Index := 128#32
  let arg0 : BitVec 32 := BitVec.ofNat 32 (i 0).val
  let c128_i32 : BitVec 32 := 128#32
  let v3 : BitVec 32 := Scalar.remsi arg0 c128_i32
  let v4 : BitVec 32 := Scalar.subi arg0 v3
  let v5 : BitVec 32 := v4
  let v1750 : Index := Scalar.indexCast v5
  ![128, v1750.toNat]
@[reducible] def k0_t3_loop : Scf.Loop 32 :=
  let c0_i32_647 : BitVec 32 := 0#32
  let c32_i32_648 : BitVec 32 := 32#32
  let v1761 : BitVec 32 := Scalar.addi c0_i32_647 c32_i32_648
  let c1_i32_649 : BitVec 32 := 1#32
  ⟨c0_i32_647, v1761, c1_i32_649⟩
def k0_off63 (k0_t3 : Fin k0_t3_loop.trips) : Fin 4 → Nat :=
  let c0_651 : Index := 0#32
  let c0_i32_647 : BitVec 32 := 0#32
  let c1_i32_649 : BitVec 32 := 1#32
  let arg24 : BitVec 32 := Scf.iv c0_i32_647 c1_i32_649 k0_t3
  let v1762 : Index := Scalar.indexCast arg24
  let c0_652 : Index := 0#32
  let c0_653 : Index := 0#32
  ![0, v1762.toNat, 0, 0]
def k0_off64 (k0_t3 : Fin k0_t3_loop.trips) : Fin 3 → Nat :=
  let c0_654 : Index := 0#32
  let c0_i32_647 : BitVec 32 := 0#32
  let c1_i32_649 : BitVec 32 := 1#32
  let arg24 : BitVec 32 := Scf.iv c0_i32_647 c1_i32_649 k0_t3
  let v1766 : Index := Scalar.indexCast arg24
  let c0_655 : Index := 0#32
  ![0, v1766.toNat, 0]
def k0_off65 (k0_t3 : Fin k0_t3_loop.trips) (c0_i32_656 : BitVec 32) : Fin 2 → Nat :=
  let c0_i32_647 : BitVec 32 := 0#32
  let c1_i32_649 : BitVec 32 := 1#32
  let arg24 : BitVec 32 := Scf.iv c0_i32_647 c1_i32_649 k0_t3
  let v1771 : BitVec 32 := Scalar.addi c0_i32_656 arg24
  let v1772 : Index := Scalar.indexCast v1771
  let c0_657 : Index := 0#32
  ![v1772.toNat, 0]
def k0_off66 (k0_t3 : Fin k0_t3_loop.trips) : Fin 4 → Nat :=
  let c0_676 : Index := 0#32
  let c0_677 : Index := 0#32
  let c0_i32_647 : BitVec 32 := 0#32
  let c1_i32_649 : BitVec 32 := 1#32
  let arg24 : BitVec 32 := Scf.iv c0_i32_647 c1_i32_649 k0_t3
  let v1834 : Index := Scalar.indexCast arg24
  let c0_678 : Index := 0#32
  ![0, 0, v1834.toNat, 0]
def k0_off67 (k0_t3 : Fin k0_t3_loop.trips) : Fin 5 → Nat :=
  let c0_681 : Index := 0#32
  let c0_682 : Index := 0#32
  let c0_i32_647 : BitVec 32 := 0#32
  let c1_i32_649 : BitVec 32 := 1#32
  let arg24 : BitVec 32 := Scf.iv c0_i32_647 c1_i32_649 k0_t3
  let v1846 : Index := Scalar.indexCast arg24
  let c0_683 : Index := 0#32
  let c0_684 : Index := 0#32
  ![0, 0, v1846.toNat, 0, 0]
def k0_off68 (k0_t3 : Fin k0_t3_loop.trips) : Fin 4 → Nat :=
  let c0_705 : Index := 0#32
  let c1_706 : Index := 1#32
  let c0_i32_647 : BitVec 32 := 0#32
  let c1_i32_649 : BitVec 32 := 1#32
  let arg24 : BitVec 32 := Scf.iv c0_i32_647 c1_i32_649 k0_t3
  let v1913 : Index := Scalar.indexCast arg24
  let c0_707 : Index := 0#32
  ![0, 1, v1913.toNat, 0]
def k0_off69 (k0_t3 : Fin k0_t3_loop.trips) : Fin 5 → Nat :=
  let c0_710 : Index := 0#32
  let c1_711 : Index := 1#32
  let c0_i32_647 : BitVec 32 := 0#32
  let c1_i32_649 : BitVec 32 := 1#32
  let arg24 : BitVec 32 := Scf.iv c0_i32_647 c1_i32_649 k0_t3
  let v1925 : Index := Scalar.indexCast arg24
  let c0_712 : Index := 0#32
  let c0_713 : Index := 0#32
  ![0, 1, v1925.toNat, 0, 0]
def k0_off70 (k0_t3 : Fin k0_t3_loop.trips) : Fin 4 → Nat :=
  let c0_734 : Index := 0#32
  let c2_735 : Index := 2#32
  let c0_i32_647 : BitVec 32 := 0#32
  let c1_i32_649 : BitVec 32 := 1#32
  let arg24 : BitVec 32 := Scf.iv c0_i32_647 c1_i32_649 k0_t3
  let v1992 : Index := Scalar.indexCast arg24
  let c0_736 : Index := 0#32
  ![0, 2, v1992.toNat, 0]
def k0_off71 (k0_t3 : Fin k0_t3_loop.trips) : Fin 5 → Nat :=
  let c0_739 : Index := 0#32
  let c2_740 : Index := 2#32
  let c0_i32_647 : BitVec 32 := 0#32
  let c1_i32_649 : BitVec 32 := 1#32
  let arg24 : BitVec 32 := Scf.iv c0_i32_647 c1_i32_649 k0_t3
  let v2004 : Index := Scalar.indexCast arg24
  let c0_741 : Index := 0#32
  let c0_742 : Index := 0#32
  ![0, 2, v2004.toNat, 0, 0]
def cc0_transform_0 (k0_off1_inb : ∀ i : grid0.Coords, ∀ a, (k0_off1 i) a + S1.size a ≤ S520.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S520) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (k0_off1_inb : ∀ i : grid0.Coords, ∀ a, (k0_off1 i) a + S1.size a ≤ S520.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S520) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x64x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x32x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x32x520 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64x520 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x64x520 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x520x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x3x32x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x3x32x64x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x3x32x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F]
-- ==== ReferenceIdeal.lean ====
abbrev S520x3x32x128 : Shape := ⟨4, ![520, 3, 32, 128]⟩
abbrev S520x3x32 : Shape := ⟨3, ![520, 3, 32]⟩
abbrev S32 : Shape := ⟨1, ![32]⟩
abbrev S520x3x1x64 : Shape := ⟨4, ![520, 3, 1, 64]⟩
abbrev S653x32x128x64 : Shape := ⟨4, ![653, 32, 128, 64]⟩
abbrev S653x32x128 : Shape := ⟨3, ![653, 32, 128]⟩
abbrev S520 : Shape := ⟨1, ![520]⟩
abbrev S_ : Shape := ⟨0, ![]⟩
abbrev S520x1 : Shape := ⟨2, ![520, 1]⟩
abbrev S520x32x128x64 : Shape := ⟨4, ![520, 32, 128, 64]⟩
abbrev S520x32x128 : Shape := ⟨3, ![520, 32, 128]⟩
abbrev S520x32x128x1 : Shape := ⟨4, ![520, 32, 128, 1]⟩
abbrev S520x1x32x128 : Shape := ⟨4, ![520, 1, 32, 128]⟩
abbrev S520x1x32 : Shape := ⟨3, ![520, 1, 32]⟩
abbrev S520x32 : Shape := ⟨2, ![520, 32]⟩
abbrev S1x32 : Shape := ⟨2, ![1, 32]⟩
abbrev S520x1x1x64 : Shape := ⟨4, ![520, 1, 1, 64]⟩
abbrev S520x1x64 : Shape := ⟨3, ![520, 1, 64]⟩
abbrev S520x32x1x1 : Shape := ⟨4, ![520, 32, 1, 1]⟩
abbrev S520x32x1 : Shape := ⟨3, ![520, 32, 1]⟩
abbrev S1x32x1 : Shape := ⟨3, ![1, 32, 1]⟩

abbrev nBuf : Space → Nat
  | .hbm => 29
  | .vmem => 10
  | .smem => 0
  | _ => 0

abbrev bufTy : (tb : Table) → Fin (tcTables nBuf tb) → BufTy
  | .hbm, ⟨0, _⟩ => ⟨S520x3x32x128, .bf16⟩
  | .hbm, ⟨1, _⟩ => ⟨S520x3x32, .bf16⟩
  | .hbm, ⟨2, _⟩ => ⟨S32, .f32⟩
  | .hbm, ⟨3, _⟩ => ⟨S32, .f32⟩
  | .hbm, ⟨4, _⟩ => ⟨S520x3x1x64, .bf16⟩
  | .hbm, ⟨5, _⟩ => ⟨S520x3x1x64, .bf16⟩
  | .hbm, ⟨6, _⟩ => ⟨S32, .f32⟩
  | .hbm, ⟨7, _⟩ => ⟨S653x32x128x64, .fp8e4m3⟩
  | .hbm, ⟨8, _⟩ => ⟨S653x32x128, .f32⟩
  | .hbm, ⟨9, _⟩ => ⟨S520, .i32⟩
  | .hbm, ⟨10, _⟩ => ⟨S_, .i32⟩
  | .hbm, ⟨11, _⟩ => ⟨S520, .i32⟩
  | .hbm, ⟨12, _⟩ => ⟨S520, .i1⟩
  | .hbm, ⟨13, _⟩ => ⟨S_, .i32⟩
  | .hbm, ⟨14, _⟩ => ⟨S520, .i32⟩
  | .hbm, ⟨15, _⟩ => ⟨S520, .i32⟩
  | .hbm, ⟨16, _⟩ => ⟨S520, .i32⟩
  | .hbm, ⟨17, _⟩ => ⟨S520x1, .i32⟩
  | .hbm, ⟨18, _⟩ => ⟨S520x32x128x64, .fp8e4m3⟩
  | .hbm, ⟨19, _⟩ => ⟨S_, .i32⟩
  | .hbm, ⟨20, _⟩ => ⟨S520, .i32⟩
  | .hbm, ⟨21, _⟩ => ⟨S520, .i1⟩
  | .hbm, ⟨22, _⟩ => ⟨S_, .i32⟩
  | .hbm, ⟨23, _⟩ => ⟨S520, .i32⟩
  | .hbm, ⟨24, _⟩ => ⟨S520, .i32⟩
  | .hbm, ⟨25, _⟩ => ⟨S520, .i32⟩
  | .hbm, ⟨26, _⟩ => ⟨S520x1, .i32⟩
  | .hbm, ⟨27, _⟩ => ⟨S520x32x128, .f32⟩
  | .hbm, ⟨28, _⟩ => ⟨S520x3x32x128, .bf16⟩
  | .local _ .vmem, ⟨0, _⟩ => ⟨S520x3x32x128, .bf16⟩
  | .local _ .vmem, ⟨1, _⟩ => ⟨S520x3x32, .bf16⟩
  | .local _ .vmem, ⟨2, _⟩ => ⟨S32, .f32⟩
  | .local _ .vmem, ⟨3, _⟩ => ⟨S32, .f32⟩
  | .local _ .vmem, ⟨4, _⟩ => ⟨S520x3x1x64, .bf16⟩
  | .local _ .vmem, ⟨5, _⟩ => ⟨S520x3x1x64, .bf16⟩
  | .local _ .vmem, ⟨6, _⟩ => ⟨S32, .f32⟩
  | .local _ .vmem, ⟨7, _⟩ => ⟨S520x32x128x64, .fp8e4m3⟩
  | .local _ .vmem, ⟨8, _⟩ => ⟨S520x32x128, .f32⟩
  | .local _ .vmem, ⟨9, _⟩ => ⟨S520x3x32x128, .bf16⟩
  | _, _ => ⟨S520x3x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S520x3x32x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S520x3x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S520x3x1x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S520x3x1x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S520x32x128x64 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S520x32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S520x3x32x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KitK.lean ====
/- The launch of the kernel: the arrays when the pipelined region is entered, the prefetched table read off the launch
   memory, the blocks each window holds at a point, and the frame claim read off a run of the region. -/
module

public import proofs.«01_k».proof.Proof.Gen.Kernel.Launch
public import Idealize.ShloMosaic.Lib.Pipeline.Kit
public import Idealize.ShloMosaic.Lib.Claim
public import Idealize.ShloMosaic.Lib.WordCmp
public import Idealize.ShloMosaic.Lib.Pipeline.FrameBody
public import Idealize.ShloMosaic.Lib.Tactic
public import Idealize.ShloMosaic.Lib.Ring

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_ssm_spec_decode (grid0.coords t) (Memref.whole main_arg9) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S520 .i32 := Memref.whole main_arg9
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePost.arr_in h c 2 rfl).trans ((hA c 2).trans (V_main_arg0 m c)),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      (Pipeline.RDat.FramePost.arr_in h c 1 rfl).trans ((hA c 1).trans (V_main_arg8 m c)),
      ((h c).2 main_arg9 (by decide : main_arg9 ∈ Pipeline.restRefs sig spec0)).trans (V_main_arg9 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x32x64x128 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x32x128 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x3x32x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S3x32x520 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S3x64x520 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S3x64x520 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S3x520x128 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S32x3 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x3x32x128 .bf16 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x3x32x64x128 .fp8e4m3 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x3x32x128 .f32 := spec0_10.stage ((cfgM m hO).slots t 10)
abbrev hs0_10 (hO : Ok m) (t : Fin (cfgM m hO).N) : (ms0_10 m hO t).IsWhole := hstage0_10 (((cfgM m hO).slots t 10).cast nbuf0_10)
/-- The scratch operands: whole scoped buffers of the kernel's own, passed beside the windows. -/
abbrev scM0_0 : Memref sig .tc .vmem S352x640 .f32 := Memref.whole cc0_scratch0
abbrev scM0_1 : Memref sig .tc .vmem S192x640 .f32 := Memref.whole cc0_scratch1
abbrev scM0_2 : Memref sig .tc .vmem S8x640 .f32 := Memref.whole cc0_scratch2
abbrev scM0_3 : Memref sig .tc .vmem S208x128 .bf16 := Memref.whole cc0_scratch3
abbrev scM0_4 : Memref sig .tc .vmem S288x128 .f32 := Memref.whole cc0_scratch4
abbrev scM0_5 : Memref sig .tc .vmem S32x192x128 .f32 := Memref.whole cc0_scratch5
abbrev scM0_6 : Memref sig .tc .vmem S864x128 .f32 := Memref.whole cc0_scratch6
abbrev scM0_7 : Memref sig .tc .vmem S288x128 .f32 := Memref.whole cc0_scratch7
abbrev scM0_8 : Memref sig .tc .vmem S96x128 .f32 := Memref.whole cc0_scratch8
abbrev scM0_9 : Memref sig .tc .vmem S96x128 .f32 := Memref.whole cc0_scratch9
abbrev scM0_10 : Memref sig .tc .vmem S96x128 .f32 := Memref.whole cc0_scratch10

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, owns_whole]; try rfl

end Cert.Kernel.Hand

end
-- ==== Proof.RunKA.lean ====
/- The body at a point: what it is handed it hands back, the inputs as they were. -/
module

public import proofs.«01_k».proof.Proof.Gen.Kernel.Loops
public import proofs.«01_k».proof.Proof.KitK

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- What the first point does before everything else: everything it is handed it hands back. -/
theorem part6_run (c : Dev nD) (i : grid0.Coords) (arg2 : Memref sig .tc .vmem S1x32x64x128 .fp8e4m3) (harg2 : arg2.IsWhole) (arg3 : Memref sig .tc .vmem S1x32x128 .f32) (harg3 : arg3.IsWhole) (arg4 : Memref sig .tc .vmem S1x3x32x128 .bf16) (harg4 : arg4.IsWhole) (arg5 : Memref sig .tc .vmem S3x32x520 .bf16) (harg5 : arg5.IsWhole) (arg6 : Memref sig .tc .vmem S3x64x520 .bf16) (harg6 : arg6.IsWhole) (arg7 : Memref sig .tc .vmem S3x64x520 .bf16) (harg7 : arg7.IsWhole) (arg8 : Memref sig .tc .vmem S3x520x128 .f32) (harg8 : arg8.IsWhole) (arg9 : Memref sig .tc .vmem S32x3 .f32) (harg9 : arg9.IsWhole) (arg10 : Memref sig .tc .vmem S1x3x32x128 .bf16) (harg10 : arg10.IsWhole) (arg11 : Memref sig .tc .vmem S1x3x32x64x128 .fp8e4m3) (harg11 : arg11.IsWhole) (arg12 : Memref sig .tc .vmem S1x3x32x128 .f32) (harg12 : arg12.IsWhole) (arg13 : Memref sig .tc .vmem S352x640 .f32) (harg13 : arg13.IsWhole) (arg14 : Memref sig .tc .vmem S192x640 .f32) (harg14 : arg14.IsWhole) (arg15 : Memref sig .tc .vmem S8x640 .f32) (harg15 : arg15.IsWhole) (arg16 : Memref sig .tc .vmem S208x128 .bf16) (harg16 : arg16.IsWhole) (arg17 : Memref sig .tc .vmem S288x128 .f32) (harg17 : arg17.IsWhole) (arg18 : Memref sig .tc .vmem S32x192x128 .f32) (harg18 : arg18.IsWhole) (arg19 : Memref sig .tc .vmem S864x128 .f32) (harg19 : arg19.IsWhole) (arg20 : Memref sig .tc .vmem S288x128 .f32) (harg20 : arg20.IsWhole) (arg21 : Memref sig .tc .vmem S96x128 .f32) (harg21 : arg21.IsWhole) (arg22 : Memref sig .tc .vmem S96x128 .f32) (harg22 : arg22.IsWhole) (arg23 : Memref sig .tc .vmem S96x128 .f32) (harg23 : arg23.IsWhole)
    (x0 : Vec F S1x32x64x128 .fp8e4m3) (x1 : Vec F S1x32x128 .f32) (x2 : Vec F S1x3x32x128 .bf16) (x3 : Vec F S3x32x520 .bf16) (x4 : Vec F S3x64x520 .bf16) (x5 : Vec F S3x64x520 .bf16) (x6 : Vec F S3x520x128 .f32) (x7 : Vec F S32x3 .f32) (xt0 : TbBuf0 (F := F) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0) -∗ K ⟨⟩))
          ⊢ wp frame (wpE (defs₀ (F := F)) Variants.none c none) E (k0_part6 i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [k0_part6_eq_skeleton]; unfold k0_part6_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, HT0, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    iexact HT0

set_option maxHeartbeats 4000000 in
/-- The body through its first loads: everything it is handed it hands back. -/
theorem part23_run (c : Dev nD) (i : grid0.Coords) (arg2 : Memref sig .tc .vmem S1x32x64x128 .fp8e4m3) (harg2 : arg2.IsWhole) (arg3 : Memref sig .tc .vmem S1x32x128 .f32) (harg3 : arg3.IsWhole) (arg4 : Memref sig .tc .vmem S1x3x32x128 .bf16) (harg4 : arg4.IsWhole) (arg5 : Memref sig .tc .vmem S3x32x520 .bf16) (harg5 : arg5.IsWhole) (arg6 : Memref sig .tc .vmem S3x64x520 .bf16) (harg6 : arg6.IsWhole) (arg7 : Memref sig .tc .vmem S3x64x520 .bf16) (harg7 : arg7.IsWhole) (arg8 : Memref sig .tc .vmem S3x520x128 .f32) (harg8 : arg8.IsWhole) (arg9 : Memref sig .tc .vmem S32x3 .f32) (harg9 : arg9.IsWhole) (arg10 : Memref sig .tc .vmem S1x3x32x128 .bf16) (harg10 : arg10.IsWhole) (arg11 : Memref sig .tc .vmem S1x3x32x64x128 .fp8e4m3) (harg11 : arg11.IsWhole) (arg12 : Memref sig .tc .vmem S1x3x32x128 .f32) (harg12 : arg12.IsWhole) (arg13 : Memref sig .tc .vmem S352x640 .f32) (harg13 : arg13.IsWhole) (arg14 : Memref sig .tc .vmem S192x640 .f32) (harg14 : arg14.IsWhole) (arg15 : Memref sig .tc .vmem S8x640 .f32) (harg15 : arg15.IsWhole) (arg16 : Memref sig .tc .vmem S208x128 .bf16) (harg16 : arg16.IsWhole) (arg17 : Memref sig .tc .vmem S288x128 .f32) (harg17 : arg17.IsWhole) (arg18 : Memref sig .tc .vmem S32x192x128 .f32) (harg18 : arg18.IsWhole) (arg19 : Memref sig .tc .vmem S864x128 .f32) (harg19 : arg19.IsWhole) (arg20 : Memref sig .tc .vmem S288x128 .f32) (harg20 : arg20.IsWhole) (arg21 : Memref sig .tc .vmem S96x128 .f32) (harg21 : arg21.IsWhole) (arg22 : Memref sig .tc .vmem S96x128 .f32) (harg22 : arg22.IsWhole) (arg23 : Memref sig .tc .vmem S96x128 .f32) (harg23 : arg23.IsWhole)
    (x0 : Vec F S1x32x64x128 .fp8e4m3) (x1 : Vec F S1x32x128 .f32) (x2 : Vec F S1x3x32x128 .bf16) (x3 : Vec F S3x32x520 .bf16) (x4 : Vec F S3x64x520 .bf16) (x5 : Vec F S3x64x520 .bf16) (x6 : Vec F S3x520x128 .f32) (x7 : Vec F S32x3 .f32) (xt0 : TbBuf0 (F := F) c tbM0_0) :
      ∀ (E : Set ℕ) (K : (Σ' (arg0 : BitVec 32) (v3 : BitVec 32) (v5 : BitVec 32) (v6 : IVec S64x128 32) (v11 : FVec F S64x128 .f32) (v22 : FVec F S64x128 .f32) (v33 : FVec F S64x128 .f32) (v35 : Vec F S64x128 .f32), IVec S64x128 32) → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0
            ∗ (∀ r, iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0) -∗ K r))
          ⊢ wp frame (wpE (defs₀ (F := F)) Variants.none c none) E (k0_part23 i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [k0_part23_eq_skeleton]; unfold k0_part23_skel
    dsimp only
    by_cases hc : Scalar.cmpi .ne (Scalar.extui (Scalar.cmpi .eq (BitVec.ofNat 32 (i 0).val) 0#32)) 0#32 = 1#1
    · rw [dif_pos hc, wp_bind]
      iintro ⟨H2, H3, H4, H5, H6, H7, H8, H9, H10, H11, H12, H13, H14, H15, H16, H17, H18, H19, H20, H21, H22, H23, HT0, Hk⟩
      iapply (part6_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 xt0 E _)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [HT0]; · iexact HT0

      iintro ⟨H2, H3, H4, H5, H6, H7, H8, H9, H10, H11, H12, H13, H14, H15, H16, H17, H18, H19, H20, H21, H22, H23, HT0⟩
      unfold owns
      icases H2 with ⟨%f2, %hf2, H2⟩
      icases H3 with ⟨%f3, %hf3, H3⟩
      icases H4 with ⟨%f4, %hf4, H4⟩
      icases H5 with ⟨%f5, %hf5, H5⟩
      icases H6 with ⟨%f6, %hf6, H6⟩
      icases H7 with ⟨%f7, %hf7, H7⟩
      icases H8 with ⟨%f8, %hf8, H8⟩
      icases H9 with ⟨%f9, %hf9, H9⟩
      icases H10 with ⟨%d10, %f10, -, H10⟩
      icases H11 with ⟨%d11, %f11, -, H11⟩
      icases H12 with ⟨%d12, %f12, -, H12⟩
      icases H13 with ⟨%d13, %f13, -, H13⟩
      icases H14 with ⟨%d14, %f14, -, H14⟩
      icases H15 with ⟨%d15, %f15, -, H15⟩
      icases H16 with ⟨%d16, %f16, -, H16⟩
      icases H17 with ⟨%d17, %f17, -, H17⟩
      icases H18 with ⟨%d18, %f18, -, H18⟩
      icases H19 with ⟨%d19, %f19, -, H19⟩
      icases H20 with ⟨%d20, %f20, -, H20⟩
      icases H21 with ⟨%d21, %f21, -, H21⟩
      icases H22 with ⟨%d22, %f22, -, H22⟩
      icases H23 with ⟨%d23, %f23, -, H23⟩

      obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
      sl_exec
      sl_step
      iapply Hk
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [H16]
      · iexists _, _; isplitr; swap; · iexact H16
        ipureintro; rfl
      isplitl [H17]
      · iexists _, _; isplitr; swap; · iexact H17
        ipureintro; rfl
      isplitl [H18]
      · iexists _, _; isplitr; swap; · iexact H18
        ipureintro; rfl
      isplitl [H19]
      · iexists _, _; isplitr; swap; · iexact H19
        ipureintro; rfl
      isplitl [H20]
      · iexists _, _; isplitr; swap; · iexact H20
        ipureintro; rfl
      isplitl [H21]
      · iexists _, _; isplitr; swap; · iexact H21
        ipureintro; rfl
      isplitl [H22]
      · iexists _, _; isplitr; swap; · iexact H22
        ipureintro; rfl
      isplitl [H23]
      · iexists _, _; isplitr; swap; · iexact H23
        ipureintro; rfl
      iexact HT0

    · rw [dif_neg hc]
      unfold owns
      iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, HT0, Hk⟩
      obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
      sl_exec
      sl_step
      iapply Hk
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [H16]
      · iexists _, _; isplitr; swap; · iexact H16
        ipureintro; rfl
      isplitl [H17]
      · iexists _, _; isplitr; swap; · iexact H17
        ipureintro; rfl
      isplitl [H18]
      · iexists _, _; isplitr; swap; · iexact H18
        ipureintro; rfl
      isplitl [H19]
      · iexists _, _; isplitr; swap; · iexact H19
        ipureintro; rfl
      isplitl [H20]
      · iexists _, _; isplitr; swap; · iexact H20
        ipureintro; rfl
      isplitl [H21]
      · iexists _, _; isplitr; swap; · iexact H21
        ipureintro; rfl
      isplitl [H22]
      · iexists _, _; isplitr; swap; · iexact H22
        ipureintro; rfl
      isplitl [H23]
      · iexists _, _; isplitr; swap; · iexact H23
        ipureintro; rfl
      iexact HT0

end Cert.Kernel.Hand

end
-- ==== Proof.RunKB.lean ====
/- The body at a point: what it is handed it hands back, the inputs as they were. -/
module

public import proofs.«01_k».proof.Proof.Gen.Kernel.Loops
public import proofs.«01_k».proof.Proof.RunKA

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- The body before its redo: everything it is handed it hands back. -/
theorem part63_run (c : Dev nD) (i : grid0.Coords) (arg2 : Memref sig .tc .vmem S1x32x64x128 .fp8e4m3) (harg2 : arg2.IsWhole) (arg3 : Memref sig .tc .vmem S1x32x128 .f32) (harg3 : arg3.IsWhole) (arg4 : Memref sig .tc .vmem S1x3x32x128 .bf16) (harg4 : arg4.IsWhole) (arg5 : Memref sig .tc .vmem S3x32x520 .bf16) (harg5 : arg5.IsWhole) (arg6 : Memref sig .tc .vmem S3x64x520 .bf16) (harg6 : arg6.IsWhole) (arg7 : Memref sig .tc .vmem S3x64x520 .bf16) (harg7 : arg7.IsWhole) (arg8 : Memref sig .tc .vmem S3x520x128 .f32) (harg8 : arg8.IsWhole) (arg9 : Memref sig .tc .vmem S32x3 .f32) (harg9 : arg9.IsWhole) (arg10 : Memref sig .tc .vmem S1x3x32x128 .bf16) (harg10 : arg10.IsWhole) (arg11 : Memref sig .tc .vmem S1x3x32x64x128 .fp8e4m3) (harg11 : arg11.IsWhole) (arg12 : Memref sig .tc .vmem S1x3x32x128 .f32) (harg12 : arg12.IsWhole) (arg13 : Memref sig .tc .vmem S352x640 .f32) (harg13 : arg13.IsWhole) (arg14 : Memref sig .tc .vmem S192x640 .f32) (harg14 : arg14.IsWhole) (arg15 : Memref sig .tc .vmem S8x640 .f32) (harg15 : arg15.IsWhole) (arg16 : Memref sig .tc .vmem S208x128 .bf16) (harg16 : arg16.IsWhole) (arg17 : Memref sig .tc .vmem S288x128 .f32) (harg17 : arg17.IsWhole) (arg18 : Memref sig .tc .vmem S32x192x128 .f32) (harg18 : arg18.IsWhole) (arg19 : Memref sig .tc .vmem S864x128 .f32) (harg19 : arg19.IsWhole) (arg20 : Memref sig .tc .vmem S288x128 .f32) (harg20 : arg20.IsWhole) (arg21 : Memref sig .tc .vmem S96x128 .f32) (harg21 : arg21.IsWhole) (arg22 : Memref sig .tc .vmem S96x128 .f32) (harg22 : arg22.IsWhole) (arg23 : Memref sig .tc .vmem S96x128 .f32) (harg23 : arg23.IsWhole)
    (x0 : Vec F S1x32x64x128 .fp8e4m3) (x1 : Vec F S1x32x128 .f32) (x2 : Vec F S1x3x32x128 .bf16) (x3 : Vec F S3x32x520 .bf16) (x4 : Vec F S3x64x520 .bf16) (x5 : Vec F S3x64x520 .bf16) (x6 : Vec F S3x520x128 .f32) (x7 : Vec F S32x3 .f32) (xt0 : TbBuf0 (F := F) c tbM0_0) :
      ∀ (E : Set ℕ) (K : (Σ' (v3 : BitVec 32) (v5 : BitVec 32), BitVec 32) → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0
            ∗ (∀ r, iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0) -∗ K r))
          ⊢ wp frame (wpE (defs₀ (F := F)) Variants.none c none) E (k0_part63 i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [k0_part63_eq_skeleton]; unfold k0_part63_skel
    rw [wp_bind]
    iintro ⟨H2, H3, H4, H5, H6, H7, H8, H9, H10, H11, H12, H13, H14, H15, H16, H17, H18, H19, H20, H21, H22, H23, HT0, Hk⟩
    iapply (part23_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 xt0 E _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [HT0]; · iexact HT0

    iintro %r ⟨H2, H3, H4, H5, H6, H7, H8, H9, H10, H11, H12, H13, H14, H15, H16, H17, H18, H19, H20, H21, H22, H23, HT0⟩
    obtain ⟨arg0, v3, v5, v6, v11, v22, v33, v35, v43⟩ := r
    unfold owns
    icases H2 with ⟨%f2, %hf2, H2⟩
    icases H3 with ⟨%f3, %hf3, H3⟩
    icases H4 with ⟨%f4, %hf4, H4⟩
    icases H5 with ⟨%f5, %hf5, H5⟩
    icases H6 with ⟨%f6, %hf6, H6⟩
    icases H7 with ⟨%f7, %hf7, H7⟩
    icases H8 with ⟨%f8, %hf8, H8⟩
    icases H9 with ⟨%f9, %hf9, H9⟩
    icases H10 with ⟨%d10, %f10, -, H10⟩
    icases H11 with ⟨%d11, %f11, -, H11⟩
    icases H12 with ⟨%d12, %f12, -, H12⟩
    icases H13 with ⟨%d13, %f13, -, H13⟩
    icases H14 with ⟨%d14, %f14, -, H14⟩
    icases H15 with ⟨%d15, %f15, -, H15⟩
    icases H16 with ⟨%d16, %f16, -, H16⟩
    icases H17 with ⟨%d17, %f17, -, H17⟩
    icases H18 with ⟨%d18, %f18, -, H18⟩
    icases H19 with ⟨%d19, %f19, -, H19⟩
    icases H20 with ⟨%d20, %f20, -, H20⟩
    icases H21 with ⟨%d21, %f21, -, H21⟩
    icases H22 with ⟨%d22, %f22, -, H22⟩
    icases H23 with ⟨%d23, %f23, -, H23⟩

    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    dsimp only
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    iexact HT0

end Cert.Kernel.Hand

end
-- ==== Proof.RunKC.lean ====
/- The body at a point: what it is handed it hands back, the inputs as they were. -/
module

public import proofs.«01_k».proof.Proof.Gen.Kernel.Loops
public import proofs.«01_k».proof.Proof.RunKB

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- The whole body: everything it is handed it hands back, the inputs as they were. -/
theorem body_run (c : Dev nD) (i : grid0.Coords) (arg2 : Memref sig .tc .vmem S1x32x64x128 .fp8e4m3) (harg2 : arg2.IsWhole) (arg3 : Memref sig .tc .vmem S1x32x128 .f32) (harg3 : arg3.IsWhole) (arg4 : Memref sig .tc .vmem S1x3x32x128 .bf16) (harg4 : arg4.IsWhole) (arg5 : Memref sig .tc .vmem S3x32x520 .bf16) (harg5 : arg5.IsWhole) (arg6 : Memref sig .tc .vmem S3x64x520 .bf16) (harg6 : arg6.IsWhole) (arg7 : Memref sig .tc .vmem S3x64x520 .bf16) (harg7 : arg7.IsWhole) (arg8 : Memref sig .tc .vmem S3x520x128 .f32) (harg8 : arg8.IsWhole) (arg9 : Memref sig .tc .vmem S32x3 .f32) (harg9 : arg9.IsWhole) (arg10 : Memref sig .tc .vmem S1x3x32x128 .bf16) (harg10 : arg10.IsWhole) (arg11 : Memref sig .tc .vmem S1x3x32x64x128 .fp8e4m3) (harg11 : arg11.IsWhole) (arg12 : Memref sig .tc .vmem S1x3x32x128 .f32) (harg12 : arg12.IsWhole) (arg13 : Memref sig .tc .vmem S352x640 .f32) (harg13 : arg13.IsWhole) (arg14 : Memref sig .tc .vmem S192x640 .f32) (harg14 : arg14.IsWhole) (arg15 : Memref sig .tc .vmem S8x640 .f32) (harg15 : arg15.IsWhole) (arg16 : Memref sig .tc .vmem S208x128 .bf16) (harg16 : arg16.IsWhole) (arg17 : Memref sig .tc .vmem S288x128 .f32) (harg17 : arg17.IsWhole) (arg18 : Memref sig .tc .vmem S32x192x128 .f32) (harg18 : arg18.IsWhole) (arg19 : Memref sig .tc .vmem S864x128 .f32) (harg19 : arg19.IsWhole) (arg20 : Memref sig .tc .vmem S288x128 .f32) (harg20 : arg20.IsWhole) (arg21 : Memref sig .tc .vmem S96x128 .f32) (harg21 : arg21.IsWhole) (arg22 : Memref sig .tc .vmem S96x128 .f32) (harg22 : arg22.IsWhole) (arg23 : Memref sig .tc .vmem S96x128 .f32) (harg23 : arg23.IsWhole)
    (x0 : Vec F S1x32x64x128 .fp8e4m3) (x1 : Vec F S1x32x128 .f32) (x2 : Vec F S1x3x32x128 .bf16) (x3 : Vec F S3x32x520 .bf16) (x4 : Vec F S3x64x520 .bf16) (x5 : Vec F S3x64x520 .bf16) (x6 : Vec F S3x520x128 .f32) (x7 : Vec F S32x3 .f32) (xt0 : TbBuf0 (F := F) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0) -∗ K ⟨⟩))
          ⊢ wp frame (wpE (defs₀ (F := F)) Variants.none c none) E (cc0_ssm_spec_decode i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [cc0_ssm_spec_decode_eq_skeleton]; unfold cc0_ssm_spec_decode_skel
    rw [wp_bind]
    iintro ⟨H2, H3, H4, H5, H6, H7, H8, H9, H10, H11, H12, H13, H14, H15, H16, H17, H18, H19, H20, H21, H22, H23, HT0, Hk⟩
    iapply (part63_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 xt0 E _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [HT0]; · iexact HT0

    iintro %r ⟨H2, H3, H4, H5, H6, H7, H8, H9, H10, H11, H12, H13, H14, H15, H16, H17, H18, H19, H20, H21, H22, H23, HT0⟩
    obtain ⟨v3, v5, v1630⟩ := r
    unfold owns
    icases H2 with ⟨%f2, %hf2, H2⟩
    icases H3 with ⟨%f3, %hf3, H3⟩
    icases H4 with ⟨%f4, %hf4, H4⟩
    icases H5 with ⟨%f5, %hf5, H5⟩
    icases H6 with ⟨%f6, %hf6, H6⟩
    icases H7 with ⟨%f7, %hf7, H7⟩
    icases H8 with ⟨%f8, %hf8, H8⟩
    icases H9 with ⟨%f9, %hf9, H9⟩
    icases H10 with ⟨%d10, %f10, -, H10⟩
    icases H11 with ⟨%d11, %f11, -, H11⟩
    icases H12 with ⟨%d12, %f12, -, H12⟩
    icases H13 with ⟨%d13, %f13, -, H13⟩
    icases H14 with ⟨%d14, %f14, -, H14⟩
    icases H15 with ⟨%d15, %f15, -, H15⟩
    icases H16 with ⟨%d16, %f16, -, H16⟩
    icases H17 with ⟨%d17, %f17, -, H17⟩
    icases H18 with ⟨%d18, %f18, -, H18⟩
    icases H19 with ⟨%d19, %f19, -, H19⟩
    icases H20 with ⟨%d20, %f20, -, H20⟩
    icases H21 with ⟨%d21, %f21, -, H21⟩
    icases H22 with ⟨%d22, %f22, -, H22⟩
    icases H23 with ⟨%d23, %f23, -, H23⟩

    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    dsimp only
    by_cases hb : Scalar.cmpi .ne v1630 0#32 = 1#1
    all_goals
      sl_exec
      sl_step
      iapply Hk
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [H16]
      · iexists _, _; isplitr; swap; · iexact H16
        ipureintro; rfl
      isplitl [H17]
      · iexists _, _; isplitr; swap; · iexact H17
        ipureintro; rfl
      isplitl [H18]
      · iexists _, _; isplitr; swap; · iexact H18
        ipureintro; rfl
      isplitl [H19]
      · iexists _, _; isplitr; swap; · iexact H19
        ipureintro; rfl
      isplitl [H20]
      · iexists _, _; isplitr; swap; · iexact H20
        ipureintro; rfl
      isplitl [H21]
      · iexists _, _; isplitr; swap; · iexact H21
        ipureintro; rfl
      isplitl [H22]
      · iexists _, _; isplitr; swap; · iexact H22
        ipureintro; rfl
      isplitl [H23]
      · iexists _, _; isplitr; swap; · iexact H23
        ipureintro; rfl
      iexact HT0

end Cert.Kernel.Hand

end
-- ==== Proof.FrameK.lean ====
/- The run of the whole launch: the body at every point, and the frame. -/
module

public import proofs.«01_k».proof.Proof.RunKC

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (8, 9, 10): nothing reads what the kernel leaves in them, so nothing
    of it is named (Lib/Pipeline/Dat.lean `Dat.toRForget`). -/
def forgets0 : Fin 11 → Bool := fun w => w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, h⟩ => Pipeline.Dat.unnamed (cfg := (cfgM m hO)) ⟨8, h⟩ t
    | ⟨9, h⟩ => Pipeline.Dat.unnamed (cfg := (cfgM m hO)) ⟨9, h⟩ t
    | ⟨10, h⟩ => Pipeline.Dat.unnamed (cfg := (cfgM m hO)) ⟨10, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7]
  rw [show (dats m hO 0 c).Φ t.castSucc = iprop(Pipeline.ΦA spec0 c ∗ Pipeline.ΦT pre0 (tbl m) c) from rfl, PhiT0_eq, PhiA0_eq]
  iintro ⟨⟨⟨⟨HS0, HS1, HS2, HS3, HS4, HS5, HS6, HS7, HS8, HS9, HS10⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((body_run c (grid0.coords t) _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HT0]; · iexact HT0
  iintro ⟨H0, H1, H2, H3, H4, H5, H6, H7, H8, H9, H10, HS0, HS1, HS2, HS3, HS4, HS5, HS6, HS7, HS8, HS9, HS10, HT0⟩
  isplitl [HS0 HS1 HS2 HS3 HS4 HS5 HS6 HS7 HS8 HS9 HS10 Hg HT0]
  · isplitl [HS0 HS1 HS2 HS3 HS4 HS5 HS6 HS7 HS8 HS9 HS10 Hg]
    · isplitl [HS0 HS1 HS2 HS3 HS4 HS5 HS6 HS7 HS8 HS9 HS10]
      · isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexact HS6
        isplitl [HS7]
        · iexact HS7
        isplitl [HS8]
        · iexact HS8
        isplitl [HS9]
        · iexact HS9
        iexact HS10
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 8, 9, 10) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ hO (fun c => (dats m hO 0 c).toRForget forgets0) (A_eq m hO) (run_main m ρ hO)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them), which Proof.lean proves from the precondition: `⟨…, fun m ρ h => Cert.Kernel.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ hO) ((θ_run defs _ _).mono (fun _ h => h.2) (run_main_quiescent m ρ hO))

end Cert.Kernel.Hand

end
-- ==== Proof.KitKI.lean ====
/- The launch of the kernel: the arrays when the pipelined region is entered, the prefetched table read off the launch
   memory, the blocks each window holds at a point, and the frame claim read off a run of the region. -/
module

public import proofs.«01_k».proof.Proof.Gen.KernelIdeal.Launch
public import Idealize.ShloMosaic.Lib.Pipeline.Kit
public import Idealize.ShloMosaic.Lib.Claim
public import Idealize.ShloMosaic.Lib.WordCmp
public import Idealize.ShloMosaic.Lib.Pipeline.FrameBody
public import Idealize.ShloMosaic.Lib.Tactic
public import Idealize.ShloMosaic.Lib.Ring

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_ssm_spec_decode (grid0.coords t) (Memref.whole main_arg9) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S520 .i32 := Memref.whole main_arg9
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePost.arr_in h c 2 rfl).trans ((hA c 2).trans (V_main_arg0 m c)),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      (Pipeline.RDat.FramePost.arr_in h c 1 rfl).trans ((hA c 1).trans (V_main_arg8 m c)),
      ((h c).2 main_arg9 (by decide : main_arg9 ∈ Pipeline.restRefs sig spec0)).trans (V_main_arg9 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x32x64x128 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x32x128 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x3x32x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S3x32x520 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S3x64x520 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S3x64x520 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S3x520x128 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S32x3 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x3x32x128 .bf16 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x3x32x64x128 .fp8e4m3 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x3x32x128 .f32 := spec0_10.stage ((cfgM m hO).slots t 10)
abbrev hs0_10 (hO : Ok m) (t : Fin (cfgM m hO).N) : (ms0_10 m hO t).IsWhole := hstage0_10 (((cfgM m hO).slots t 10).cast nbuf0_10)
/-- The scratch operands: whole scoped buffers of the kernel's own, passed beside the windows. -/
abbrev scM0_0 : Memref sig .tc .vmem S352x640 .f32 := Memref.whole cc0_scratch0
abbrev scM0_1 : Memref sig .tc .vmem S192x640 .f32 := Memref.whole cc0_scratch1
abbrev scM0_2 : Memref sig .tc .vmem S8x640 .f32 := Memref.whole cc0_scratch2
abbrev scM0_3 : Memref sig .tc .vmem S208x128 .bf16 := Memref.whole cc0_scratch3
abbrev scM0_4 : Memref sig .tc .vmem S288x128 .f32 := Memref.whole cc0_scratch4
abbrev scM0_5 : Memref sig .tc .vmem S32x192x128 .f32 := Memref.whole cc0_scratch5
abbrev scM0_6 : Memref sig .tc .vmem S864x128 .f32 := Memref.whole cc0_scratch6
abbrev scM0_7 : Memref sig .tc .vmem S288x128 .f32 := Memref.whole cc0_scratch7
abbrev scM0_8 : Memref sig .tc .vmem S96x128 .f32 := Memref.whole cc0_scratch8
abbrev scM0_9 : Memref sig .tc .vmem S96x128 .f32 := Memref.whole cc0_scratch9
abbrev scM0_10 : Memref sig .tc .vmem S96x128 .f32 := Memref.whole cc0_scratch10

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, owns_whole]; try rfl

end Cert.KernelIdeal.Hand

end
-- ==== Proof.RunKIA.lean ====
/- The body at a point: what it is handed it hands back, the inputs as they were. -/
module

public import proofs.«01_k».proof.Proof.Gen.KernelIdeal.Loops
public import proofs.«01_k».proof.Proof.KitKI

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- What the first point does before everything else: everything it is handed it hands back. -/
theorem part6_run (c : Dev nD) (i : grid0.Coords) (arg2 : Memref sig .tc .vmem S1x32x64x128 .fp8e4m3) (harg2 : arg2.IsWhole) (arg3 : Memref sig .tc .vmem S1x32x128 .f32) (harg3 : arg3.IsWhole) (arg4 : Memref sig .tc .vmem S1x3x32x128 .bf16) (harg4 : arg4.IsWhole) (arg5 : Memref sig .tc .vmem S3x32x520 .bf16) (harg5 : arg5.IsWhole) (arg6 : Memref sig .tc .vmem S3x64x520 .bf16) (harg6 : arg6.IsWhole) (arg7 : Memref sig .tc .vmem S3x64x520 .bf16) (harg7 : arg7.IsWhole) (arg8 : Memref sig .tc .vmem S3x520x128 .f32) (harg8 : arg8.IsWhole) (arg9 : Memref sig .tc .vmem S32x3 .f32) (harg9 : arg9.IsWhole) (arg10 : Memref sig .tc .vmem S1x3x32x128 .bf16) (harg10 : arg10.IsWhole) (arg11 : Memref sig .tc .vmem S1x3x32x64x128 .fp8e4m3) (harg11 : arg11.IsWhole) (arg12 : Memref sig .tc .vmem S1x3x32x128 .f32) (harg12 : arg12.IsWhole) (arg13 : Memref sig .tc .vmem S352x640 .f32) (harg13 : arg13.IsWhole) (arg14 : Memref sig .tc .vmem S192x640 .f32) (harg14 : arg14.IsWhole) (arg15 : Memref sig .tc .vmem S8x640 .f32) (harg15 : arg15.IsWhole) (arg16 : Memref sig .tc .vmem S208x128 .bf16) (harg16 : arg16.IsWhole) (arg17 : Memref sig .tc .vmem S288x128 .f32) (harg17 : arg17.IsWhole) (arg18 : Memref sig .tc .vmem S32x192x128 .f32) (harg18 : arg18.IsWhole) (arg19 : Memref sig .tc .vmem S864x128 .f32) (harg19 : arg19.IsWhole) (arg20 : Memref sig .tc .vmem S288x128 .f32) (harg20 : arg20.IsWhole) (arg21 : Memref sig .tc .vmem S96x128 .f32) (harg21 : arg21.IsWhole) (arg22 : Memref sig .tc .vmem S96x128 .f32) (harg22 : arg22.IsWhole) (arg23 : Memref sig .tc .vmem S96x128 .f32) (harg23 : arg23.IsWhole)
    (x0 : Vec F S1x32x64x128 .fp8e4m3) (x1 : Vec F S1x32x128 .f32) (x2 : Vec F S1x3x32x128 .bf16) (x3 : Vec F S3x32x520 .bf16) (x4 : Vec F S3x64x520 .bf16) (x5 : Vec F S3x64x520 .bf16) (x6 : Vec F S3x520x128 .f32) (x7 : Vec F S32x3 .f32) (xt0 : TbBuf0 (F := F) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0) -∗ K ⟨⟩))
          ⊢ wp frame (wpE (defs₀ (F := F)) Variants.none c none) E (k0_part6 i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [k0_part6_eq_skeleton]; unfold k0_part6_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, HT0, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    iexact HT0

set_option maxHeartbeats 4000000 in
/-- The body through its first loads: everything it is handed it hands back. -/
theorem part23_run (c : Dev nD) (i : grid0.Coords) (arg2 : Memref sig .tc .vmem S1x32x64x128 .fp8e4m3) (harg2 : arg2.IsWhole) (arg3 : Memref sig .tc .vmem S1x32x128 .f32) (harg3 : arg3.IsWhole) (arg4 : Memref sig .tc .vmem S1x3x32x128 .bf16) (harg4 : arg4.IsWhole) (arg5 : Memref sig .tc .vmem S3x32x520 .bf16) (harg5 : arg5.IsWhole) (arg6 : Memref sig .tc .vmem S3x64x520 .bf16) (harg6 : arg6.IsWhole) (arg7 : Memref sig .tc .vmem S3x64x520 .bf16) (harg7 : arg7.IsWhole) (arg8 : Memref sig .tc .vmem S3x520x128 .f32) (harg8 : arg8.IsWhole) (arg9 : Memref sig .tc .vmem S32x3 .f32) (harg9 : arg9.IsWhole) (arg10 : Memref sig .tc .vmem S1x3x32x128 .bf16) (harg10 : arg10.IsWhole) (arg11 : Memref sig .tc .vmem S1x3x32x64x128 .fp8e4m3) (harg11 : arg11.IsWhole) (arg12 : Memref sig .tc .vmem S1x3x32x128 .f32) (harg12 : arg12.IsWhole) (arg13 : Memref sig .tc .vmem S352x640 .f32) (harg13 : arg13.IsWhole) (arg14 : Memref sig .tc .vmem S192x640 .f32) (harg14 : arg14.IsWhole) (arg15 : Memref sig .tc .vmem S8x640 .f32) (harg15 : arg15.IsWhole) (arg16 : Memref sig .tc .vmem S208x128 .bf16) (harg16 : arg16.IsWhole) (arg17 : Memref sig .tc .vmem S288x128 .f32) (harg17 : arg17.IsWhole) (arg18 : Memref sig .tc .vmem S32x192x128 .f32) (harg18 : arg18.IsWhole) (arg19 : Memref sig .tc .vmem S864x128 .f32) (harg19 : arg19.IsWhole) (arg20 : Memref sig .tc .vmem S288x128 .f32) (harg20 : arg20.IsWhole) (arg21 : Memref sig .tc .vmem S96x128 .f32) (harg21 : arg21.IsWhole) (arg22 : Memref sig .tc .vmem S96x128 .f32) (harg22 : arg22.IsWhole) (arg23 : Memref sig .tc .vmem S96x128 .f32) (harg23 : arg23.IsWhole)
    (x0 : Vec F S1x32x64x128 .fp8e4m3) (x1 : Vec F S1x32x128 .f32) (x2 : Vec F S1x3x32x128 .bf16) (x3 : Vec F S3x32x520 .bf16) (x4 : Vec F S3x64x520 .bf16) (x5 : Vec F S3x64x520 .bf16) (x6 : Vec F S3x520x128 .f32) (x7 : Vec F S32x3 .f32) (xt0 : TbBuf0 (F := F) c tbM0_0) :
      ∀ (E : Set ℕ) (K : (Σ' (arg0 : BitVec 32) (v3 : BitVec 32) (v5 : BitVec 32) (v6 : IVec S64x128 32) (v11 : FVec F S64x128 .f32) (v22 : FVec F S64x128 .f32) (v33 : FVec F S64x128 .f32) (v35 : Vec F S64x128 .f32), IVec S64x128 32) → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0
            ∗ (∀ r, iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0) -∗ K r))
          ⊢ wp frame (wpE (defs₀ (F := F)) Variants.none c none) E (k0_part23 i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [k0_part23_eq_skeleton]; unfold k0_part23_skel
    dsimp only
    by_cases hc : Scalar.cmpi .ne (Scalar.extui (Scalar.cmpi .eq (BitVec.ofNat 32 (i 0).val) 0#32)) 0#32 = 1#1
    · rw [dif_pos hc, wp_bind]
      iintro ⟨H2, H3, H4, H5, H6, H7, H8, H9, H10, H11, H12, H13, H14, H15, H16, H17, H18, H19, H20, H21, H22, H23, HT0, Hk⟩
      iapply (part6_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 xt0 E _)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [HT0]; · iexact HT0

      iintro ⟨H2, H3, H4, H5, H6, H7, H8, H9, H10, H11, H12, H13, H14, H15, H16, H17, H18, H19, H20, H21, H22, H23, HT0⟩
      unfold owns
      icases H2 with ⟨%f2, %hf2, H2⟩
      icases H3 with ⟨%f3, %hf3, H3⟩
      icases H4 with ⟨%f4, %hf4, H4⟩
      icases H5 with ⟨%f5, %hf5, H5⟩
      icases H6 with ⟨%f6, %hf6, H6⟩
      icases H7 with ⟨%f7, %hf7, H7⟩
      icases H8 with ⟨%f8, %hf8, H8⟩
      icases H9 with ⟨%f9, %hf9, H9⟩
      icases H10 with ⟨%d10, %f10, -, H10⟩
      icases H11 with ⟨%d11, %f11, -, H11⟩
      icases H12 with ⟨%d12, %f12, -, H12⟩
      icases H13 with ⟨%d13, %f13, -, H13⟩
      icases H14 with ⟨%d14, %f14, -, H14⟩
      icases H15 with ⟨%d15, %f15, -, H15⟩
      icases H16 with ⟨%d16, %f16, -, H16⟩
      icases H17 with ⟨%d17, %f17, -, H17⟩
      icases H18 with ⟨%d18, %f18, -, H18⟩
      icases H19 with ⟨%d19, %f19, -, H19⟩
      icases H20 with ⟨%d20, %f20, -, H20⟩
      icases H21 with ⟨%d21, %f21, -, H21⟩
      icases H22 with ⟨%d22, %f22, -, H22⟩
      icases H23 with ⟨%d23, %f23, -, H23⟩

      obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
      sl_exec
      sl_step
      iapply Hk
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [H16]
      · iexists _, _; isplitr; swap; · iexact H16
        ipureintro; rfl
      isplitl [H17]
      · iexists _, _; isplitr; swap; · iexact H17
        ipureintro; rfl
      isplitl [H18]
      · iexists _, _; isplitr; swap; · iexact H18
        ipureintro; rfl
      isplitl [H19]
      · iexists _, _; isplitr; swap; · iexact H19
        ipureintro; rfl
      isplitl [H20]
      · iexists _, _; isplitr; swap; · iexact H20
        ipureintro; rfl
      isplitl [H21]
      · iexists _, _; isplitr; swap; · iexact H21
        ipureintro; rfl
      isplitl [H22]
      · iexists _, _; isplitr; swap; · iexact H22
        ipureintro; rfl
      isplitl [H23]
      · iexists _, _; isplitr; swap; · iexact H23
        ipureintro; rfl
      iexact HT0

    · rw [dif_neg hc]
      unfold owns
      iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, HT0, Hk⟩
      obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
      sl_exec
      sl_step
      iapply Hk
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [H16]
      · iexists _, _; isplitr; swap; · iexact H16
        ipureintro; rfl
      isplitl [H17]
      · iexists _, _; isplitr; swap; · iexact H17
        ipureintro; rfl
      isplitl [H18]
      · iexists _, _; isplitr; swap; · iexact H18
        ipureintro; rfl
      isplitl [H19]
      · iexists _, _; isplitr; swap; · iexact H19
        ipureintro; rfl
      isplitl [H20]
      · iexists _, _; isplitr; swap; · iexact H20
        ipureintro; rfl
      isplitl [H21]
      · iexists _, _; isplitr; swap; · iexact H21
        ipureintro; rfl
      isplitl [H22]
      · iexists _, _; isplitr; swap; · iexact H22
        ipureintro; rfl
      isplitl [H23]
      · iexists _, _; isplitr; swap; · iexact H23
        ipureintro; rfl
      iexact HT0

end Cert.KernelIdeal.Hand

end
-- ==== Proof.RunKIB.lean ====
/- The body at a point: what it is handed it hands back, the inputs as they were. -/
module

public import proofs.«01_k».proof.Proof.Gen.KernelIdeal.Loops
public import proofs.«01_k».proof.Proof.RunKIA

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- The body before its redo: everything it is handed it hands back. -/
theorem part63_run (c : Dev nD) (i : grid0.Coords) (arg2 : Memref sig .tc .vmem S1x32x64x128 .fp8e4m3) (harg2 : arg2.IsWhole) (arg3 : Memref sig .tc .vmem S1x32x128 .f32) (harg3 : arg3.IsWhole) (arg4 : Memref sig .tc .vmem S1x3x32x128 .bf16) (harg4 : arg4.IsWhole) (arg5 : Memref sig .tc .vmem S3x32x520 .bf16) (harg5 : arg5.IsWhole) (arg6 : Memref sig .tc .vmem S3x64x520 .bf16) (harg6 : arg6.IsWhole) (arg7 : Memref sig .tc .vmem S3x64x520 .bf16) (harg7 : arg7.IsWhole) (arg8 : Memref sig .tc .vmem S3x520x128 .f32) (harg8 : arg8.IsWhole) (arg9 : Memref sig .tc .vmem S32x3 .f32) (harg9 : arg9.IsWhole) (arg10 : Memref sig .tc .vmem S1x3x32x128 .bf16) (harg10 : arg10.IsWhole) (arg11 : Memref sig .tc .vmem S1x3x32x64x128 .fp8e4m3) (harg11 : arg11.IsWhole) (arg12 : Memref sig .tc .vmem S1x3x32x128 .f32) (harg12 : arg12.IsWhole) (arg13 : Memref sig .tc .vmem S352x640 .f32) (harg13 : arg13.IsWhole) (arg14 : Memref sig .tc .vmem S192x640 .f32) (harg14 : arg14.IsWhole) (arg15 : Memref sig .tc .vmem S8x640 .f32) (harg15 : arg15.IsWhole) (arg16 : Memref sig .tc .vmem S208x128 .bf16) (harg16 : arg16.IsWhole) (arg17 : Memref sig .tc .vmem S288x128 .f32) (harg17 : arg17.IsWhole) (arg18 : Memref sig .tc .vmem S32x192x128 .f32) (harg18 : arg18.IsWhole) (arg19 : Memref sig .tc .vmem S864x128 .f32) (harg19 : arg19.IsWhole) (arg20 : Memref sig .tc .vmem S288x128 .f32) (harg20 : arg20.IsWhole) (arg21 : Memref sig .tc .vmem S96x128 .f32) (harg21 : arg21.IsWhole) (arg22 : Memref sig .tc .vmem S96x128 .f32) (harg22 : arg22.IsWhole) (arg23 : Memref sig .tc .vmem S96x128 .f32) (harg23 : arg23.IsWhole)
    (x0 : Vec F S1x32x64x128 .fp8e4m3) (x1 : Vec F S1x32x128 .f32) (x2 : Vec F S1x3x32x128 .bf16) (x3 : Vec F S3x32x520 .bf16) (x4 : Vec F S3x64x520 .bf16) (x5 : Vec F S3x64x520 .bf16) (x6 : Vec F S3x520x128 .f32) (x7 : Vec F S32x3 .f32) (xt0 : TbBuf0 (F := F) c tbM0_0) :
      ∀ (E : Set ℕ) (K : (Σ' (v3 : BitVec 32) (v5 : BitVec 32), BitVec 32) → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0
            ∗ (∀ r, iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0) -∗ K r))
          ⊢ wp frame (wpE (defs₀ (F := F)) Variants.none c none) E (k0_part63 i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [k0_part63_eq_skeleton]; unfold k0_part63_skel
    rw [wp_bind]
    iintro ⟨H2, H3, H4, H5, H6, H7, H8, H9, H10, H11, H12, H13, H14, H15, H16, H17, H18, H19, H20, H21, H22, H23, HT0, Hk⟩
    iapply (part23_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 xt0 E _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [HT0]; · iexact HT0

    iintro %r ⟨H2, H3, H4, H5, H6, H7, H8, H9, H10, H11, H12, H13, H14, H15, H16, H17, H18, H19, H20, H21, H22, H23, HT0⟩
    obtain ⟨arg0, v3, v5, v6, v11, v22, v33, v35, v43⟩ := r
    unfold owns
    icases H2 with ⟨%f2, %hf2, H2⟩
    icases H3 with ⟨%f3, %hf3, H3⟩
    icases H4 with ⟨%f4, %hf4, H4⟩
    icases H5 with ⟨%f5, %hf5, H5⟩
    icases H6 with ⟨%f6, %hf6, H6⟩
    icases H7 with ⟨%f7, %hf7, H7⟩
    icases H8 with ⟨%f8, %hf8, H8⟩
    icases H9 with ⟨%f9, %hf9, H9⟩
    icases H10 with ⟨%d10, %f10, -, H10⟩
    icases H11 with ⟨%d11, %f11, -, H11⟩
    icases H12 with ⟨%d12, %f12, -, H12⟩
    icases H13 with ⟨%d13, %f13, -, H13⟩
    icases H14 with ⟨%d14, %f14, -, H14⟩
    icases H15 with ⟨%d15, %f15, -, H15⟩
    icases H16 with ⟨%d16, %f16, -, H16⟩
    icases H17 with ⟨%d17, %f17, -, H17⟩
    icases H18 with ⟨%d18, %f18, -, H18⟩
    icases H19 with ⟨%d19, %f19, -, H19⟩
    icases H20 with ⟨%d20, %f20, -, H20⟩
    icases H21 with ⟨%d21, %f21, -, H21⟩
    icases H22 with ⟨%d22, %f22, -, H22⟩
    icases H23 with ⟨%d23, %f23, -, H23⟩

    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    dsimp only
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    iexact HT0

end Cert.KernelIdeal.Hand

end
-- ==== Proof.RunKIC.lean ====
/- The body at a point: what it is handed it hands back, the inputs as they were. -/
module

public import proofs.«01_k».proof.Proof.Gen.KernelIdeal.Loops
public import proofs.«01_k».proof.Proof.RunKIB

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- The whole body: everything it is handed it hands back, the inputs as they were. -/
theorem body_run (c : Dev nD) (i : grid0.Coords) (arg2 : Memref sig .tc .vmem S1x32x64x128 .fp8e4m3) (harg2 : arg2.IsWhole) (arg3 : Memref sig .tc .vmem S1x32x128 .f32) (harg3 : arg3.IsWhole) (arg4 : Memref sig .tc .vmem S1x3x32x128 .bf16) (harg4 : arg4.IsWhole) (arg5 : Memref sig .tc .vmem S3x32x520 .bf16) (harg5 : arg5.IsWhole) (arg6 : Memref sig .tc .vmem S3x64x520 .bf16) (harg6 : arg6.IsWhole) (arg7 : Memref sig .tc .vmem S3x64x520 .bf16) (harg7 : arg7.IsWhole) (arg8 : Memref sig .tc .vmem S3x520x128 .f32) (harg8 : arg8.IsWhole) (arg9 : Memref sig .tc .vmem S32x3 .f32) (harg9 : arg9.IsWhole) (arg10 : Memref sig .tc .vmem S1x3x32x128 .bf16) (harg10 : arg10.IsWhole) (arg11 : Memref sig .tc .vmem S1x3x32x64x128 .fp8e4m3) (harg11 : arg11.IsWhole) (arg12 : Memref sig .tc .vmem S1x3x32x128 .f32) (harg12 : arg12.IsWhole) (arg13 : Memref sig .tc .vmem S352x640 .f32) (harg13 : arg13.IsWhole) (arg14 : Memref sig .tc .vmem S192x640 .f32) (harg14 : arg14.IsWhole) (arg15 : Memref sig .tc .vmem S8x640 .f32) (harg15 : arg15.IsWhole) (arg16 : Memref sig .tc .vmem S208x128 .bf16) (harg16 : arg16.IsWhole) (arg17 : Memref sig .tc .vmem S288x128 .f32) (harg17 : arg17.IsWhole) (arg18 : Memref sig .tc .vmem S32x192x128 .f32) (harg18 : arg18.IsWhole) (arg19 : Memref sig .tc .vmem S864x128 .f32) (harg19 : arg19.IsWhole) (arg20 : Memref sig .tc .vmem S288x128 .f32) (harg20 : arg20.IsWhole) (arg21 : Memref sig .tc .vmem S96x128 .f32) (harg21 : arg21.IsWhole) (arg22 : Memref sig .tc .vmem S96x128 .f32) (harg22 : arg22.IsWhole) (arg23 : Memref sig .tc .vmem S96x128 .f32) (harg23 : arg23.IsWhole)
    (x0 : Vec F S1x32x64x128 .fp8e4m3) (x1 : Vec F S1x32x128 .f32) (x2 : Vec F S1x3x32x128 .bf16) (x3 : Vec F S3x32x520 .bf16) (x4 : Vec F S3x64x520 .bf16) (x5 : Vec F S3x64x520 .bf16) (x6 : Vec F S3x520x128 .f32) (x7 : Vec F S32x3 .f32) (xt0 : TbBuf0 (F := F) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0) -∗ K ⟨⟩))
          ⊢ wp frame (wpE (defs₀ (F := F)) Variants.none c none) E (cc0_ssm_spec_decode i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [cc0_ssm_spec_decode_eq_skeleton]; unfold cc0_ssm_spec_decode_skel
    rw [wp_bind]
    iintro ⟨H2, H3, H4, H5, H6, H7, H8, H9, H10, H11, H12, H13, H14, H15, H16, H17, H18, H19, H20, H21, H22, H23, HT0, Hk⟩
    iapply (part63_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 xt0 E _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [HT0]; · iexact HT0

    iintro %r ⟨H2, H3, H4, H5, H6, H7, H8, H9, H10, H11, H12, H13, H14, H15, H16, H17, H18, H19, H20, H21, H22, H23, HT0⟩
    obtain ⟨v3, v5, v1630⟩ := r
    unfold owns
    icases H2 with ⟨%f2, %hf2, H2⟩
    icases H3 with ⟨%f3, %hf3, H3⟩
    icases H4 with ⟨%f4, %hf4, H4⟩
    icases H5 with ⟨%f5, %hf5, H5⟩
    icases H6 with ⟨%f6, %hf6, H6⟩
    icases H7 with ⟨%f7, %hf7, H7⟩
    icases H8 with ⟨%f8, %hf8, H8⟩
    icases H9 with ⟨%f9, %hf9, H9⟩
    icases H10 with ⟨%d10, %f10, -, H10⟩
    icases H11 with ⟨%d11, %f11, -, H11⟩
    icases H12 with ⟨%d12, %f12, -, H12⟩
    icases H13 with ⟨%d13, %f13, -, H13⟩
    icases H14 with ⟨%d14, %f14, -, H14⟩
    icases H15 with ⟨%d15, %f15, -, H15⟩
    icases H16 with ⟨%d16, %f16, -, H16⟩
    icases H17 with ⟨%d17, %f17, -, H17⟩
    icases H18 with ⟨%d18, %f18, -, H18⟩
    icases H19 with ⟨%d19, %f19, -, H19⟩
    icases H20 with ⟨%d20, %f20, -, H20⟩
    icases H21 with ⟨%d21, %f21, -, H21⟩
    icases H22 with ⟨%d22, %f22, -, H22⟩
    icases H23 with ⟨%d23, %f23, -, H23⟩

    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    dsimp only
    by_cases hb : Scalar.cmpi .ne v1630 0#32 = 1#1
    all_goals
      sl_exec
      sl_step
      iapply Hk
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [H16]
      · iexists _, _; isplitr; swap; · iexact H16
        ipureintro; rfl
      isplitl [H17]
      · iexists _, _; isplitr; swap; · iexact H17
        ipureintro; rfl
      isplitl [H18]
      · iexists _, _; isplitr; swap; · iexact H18
        ipureintro; rfl
      isplitl [H19]
      · iexists _, _; isplitr; swap; · iexact H19
        ipureintro; rfl
      isplitl [H20]
      · iexists _, _; isplitr; swap; · iexact H20
        ipureintro; rfl
      isplitl [H21]
      · iexists _, _; isplitr; swap; · iexact H21
        ipureintro; rfl
      isplitl [H22]
      · iexists _, _; isplitr; swap; · iexact H22
        ipureintro; rfl
      isplitl [H23]
      · iexists _, _; isplitr; swap; · iexact H23
        ipureintro; rfl
      iexact HT0

end Cert.KernelIdeal.Hand

end
-- ==== Proof.FrameKI.lean ====
/- The run of the whole launch: the body at every point, and the frame. -/
module

public import proofs.«01_k».proof.Proof.RunKIC

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (8, 9, 10): nothing reads what the kernel leaves in them, so nothing
    of it is named (Lib/Pipeline/Dat.lean `Dat.toRForget`). -/
def forgets0 : Fin 11 → Bool := fun w => w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, h⟩ => Pipeline.Dat.unnamed (cfg := (cfgM m hO)) ⟨8, h⟩ t
    | ⟨9, h⟩ => Pipeline.Dat.unnamed (cfg := (cfgM m hO)) ⟨9, h⟩ t
    | ⟨10, h⟩ => Pipeline.Dat.unnamed (cfg := (cfgM m hO)) ⟨10, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7]
  rw [show (dats m hO 0 c).Φ t.castSucc = iprop(Pipeline.ΦA spec0 c ∗ Pipeline.ΦT pre0 (tbl m) c) from rfl, PhiT0_eq, PhiA0_eq]
  iintro ⟨⟨⟨⟨HS0, HS1, HS2, HS3, HS4, HS5, HS6, HS7, HS8, HS9, HS10⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((body_run c (grid0.coords t) _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HT0]; · iexact HT0
  iintro ⟨H0, H1, H2, H3, H4, H5, H6, H7, H8, H9, H10, HS0, HS1, HS2, HS3, HS4, HS5, HS6, HS7, HS8, HS9, HS10, HT0⟩
  isplitl [HS0 HS1 HS2 HS3 HS4 HS5 HS6 HS7 HS8 HS9 HS10 Hg HT0]
  · isplitl [HS0 HS1 HS2 HS3 HS4 HS5 HS6 HS7 HS8 HS9 HS10 Hg]
    · isplitl [HS0 HS1 HS2 HS3 HS4 HS5 HS6 HS7 HS8 HS9 HS10]
      · isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexact HS6
        isplitl [HS7]
        · iexact HS7
        isplitl [HS8]
        · iexact HS8
        isplitl [HS9]
        · iexact HS9
        iexact HS10
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 8, 9, 10) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ hO (fun c => (dats m hO 0 c).toRForget forgets0) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ hO) ((θ_run defs _ _).mono (fun _ h => h.2) (run_main_quiescent m ρ hO))

end Cert.KernelIdeal.Hand

end
-- ==== Proof.Ids.lean ====
/- The precondition on the ids: every id names a row of the state arrays, so every block the ids place lies inside its array. -/
module

public import proofs.«01_k».proof.Defs
public import proofs.«01_k».proof.Proof.FrameK
public import proofs.«01_k».proof.Proof.FrameKI
public import proofs.«01_k».proof.Proof.Gen.Pre_in_range
public import Idealize.ShloMosaic.Lib.StableHlo.Predicate
public import Idealize.ShloMosaic.Lib.Affine

@[expose] public section

namespace Cert.Ids

open Idealize.ShloMosaic Idealize.ShloMosaic.TcCoe

/-- The conjunction of two bits is one just when both are. -/
theorem andi_one (a b : BitVec 1) : IntOp.andi a b = 1#1 ↔ a = 1#1 ∧ b = 1#1 := by revert a b; decide

/-- A word between 0 and 652, both comparisons signed, is a number under 653. -/
theorem lt_of_cmps (v : BitVec 32) (h0 : IntOp.cmpi .sge v 0#32 = 1#1) (h1 : IntOp.cmpi .slt v 653#32 = 1#1) : v.toNat < 653 := by
  have ofBool_eq_one (p : Bool) : (BitVec.ofBool p = 1#1) ↔ p = true := by cases p <;> decide
  simp only [ofBool_eq_one, IntOp.cmpi, BitVec.sle, BitVec.slt, decide_eq_true_eq, BitVec.toInt, BitVec.toNat_ofNat] at h0 h1
  have := v.isLt
  split at h0 <;> omega

/-- The ids the first predicate admits are under 653. -/
theorem in_range_lt {F : FTy → Type} [FloatOps F] (a0 a1 a2 a3 a4 a5 a6 a7 a8) (ids : IVec Cert.Pre_in_range.S520 32)
    (h : Cert.Pre_in_range.fn (F := F) a0 a1 a2 a3 a4 a5 a6 a7 a8 ids = fun _ => 1#1) (w : Cert.Pre_in_range.S520.Idx) : (ids w).toNat < 653 := by
  have pre := congrFun h w
  simp only [Cert.Pre_in_range.fn, constantI, broadcastInDim, cmpi, andi, andi_one] at pre
  exact lt_of_cmps _ pre.1 pre.2

section Kernel
open Cert.Kernel Cert.Kernel.Gen Cert.Kernel.Hand

/-- The side condition of the ids of `Kernel`: under 653 each, they place every block inside its array. -/
theorem ok_Kernel {F : FTy → Type} [BitOps F] (m : (ℓ : Loc nD τ sig) → Buf (Elt F) ℓ)
    (h : ∀ w : S520.Idx, ((m (((0 : Dev nD) : Thread nD τ).loc main_arg9) : S520.Idx → BitVec 32) w).toNat < 653) : Ok (F := F) m := by
  have hat : ∀ (i : grid0.Coords), ∃ w : S520.Idx,
      (tbl m).at 0 (Rect.unit (s := S520) (k0_off1 i) S1.size (k0_off1_inb i)) numel1_S1 = (m (((0 : Dev nD) : Thread nD τ).loc main_arg9) : S520.Idx → BitVec 32) w := by
    intro i
    have e : tbl m 0 = m (((0 : Dev nD) : Thread nD τ).loc main_arg9) := V_main_arg9 m 0
    exact ⟨_, congrFun e _⟩
  refine ⟨fun i => ?_, fun i => ?_⟩
  · obtain ⟨w, hw⟩ := hat i
    have hlt := h w
    have hb : ∀ a, (cc0_transform_0 k0_off1_inb numel1_S1 (tbl m) i a + 1) * S1x32x64x128.size a ≤ S653x32x64x128.size a := by
      intro a
      have e0 : cc0_transform_0 k0_off1_inb numel1_S1 (tbl m) i = ![((m (((0 : Dev nD) : Thread nD τ).loc main_arg9) : S520.Idx → BitVec 32) w).toNat, 0, 0, 0] := by
        unfold cc0_transform_0; dsimp only; erw [hw]; rfl
      rw [e0]
      match a with
      | ⟨0, _⟩ => show (((m (((0 : Dev nD) : Thread nD τ).loc main_arg9) : S520.Idx → BitVec 32) w).toNat + 1) * 1 ≤ 653; omega
      | ⟨1, _⟩ => exact (by decide : (0 + 1) * 32 ≤ 32)
      | ⟨2, _⟩ => exact (by decide : (0 + 1) * 64 ≤ 64)
      | ⟨3, _⟩ => exact (by decide : (0 + 1) * 128 ≤ 128)
    exact ⟨hb, .inr (Affine.block_words_dvd (of_decide_eq_true rfl) (by decide))⟩
  · obtain ⟨w, hw⟩ := hat i
    have hlt := h w
    have hb : ∀ a, (cc0_transform_1 k0_off1_inb numel1_S1 (tbl m) i a + 1) * S1x32x128.size a ≤ S653x32x128.size a := by
      intro a
      have e0 : cc0_transform_1 k0_off1_inb numel1_S1 (tbl m) i = ![((m (((0 : Dev nD) : Thread nD τ).loc main_arg9) : S520.Idx → BitVec 32) w).toNat, 0, 0] := by
        unfold cc0_transform_1; dsimp only; erw [hw]; rfl
      rw [e0]
      match a with
      | ⟨0, _⟩ => show (((m (((0 : Dev nD) : Thread nD τ).loc main_arg9) : S520.Idx → BitVec 32) w).toNat + 1) * 1 ≤ 653; omega
      | ⟨1, _⟩ => exact (by decide : (0 + 1) * 32 ≤ 32)
      | ⟨2, _⟩ => exact (by decide : (0 + 1) * 128 ≤ 128)
    exact ⟨hb, .inl rfl⟩

end Kernel

section KernelIdeal
open Cert.KernelIdeal Cert.KernelIdeal.Gen Cert.KernelIdeal.Hand

/-- The side condition of the ids of `KernelIdeal`: under 653 each, they place every block inside its array. -/
theorem ok_KernelIdeal {F : FTy → Type} [FloatOps F] (m : (ℓ : Loc nD τ sig) → Buf (Elt F) ℓ)
    (h : ∀ w : S520.Idx, ((m (((0 : Dev nD) : Thread nD τ).loc main_arg9) : S520.Idx → BitVec 32) w).toNat < 653) : Ok (F := F) m := by
  have hat : ∀ (i : grid0.Coords), ∃ w : S520.Idx,
      (tbl m).at 0 (Rect.unit (s := S520) (k0_off1 i) S1.size (k0_off1_inb i)) numel1_S1 = (m (((0 : Dev nD) : Thread nD τ).loc main_arg9) : S520.Idx → BitVec 32) w := by
    intro i
    have e : tbl m 0 = m (((0 : Dev nD) : Thread nD τ).loc main_arg9) := V_main_arg9 m 0
    exact ⟨_, congrFun e _⟩
  refine ⟨fun i => ?_, fun i => ?_⟩
  · obtain ⟨w, hw⟩ := hat i
    have hlt := h w
    have hb : ∀ a, (cc0_transform_0 k0_off1_inb numel1_S1 (tbl m) i a + 1) * S1x32x64x128.size a ≤ S653x32x64x128.size a := by
      intro a
      have e0 : cc0_transform_0 k0_off1_inb numel1_S1 (tbl m) i = ![((m (((0 : Dev nD) : Thread nD τ).loc main_arg9) : S520.Idx → BitVec 32) w).toNat, 0, 0, 0] := by
        unfold cc0_transform_0; dsimp only; erw [hw]; rfl
      rw [e0]
      match a with
      | ⟨0, _⟩ => show (((m (((0 : Dev nD) : Thread nD τ).loc main_arg9) : S520.Idx → BitVec 32) w).toNat + 1) * 1 ≤ 653; omega
      | ⟨1, _⟩ => exact (by decide : (0 + 1) * 32 ≤ 32)
      | ⟨2, _⟩ => exact (by decide : (0 + 1) * 64 ≤ 64)
      | ⟨3, _⟩ => exact (by decide : (0 + 1) * 128 ≤ 128)
    exact ⟨hb, .inr (Affine.block_words_dvd (of_decide_eq_true rfl) (by decide))⟩
  · obtain ⟨w, hw⟩ := hat i
    have hlt := h w
    have hb : ∀ a, (cc0_transform_1 k0_off1_inb numel1_S1 (tbl m) i a + 1) * S1x32x128.size a ≤ S653x32x128.size a := by
      intro a
      have e0 : cc0_transform_1 k0_off1_inb numel1_S1 (tbl m) i = ![((m (((0 : Dev nD) : Thread nD τ).loc main_arg9) : S520.Idx → BitVec 32) w).toNat, 0, 0] := by
        unfold cc0_transform_1; dsimp only; erw [hw]; rfl
      rw [e0]
      match a with
      | ⟨0, _⟩ => show (((m (((0 : Dev nD) : Thread nD τ).loc main_arg9) : S520.Idx → BitVec 32) w).toNat + 1) * 1 ≤ 653; omega
      | ⟨1, _⟩ => exact (by decide : (0 + 1) * 32 ≤ 32)
      | ⟨2, _⟩ => exact (by decide : (0 + 1) * 128 ≤ 128)
    exact ⟨hb, .inl rfl⟩

end KernelIdeal

end Cert.Ids
-- ==== Proof.Adm.lean ====
/- What the precondition of the value claim gives: the ids in range and the float arguments finite. -/
module

public import proofs.«01_k».proof.Defs
public import proofs.«01_k».proof.Proof.Ids
public import proofs.«01_k».proof.Proof.Gen.Pre_admissible
public import Idealize.ShloMosaic.Lib.StableHlo.Predicate
public import Idealize.ShloMosaic.Lib.Affine
public import Idealize.ShloMosaic.PureOps.Ideal
public import Idealize.ShloMosaic.Lib.IdealHost

@[expose] public section

namespace Cert.Ids

open Idealize.ShloMosaic Idealize.ShloMosaic.TcCoe

/-- The ids the second predicate admits are under 653. -/
theorem admissible_lt {F : FTy → Type} [FloatOps F] (a0 a1 a2 a3 a4 a5 a6 a7 a8) (ids : IVec Cert.Pre_admissible.S520 32)
    (h : (Cert.Pre_admissible.fn (F := F) a0 a1 a2 a3 a4 a5 a6 a7 a8 ids).1 = fun _ => 1#1) (w : Cert.Pre_admissible.S520.Idx) : (ids w).toNat < 653 := by
  have pre := congrFun h w
  simp only [Cert.Pre_admissible.fn, Cert.Pre_admissible.fn_part1, constantI, broadcastInDim, cmpi, andi, andi_one] at pre
  exact lt_of_cmps _ pre.1 pre.2

/-- A value whose absolute value is below infinity is a real number. -/
theorem real_of_olt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

theorem nonneg_of_oge (x : EReal) (h : Ideal.cmp .oge x (Ideal.ofBits .f32 0x00000000#32) = 1#1) : 0 ≤ x := by
  rw [Ideal.ofBits_zero_f32] at h
  by_contra hn
  simp [Ideal.cmp, hn] at h

open Cert.Pre_admissible in
/-- The float arguments the second predicate admits are real numbers, the scales not negative. -/
theorem admissible_real (a0 : FVec Ideal S520x3x32x128 .bf16) (a1 : FVec Ideal S520x3x32 .bf16) (a2 a3 : FVec Ideal S32 .f32) (a4 a5 : FVec Ideal S520x3x1x64 .bf16)
    (a6 : FVec Ideal S32 .f32) (a7 : FVec Ideal S653x32x128x64 .fp8e4m3) (a8 : FVec Ideal S653x32x128 .f32) (ids : IVec S520 32)
    (p0 : (fn (F := Ideal) a0 a1 a2 a3 a4 a5 a6 a7 a8 ids).2.1 = fun _ => 1#1)
    (p1 : (fn (F := Ideal) a0 a1 a2 a3 a4 a5 a6 a7 a8 ids).2.2.1 = fun _ => 1#1)
    (p2 : (fn (F := Ideal) a0 a1 a2 a3 a4 a5 a6 a7 a8 ids).2.2.2.1 = fun _ => 1#1)
    (p3 : (fn (F := Ideal) a0 a1 a2 a3 a4 a5 a6 a7 a8 ids).2.2.2.2.1 = fun _ => 1#1)
    (p4 : (fn (F := Ideal) a0 a1 a2 a3 a4 a5 a6 a7 a8 ids).2.2.2.2.2.1 = fun _ => 1#1)
    (p5 : (fn (F := Ideal) a0 a1 a2 a3 a4 a5 a6 a7 a8 ids).2.2.2.2.2.2.1 = fun _ => 1#1)
    (p6 : (fn (F := Ideal) a0 a1 a2 a3 a4 a5 a6 a7 a8 ids).2.2.2.2.2.2.2.1 = fun _ => 1#1)
    (p8 : (fn (F := Ideal) a0 a1 a2 a3 a4 a5 a6 a7 a8 ids).2.2.2.2.2.2.2.2 = fun _ => 1#1) :
    (∀ j, ∃ r : ℝ, (a0 j : EReal) = r) ∧ (∀ j, ∃ r : ℝ, (a1 j : EReal) = r) ∧ (∀ j, ∃ r : ℝ, (a2 j : EReal) = r) ∧ (∀ j, ∃ r : ℝ, (a3 j : EReal) = r)
      ∧ (∀ j, ∃ r : ℝ, (a4 j : EReal) = r) ∧ (∀ j, ∃ r : ℝ, (a5 j : EReal) = r) ∧ (∀ j, ∃ r : ℝ, (a6 j : EReal) = r)
      ∧ ∀ j, ∃ r : ℝ, 0 ≤ r ∧ (a8 j : EReal) = r := by
  refine ⟨fun j => real_of_olt _ (congrFun p0 j), fun j => real_of_olt _ (congrFun p1 j), fun j => real_of_olt _ (congrFun p2 j),
    fun j => real_of_olt _ (congrFun p3 j), fun j => real_of_olt _ (congrFun p4 j), fun j => real_of_olt _ (congrFun p5 j),
    fun j => real_of_olt _ (congrFun p6 j), fun j => ?_⟩
  obtain ⟨h1, h2⟩ := (andi_one _ _).1 (congrFun p8 j)
  obtain ⟨r, hr⟩ := real_of_olt _ h2
  have h0 := nonneg_of_oge _ h1
  refine ⟨r, ?_, hr⟩
  rw [hr] at h0
  exact_mod_cast h0

end Cert.Ids

end
-- ==== Proof.YPay.lean ====
module

public import proofs.«01_k».proof.Proof.Gen.KernelIdeal.Loops
public import proofs.«01_k».proof.Proof.KitKI
public import Idealize.ShloMosaic.PureOps.Ideal
public import Idealize.ShloMosaic.Lib.IdealHost
public import Idealize.ShloMosaic.Lib.Pointwise
public import Idealize.ShloMosaic.Lib.WritesUnit

@[expose] public section

set_option maxRecDepth 16384

noncomputable section

namespace Cert.KernelIdeal.Hand

open Cert.KernelIdeal.Gen
open Idealize.ShloMosaic Idealize.ShloMosaic.TcCoe Idealize.ShloMosaic.Tactic

/-- A matrix read at two natural numbers: its entry there, and zero outside. -/
def at2 {m n : ℕ} (X : (⟨2, ![m, n]⟩ : Shape).Idx → EReal) (r c : ℕ) : EReal :=
  if h : r < m ∧ c < n then X (ix2 ⟨r, h.1⟩ ⟨c, h.2⟩) else 0

theorem at2_eq {m n : ℕ} (X : (⟨2, ![m, n]⟩ : Shape).Idx → EReal) (a : Fin m) (b : Fin n) : X (ix2 a b) = at2 X a.val b.val := by
  rw [at2, dif_pos ⟨a.isLt, b.isLt⟩]

/-- A rank-three array read at three natural numbers: its entry there, and zero outside. -/
def at3 {l m n : ℕ} (X : (⟨3, ![l, m, n]⟩ : Shape).Idx → EReal) (q r c : ℕ) : EReal :=
  if h : q < l ∧ r < m ∧ c < n then X (ix3 ⟨q, h.1⟩ ⟨r, h.2.1⟩ ⟨c, h.2.2⟩) else 0

theorem at3_eq {l m n : ℕ} (X : (⟨3, ![l, m, n]⟩ : Shape).Idx → EReal) (a : Fin l) (b : Fin m) (c : Fin n) :
    X (ix3 a b c) = at3 X a.val b.val c.val := by
  rw [at3, dif_pos ⟨a.isLt, b.isLt, c.isLt⟩]

/-- A rank-four array read at four natural numbers: its entry there, and zero outside. -/
def at4 {k l m n : ℕ} (X : (⟨4, ![k, l, m, n]⟩ : Shape).Idx → EReal) (p q r c : ℕ) : EReal :=
  if h : p < k ∧ q < l ∧ r < m ∧ c < n then X (ix4 ⟨p, h.1⟩ ⟨q, h.2.1⟩ ⟨r, h.2.2.1⟩ ⟨c, h.2.2.2⟩) else 0

theorem at4_eq {k l m n : ℕ} (X : (⟨4, ![k, l, m, n]⟩ : Shape).Idx → EReal) (a : Fin k) (b : Fin l) (c : Fin m) (d : Fin n) :
    X (ix4 a b c d) = at4 X a.val b.val c.val d.val := by
  rw [at4, dif_pos ⟨a.isLt, b.isLt, c.isLt, d.isLt⟩]

theorem ix4_congr {k l m n : ℕ} {a a' : Fin k} {b b' : Fin l} {c c' : Fin m} {d d' : Fin n} (ha : a.val = a'.val) (hb : b.val = b'.val)
    (hc : c.val = c'.val) (hd : d.val = d'.val) : ix4 a b c d = ix4 a' b' c' d' := by
  rw [Fin.ext ha, Fin.ext hb, Fin.ext hc, Fin.ext hd]

section Reads
variable {κ : Kind} {sp : Space} {e : EltTy}

/-- A load of a rectangle of a matrix, at an entry. -/
theorem rd2 {m n m' n' : ℕ} {arg : Memref sig κ sp ⟨2, ![m, n]⟩ e} (h : arg.IsWhole) (X : (⟨2, ![m, n]⟩ : Shape).Idx → Elt Ideal e)
    (off : Fin 2 → ℕ) (inb : ∀ a, off a + (![m', n'] : Fin 2 → ℕ) a ≤ (![m, n] : Fin 2 → ℕ) a) (a : Fin m') (b : Fin n') :
    View.readAt (Elt Ideal) arg.view (Rect.unit (s := ⟨2, ![m, n]⟩) off ![m', n'] inb).toLoadRect (h.unread (Val := Elt Ideal) X) (ix2 a b)
      = X (ix2 ⟨off 0 + a.val, lt_of_lt_of_le (Nat.add_lt_add_left a.isLt _) (inb 0)⟩ ⟨off 1 + b.val, lt_of_lt_of_le (Nat.add_lt_add_left b.isLt _) (inb 1)⟩) := by
  rw [View.readAt_apply, h.read_unread]
  congr 1
  funext k
  fin_cases k <;> exact Fin.ext (by simp [LoadRect.idx, Rect.unit, ix2])

/-- A load of a rectangle of a rank-three array, at an entry. -/
theorem rd3 {l m n l' m' n' : ℕ} {arg : Memref sig κ sp ⟨3, ![l, m, n]⟩ e} (h : arg.IsWhole) (X : (⟨3, ![l, m, n]⟩ : Shape).Idx → Elt Ideal e)
    (off : Fin 3 → ℕ) (inb : ∀ a, off a + (![l', m', n'] : Fin 3 → ℕ) a ≤ (![l, m, n] : Fin 3 → ℕ) a) (q : Fin l') (a : Fin m') (b : Fin n') :
    View.readAt (Elt Ideal) arg.view (Rect.unit (s := ⟨3, ![l, m, n]⟩) off ![l', m', n'] inb).toLoadRect (h.unread (Val := Elt Ideal) X) (ix3 q a b)
      = X (ix3 ⟨off 0 + q.val, lt_of_lt_of_le (Nat.add_lt_add_left q.isLt _) (inb 0)⟩ ⟨off 1 + a.val, lt_of_lt_of_le (Nat.add_lt_add_left a.isLt _) (inb 1)⟩
          ⟨off 2 + b.val, lt_of_lt_of_le (Nat.add_lt_add_left b.isLt _) (inb 2)⟩) := by
  rw [View.readAt_apply, h.read_unread]
  congr 1
  funext k
  fin_cases k <;> exact Fin.ext (by simp [LoadRect.idx, Rect.unit, ix3])

/-- A load of a rectangle of a rank-four array, at an entry. -/
theorem rd4 {k l m n k' l' m' n' : ℕ} {arg : Memref sig κ sp ⟨4, ![k, l, m, n]⟩ e} (h : arg.IsWhole) (X : (⟨4, ![k, l, m, n]⟩ : Shape).Idx → Elt Ideal e)
    (off : Fin 4 → ℕ) (inb : ∀ a, off a + (![k', l', m', n'] : Fin 4 → ℕ) a ≤ (![k, l, m, n] : Fin 4 → ℕ) a) (p : Fin k') (q : Fin l') (a : Fin m') (b : Fin n') :
    View.readAt (Elt Ideal) arg.view (Rect.unit (s := ⟨4, ![k, l, m, n]⟩) off ![k', l', m', n'] inb).toLoadRect (h.unread (Val := Elt Ideal) X) (ix4 p q a b)
      = X (ix4 ⟨off 0 + p.val, lt_of_lt_of_le (Nat.add_lt_add_left p.isLt _) (inb 0)⟩ ⟨off 1 + q.val, lt_of_lt_of_le (Nat.add_lt_add_left q.isLt _) (inb 1)⟩
          ⟨off 2 + a.val, lt_of_lt_of_le (Nat.add_lt_add_left a.isLt _) (inb 2)⟩ ⟨off 3 + b.val, lt_of_lt_of_le (Nat.add_lt_add_left b.isLt _) (inb 3)⟩) := by
  rw [View.readAt_apply, h.read_unread]
  congr 1
  funext k
  fin_cases k <;> exact Fin.ext (by simp [LoadRect.idx, Rect.unit, ix4])

/-- A load of every ninth row of a matrix, at an entry. -/
theorem rdS {m n m' n' : ℕ} {v : View sig κ sp ⟨2, ![m, n]⟩ e} (f : v.ty.Contents (Elt Ideal))
    (off : Fin 2 → ℕ) (inb) (a : Fin m') (b : Fin n') (hr : off 0 + 9 * a.val < m) (hc : off 1 + b.val < n) :
    View.readAt (Elt Ideal) v (LoadRect.mk (s := ⟨2, ![m, n]⟩) off ![m', n'] ![9, 1] inb) f (ix2 a b)
      = v.read (Elt Ideal) f (ix2 ⟨off 0 + 9 * a.val, hr⟩ ⟨off 1 + b.val, hc⟩) := by
  rw [View.readAt_apply]
  congr 1
  funext k
  fin_cases k <;> exact Fin.ext (by simp [LoadRect.idx, ix2])

/-- A matrix written by rectangles, read inside the last one. -/
theorem wr2_mem {m n m' n' : ℕ} {v : View sig κ sp ⟨2, ![m, n]⟩ e} (f : v.ty.Contents (Elt Ideal))
    (off : Fin 2 → ℕ) (inb : ∀ a, off a + (![m', n'] : Fin 2 → ℕ) a ≤ (![m, n] : Fin 2 → ℕ) a)
    (w : (⟨2, ![m', n']⟩ : Shape).Idx → Elt Ideal e) (L : List (View.Piece (Elt Ideal) ⟨2, ![m, n]⟩ e)) (r : Fin m) (c : Fin n) (a : Fin m') (b : Fin n')
    (hr : r.val = off 0 + a.val) (hc : c.val = off 1 + b.val) :
    v.read (Elt Ideal) (v.writes (Elt Ideal) f ((⟨Rect.unit (s := ⟨2, ![m, n]⟩) off ![m', n'] inb, w⟩ : View.Piece (Elt Ideal) ⟨2, ![m, n]⟩ e) :: L)) (ix2 r c)
      = w (ix2 a b) :=
  View.read_writes_cons_unit_of_mem v f (s := ⟨2, ![m, n]⟩) inb w L (ix2 r c) (ix2 a b) rfl (by
    intro k; fin_cases k
    · exact hr
    · exact hc)

/-- A matrix written by rectangles, read at a row outside the last one. -/
theorem wr2_row {m n m' n' : ℕ} {v : View sig κ sp ⟨2, ![m, n]⟩ e} (f : v.ty.Contents (Elt Ideal))
    (off : Fin 2 → ℕ) (inb : ∀ a, off a + (![m', n'] : Fin 2 → ℕ) a ≤ (![m, n] : Fin 2 → ℕ) a)
    (w : (⟨2, ![m', n']⟩ : Shape).Idx → Elt Ideal e) (L : List (View.Piece (Elt Ideal) ⟨2, ![m, n]⟩ e)) (r : Fin m) (c : Fin n)
    (hr : r.val < off 0 ∨ off 0 + m' ≤ r.val) :
    v.read (Elt Ideal) (v.writes (Elt Ideal) f ((⟨Rect.unit (s := ⟨2, ![m, n]⟩) off ![m', n'] inb, w⟩ : View.Piece (Elt Ideal) ⟨2, ![m, n]⟩ e) :: L)) (ix2 r c)
      = v.read (Elt Ideal) (v.writes (Elt Ideal) f L) (ix2 r c) :=
  View.read_writes_cons_unit_of_not_mem v f (s := ⟨2, ![m, n]⟩) inb w L (ix2 r c) rfl 0 hr
end Reads

theorem lane_sel (l : BitVec 32) (hl : l.toNat < 128) : Scalar.select (IntOp.cmpi CmpIPredicate.slt l 0#32) (IntOp.addi l 128#32) l = l := by
  have h2 : l.slt 0#32 = false := by
    rw [BitVec.slt_eq_decide, BitVec.toInt_eq_toNat_of_lt (by omega)]; simp
  simp [Scalar.select, IntOp.cmpi, h2]

theorem lane_toNat (n : ℕ) (h : n < 520) : (Scalar.remsi (BitVec.ofNat 32 n) 128#32).toNat = n % 128 := by
  interval_cases n <;> rfl

theorem off8_0 (i : grid0.Coords) : k0_off8 i 0 = 0 := rfl
theorem off8_1 (i : grid0.Coords) : k0_off8 i 1 = (i 0).val - (i 0).val % 128 := by
  have h : (i 0).val < 520 := (i 0).isLt
  unfold k0_off8
  generalize (i 0).val = n at *
  interval_cases n <;> rfl

theorem off9_0 (i : grid0.Coords) : k0_off9 i 0 = 32 := rfl
theorem off9_1 (i : grid0.Coords) : k0_off9 i 1 = (i 0).val - (i 0).val % 128 := by
  have h : (i 0).val < 520 := (i 0).isLt
  unfold k0_off9
  generalize (i 0).val = n at *
  interval_cases n <;> rfl

theorem off10_0 (i : grid0.Coords) : k0_off10 i 0 = 64 := rfl
theorem off10_1 (i : grid0.Coords) : k0_off10 i 1 = (i 0).val - (i 0).val % 128 := by
  have h : (i 0).val < 520 := (i 0).isLt
  unfold k0_off10
  generalize (i 0).val = n at *
  interval_cases n <;> rfl

theorem off11_0 (i : grid0.Coords) : k0_off11 i 0 = 96 := rfl
theorem off11_1 (i : grid0.Coords) : k0_off11 i 1 = (i 0).val - (i 0).val % 128 := by
  have h : (i 0).val < 520 := (i 0).isLt
  unfold k0_off11
  generalize (i 0).val = n at *
  interval_cases n <;> rfl

theorem off12_0 (i : grid0.Coords) : k0_off12 i 0 = 128 := rfl
theorem off12_1 (i : grid0.Coords) : k0_off12 i 1 = (i 0).val - (i 0).val % 128 := by
  have h : (i 0).val < 520 := (i 0).isLt
  unfold k0_off12
  generalize (i 0).val = n at *
  interval_cases n <;> rfl

theorem off13_0 (i : grid0.Coords) : k0_off13 i 0 = 160 := rfl
theorem off13_1 (i : grid0.Coords) : k0_off13 i 1 = (i 0).val - (i 0).val % 128 := by
  have h : (i 0).val < 520 := (i 0).isLt
  unfold k0_off13
  generalize (i 0).val = n at *
  interval_cases n <;> rfl

theorem off14_0 (i : grid0.Coords) : k0_off14 i 0 = 192 := rfl
theorem off14_1 (i : grid0.Coords) : k0_off14 i 1 = (i 0).val - (i 0).val % 128 := by
  have h : (i 0).val < 520 := (i 0).isLt
  unfold k0_off14
  generalize (i 0).val = n at *
  interval_cases n <;> rfl

theorem off15_0 (i : grid0.Coords) : k0_off15 i 0 = 224 := rfl
theorem off15_1 (i : grid0.Coords) : k0_off15 i 1 = (i 0).val - (i 0).val % 128 := by
  have h : (i 0).val < 520 := (i 0).isLt
  unfold k0_off15
  generalize (i 0).val = n at *
  interval_cases n <;> rfl

theorem off16_0 (i : grid0.Coords) : k0_off16 i 0 = 256 := rfl
theorem off16_1 (i : grid0.Coords) : k0_off16 i 1 = (i 0).val - (i 0).val % 128 := by
  have h : (i 0).val < 520 := (i 0).isLt
  unfold k0_off16
  generalize (i 0).val = n at *
  interval_cases n <;> rfl

theorem off25_0 (i : grid0.Coords) : k0_off25 i 0 = 0 := rfl
theorem off25_1 (i : grid0.Coords) : k0_off25 i 1 = (i 0).val - (i 0).val % 128 := by
  have h : (i 0).val < 520 := (i 0).isLt
  unfold k0_off25
  generalize (i 0).val = n at *
  interval_cases n <;> rfl

end Cert.KernelIdeal.Hand

end
-- ==== Proof.YLoop.lean ====
module

public import proofs.«01_k».proof.Proof.Gen.KernelIdeal.Loops
public import proofs.«01_k».proof.Proof.KitKI
public import proofs.«01_k».proof.Proof.YPay
public import Idealize.ShloMosaic.PureOps.Ideal
public import Idealize.ShloMosaic.Lib.IdealHost
public import Idealize.ShloMosaic.Lib.Pointwise
public import Idealize.ShloMosaic.Lib.WritesUnit

@[expose] public section

set_option maxRecDepth 16384

noncomputable section

namespace Cert.KernelIdeal.Hand

open Cert.KernelIdeal.Gen
open Idealize.ShloMosaic Idealize.ShloMosaic.TcCoe Idealize.ShloMosaic.Tactic

theorem trips16 : k0_t1_loop.trips = 16 := by decide

theorem off17_0 (k : Fin k0_t1_loop.trips) : k0_off17 k 0 = 9 * (2 * k.val) := by
  have h : k.val < 16 := trips16 ▸ k.isLt
  unfold k0_off17
  generalize k.val = n at *
  interval_cases n <;> rfl
theorem off17_1 (k : Fin k0_t1_loop.trips) : k0_off17 k 1 = 0 := rfl
theorem off19_0 (k : Fin k0_t1_loop.trips) : k0_off19 k 0 = 9 * (2 * k.val + 1) := by
  have h : k.val < 16 := trips16 ▸ k.isLt
  unfold k0_off19
  generalize k.val = n at *
  interval_cases n <;> rfl
theorem off19_1 (k : Fin k0_t1_loop.trips) : k0_off19 k 1 = 0 := rfl
theorem off18_1 (k : Fin k0_t1_loop.trips) : k0_off18 k 1 = 2 * k.val := by
  have h : k.val < 16 := trips16 ▸ k.isLt
  unfold k0_off18
  generalize k.val = n at *
  interval_cases n <;> rfl
theorem off20_1 (k : Fin k0_t1_loop.trips) : k0_off20 k 1 = 2 * k.val + 1 := by
  have h : k.val < 16 := trips16 ▸ k.isLt
  unfold k0_off20
  generalize k.val = n at *
  interval_cases n <;> rfl
theorem off18_0 (k : Fin k0_t1_loop.trips) : k0_off18 k 0 = 0 := rfl
theorem off18_2 (k : Fin k0_t1_loop.trips) : k0_off18 k 2 = 0 := rfl
theorem off18_3 (k : Fin k0_t1_loop.trips) : k0_off18 k 3 = 0 := rfl
theorem off20_0 (k : Fin k0_t1_loop.trips) : k0_off20 k 0 = 0 := rfl
theorem off20_2 (k : Fin k0_t1_loop.trips) : k0_off20 k 2 = 0 := rfl
theorem off20_3 (k : Fin k0_t1_loop.trips) : k0_off20 k 3 = 0 := rfl

/-- A sum of 128 terms whose last 64 are zero. -/
theorem sum64 (f : Fin 128 → EReal) (hf : ∀ k : Fin 128, 64 ≤ k.val → f k = 0) : ∑ k, f k = ∑ n : Fin 64, f ⟨n.val, by omega⟩ := by
  rw [show (∑ k, f k) = ∑ k : Fin (64 + 64), f k from rfl, Fin.sum_univ_add]
  rw [Finset.sum_eq_zero (s := Finset.univ) (f := fun i : Fin 64 => f (Fin.natAdd 64 i)) (fun i _ => hf _ (by simp)), add_zero]
  rfl

/-- Row `192 + t` of the product of the left block with one head's right block: only the head's state rows count there. -/
theorem pay60v (L : Vec Ideal S208x128 .bf16) (A B : Vec Ideal S8x128 .f32) (C D : Vec Ideal S1x1x64x128 .fp8e4m3) (t : Fin 8) (d : Fin 128)
    (hz : ∀ k : Fin 128, 64 ≤ k.val → L (ix2 ⟨192 + t.val, by omega⟩ k) = (0 : EReal)) :
    k0_pay60 (F := Ideal) L (k0_pay50 A C) (k0_pay54 B) (k0_pay55 B) (k0_pay56 D) (ix2 t d)
      = ∑ n : Fin 64, (L (ix2 ⟨192 + t.val, by omega⟩ ⟨n.val, by omega⟩) * C (ix4 0 0 n d) : EReal) := by
  unfold_payloads
  pointwise []
  rw [sum64 _ (fun k hk => by rw [hz k hk, zero_mul])]
  refine Finset.sum_congr rfl fun n _ => ?_
  rw [dif_pos (show n.val < 64 from n.isLt)]

/-- Row `192 + t` of the product of the left block with one head's right block: only the head's state rows count there. -/
theorem pay68v (L : Vec Ideal S208x128 .bf16) (A B : Vec Ideal S8x128 .f32) (C D : Vec Ideal S1x1x64x128 .fp8e4m3) (t : Fin 8) (d : Fin 128)
    (hz : ∀ k : Fin 128, 64 ≤ k.val → L (ix2 ⟨192 + t.val, by omega⟩ k) = (0 : EReal)) :
    k0_pay68 (k0_pay57 (F := Ideal) L (k0_pay50 A C) (k0_pay54 B) (k0_pay55 B) (k0_pay56 D)) (ix2 t d)
      = ∑ n : Fin 64, (L (ix2 ⟨192 + t.val, by omega⟩ ⟨n.val, by omega⟩) * D (ix4 0 0 n d) : EReal) := by
  unfold_payloads
  pointwise []
  rw [sum64 _ (fun k hk => by rw [hz k hk, zero_mul])]
  refine Finset.sum_congr rfl fun n _ => ?_
  rw [dif_pos (show n.val < 64 from n.isLt)]

/-- One trip of the loop over heads, at the rows `9 h + t` of the product buffer: it writes heads `2 k` and `2 k + 1`. -/
theorem ystep (c : Dev nD) (i : grid0.Coords) (arg2 : Memref sig .tc .vmem S1x32x64x128 .fp8e4m3) (harg2 : arg2.IsWhole) (arg3 : Memref sig .tc .vmem S1x32x128 .f32) (harg3 : arg3.IsWhole) (arg4 : Memref sig .tc .vmem S1x3x32x128 .bf16) (harg4 : arg4.IsWhole) (arg5 : Memref sig .tc .vmem S3x32x520 .bf16) (harg5 : arg5.IsWhole) (arg6 : Memref sig .tc .vmem S3x64x520 .bf16) (harg6 : arg6.IsWhole) (arg7 : Memref sig .tc .vmem S3x64x520 .bf16) (harg7 : arg7.IsWhole) (arg8 : Memref sig .tc .vmem S3x520x128 .f32) (harg8 : arg8.IsWhole) (arg9 : Memref sig .tc .vmem S32x3 .f32) (harg9 : arg9.IsWhole) (arg10 : Memref sig .tc .vmem S1x3x32x128 .bf16) (harg10 : arg10.IsWhole) (arg11 : Memref sig .tc .vmem S1x3x32x64x128 .fp8e4m3) (harg11 : arg11.IsWhole) (arg12 : Memref sig .tc .vmem S1x3x32x128 .f32) (harg12 : arg12.IsWhole) (arg13 : Memref sig .tc .vmem S352x640 .f32) (harg13 : arg13.IsWhole) (arg14 : Memref sig .tc .vmem S192x640 .f32) (harg14 : arg14.IsWhole) (arg15 : Memref sig .tc .vmem S8x640 .f32) (harg15 : arg15.IsWhole) (arg16 : Memref sig .tc .vmem S208x128 .bf16) (harg16 : arg16.IsWhole) (arg17 : Memref sig .tc .vmem S288x128 .f32) (harg17 : arg17.IsWhole) (arg18 : Memref sig .tc .vmem S32x192x128 .f32) (harg18 : arg18.IsWhole) (arg19 : Memref sig .tc .vmem S864x128 .f32) (harg19 : arg19.IsWhole) (arg20 : Memref sig .tc .vmem S288x128 .f32) (harg20 : arg20.IsWhole) (arg21 : Memref sig .tc .vmem S96x128 .f32) (harg21 : arg21.IsWhole) (arg22 : Memref sig .tc .vmem S96x128 .f32) (harg22 : arg22.IsWhole) (arg23 : Memref sig .tc .vmem S96x128 .f32) (harg23 : arg23.IsWhole)
    (x0 : Vec Ideal S1x32x64x128 .fp8e4m3) (v185 v308 v326 : FVec Ideal S32x128 .f32) (v360 : Vec Ideal S208x128 .bf16) (f17 : BufTy.Contents (Elt Ideal) arg17.view.ty)
    (Cf : ℕ → ℕ → EReal) (hz : ∀ (t : Fin 3) (k : Fin 128), v360 (ix2 ⟨192 + t.val, by omega⟩ k) = (if k.val < 64 then Cf t.val k.val else 0 : EReal))
    (f20 : BufTy.Contents (Elt Ideal) arg20.view.ty)
    (L : List (View.Piece (Elt Ideal) S288x128 .f32)) (k : Fin k0_t1_loop.trips) (h : Fin 32) (t : Fin 3) (d : Fin 128) :
    View.read (Elt Ideal) arg20.view (arg20.view.writes (Elt Ideal) f20 ((tripL_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v185 v308 v326 v360 (harg2.unread x0) f17 k).2.2 ++ L))
        (ix2 ⟨9 * h.val + t.val, by omega⟩ d)
      = (if h.val = 2 * k.val ∨ h.val = 2 * k.val + 1 then ∑ n : Fin 64, (Cf t.val n.val * x0 (ix4 0 h n d) : EReal)
        else View.read (Elt Ideal) arg20.view (arg20.view.writes (Elt Ideal) f20 L) (ix2 ⟨9 * h.val + t.val, by omega⟩ d) : EReal) := by
  have hz' : ∀ k : Fin 128, 64 ≤ k.val → v360 (ix2 ⟨192 + (⟨t.val, by omega⟩ : Fin 8).val, by have := t.isLt; simp; omega⟩ k) = (0 : EReal) := by
    intro k hk
    rw [hz t k, if_neg (by omega)]
  dsimp only [tripL_k0_t1]
  unfold trip_k0_t1
  dsimp only
  sl_unfold_run_names
  simp only [List.cons_append, List.nil_append]
  by_cases h1 : h.val = 2 * k.val + 1
  · rw [if_pos (Or.inr h1)]
    rw [wr2_mem f20 (k0_off19 k) _ _ _ _ _ (⟨t.val, by omega⟩ : Fin 8) d (by rw [off19_0]; dsimp only; omega) (by rw [off19_1]; omega)]
    rw [pay68v _ _ _ _ _ _ _ hz']
    refine Finset.sum_congr rfl fun n _ => ?_
    rw [rd4, hz t ⟨n.val, by omega⟩, if_pos n.isLt]
    exact congrArg (fun z => (Cf t.val n.val * z : EReal)) (congrArg x0 (ix4_congr (by simp; rfl) (by show k0_off20 k 1 + 0 = h.val; rw [off20_1]; omega) (by show k0_off20 k 2 + n.val = n.val; rw [off20_2]; omega) (by show k0_off20 k 3 + d.val = d.val; rw [off20_3]; omega)))
  · rw [wr2_row f20 (k0_off19 k) _ _ _ _ _ (by rw [off19_0]; dsimp only; omega)]
    by_cases h0 : h.val = 2 * k.val
    · rw [if_pos (Or.inl h0)]
      rw [wr2_mem f20 (k0_off17 k) _ _ _ _ _ (⟨t.val, by omega⟩ : Fin 8) d (by rw [off17_0]; dsimp only; omega) (by rw [off17_1]; omega)]
      rw [pay60v _ _ _ _ _ _ _ hz']
      refine Finset.sum_congr rfl fun n _ => ?_
      rw [rd4, hz t ⟨n.val, by omega⟩, if_pos n.isLt]
      exact congrArg (fun z => (Cf t.val n.val * z : EReal)) (congrArg x0 (ix4_congr (by simp; rfl) (by show k0_off18 k 1 + 0 = h.val; rw [off18_1]; omega) (by show k0_off18 k 2 + n.val = n.val; rw [off18_2]; omega) (by show k0_off18 k 3 + d.val = d.val; rw [off18_3]; omega)))
    · rw [if_neg (by omega), wr2_row f20 (k0_off17 k) _ _ _ _ _ (by rw [off17_0]; dsimp only; omega)]

/-- The product buffer after the loop: row `9 h + t` holds the product of step row `t` with head `h`'s state. -/
theorem ysval (c : Dev nD) (i : grid0.Coords) (arg2 : Memref sig .tc .vmem S1x32x64x128 .fp8e4m3) (harg2 : arg2.IsWhole) (arg3 : Memref sig .tc .vmem S1x32x128 .f32) (harg3 : arg3.IsWhole) (arg4 : Memref sig .tc .vmem S1x3x32x128 .bf16) (harg4 : arg4.IsWhole) (arg5 : Memref sig .tc .vmem S3x32x520 .bf16) (harg5 : arg5.IsWhole) (arg6 : Memref sig .tc .vmem S3x64x520 .bf16) (harg6 : arg6.IsWhole) (arg7 : Memref sig .tc .vmem S3x64x520 .bf16) (harg7 : arg7.IsWhole) (arg8 : Memref sig .tc .vmem S3x520x128 .f32) (harg8 : arg8.IsWhole) (arg9 : Memref sig .tc .vmem S32x3 .f32) (harg9 : arg9.IsWhole) (arg10 : Memref sig .tc .vmem S1x3x32x128 .bf16) (harg10 : arg10.IsWhole) (arg11 : Memref sig .tc .vmem S1x3x32x64x128 .fp8e4m3) (harg11 : arg11.IsWhole) (arg12 : Memref sig .tc .vmem S1x3x32x128 .f32) (harg12 : arg12.IsWhole) (arg13 : Memref sig .tc .vmem S352x640 .f32) (harg13 : arg13.IsWhole) (arg14 : Memref sig .tc .vmem S192x640 .f32) (harg14 : arg14.IsWhole) (arg15 : Memref sig .tc .vmem S8x640 .f32) (harg15 : arg15.IsWhole) (arg16 : Memref sig .tc .vmem S208x128 .bf16) (harg16 : arg16.IsWhole) (arg17 : Memref sig .tc .vmem S288x128 .f32) (harg17 : arg17.IsWhole) (arg18 : Memref sig .tc .vmem S32x192x128 .f32) (harg18 : arg18.IsWhole) (arg19 : Memref sig .tc .vmem S864x128 .f32) (harg19 : arg19.IsWhole) (arg20 : Memref sig .tc .vmem S288x128 .f32) (harg20 : arg20.IsWhole) (arg21 : Memref sig .tc .vmem S96x128 .f32) (harg21 : arg21.IsWhole) (arg22 : Memref sig .tc .vmem S96x128 .f32) (harg22 : arg22.IsWhole) (arg23 : Memref sig .tc .vmem S96x128 .f32) (harg23 : arg23.IsWhole)
    (x0 : Vec Ideal S1x32x64x128 .fp8e4m3) (v185 v308 v326 : FVec Ideal S32x128 .f32) (v360 : Vec Ideal S208x128 .bf16) (f17 : BufTy.Contents (Elt Ideal) arg17.view.ty)
    (Cf : ℕ → ℕ → EReal) (hz : ∀ (t : Fin 3) (k : Fin 128), v360 (ix2 ⟨192 + t.val, by omega⟩ k) = (if k.val < 64 then Cf t.val k.val else 0 : EReal))
    (f20 : BufTy.Contents (Elt Ideal) arg20.view.ty)
    (h : Fin 32) (t : Fin 3) (d : Fin 128) :
    View.read (Elt Ideal) arg20.view (arg20.view.writes (Elt Ideal) f20 (pb_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v185 v308 v326 v360 (harg2.unread x0) f17 16).2.2)
        (ix2 ⟨9 * h.val + t.val, by omega⟩ d)
      = (∑ n : Fin 64, (Cf t.val n.val * x0 (ix4 0 h n d)) : EReal) := by
  have key : ∀ m : ℕ, m ≤ 16 → h.val < 2 * m →
      View.read (Elt Ideal) arg20.view (arg20.view.writes (Elt Ideal) f20 (pb_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v185 v308 v326 v360 (harg2.unread x0) f17 m).2.2)
        (ix2 ⟨9 * h.val + t.val, by omega⟩ d)
      = (∑ n : Fin 64, (Cf t.val n.val * x0 (ix4 0 h n d)) : EReal) := by
    intro m
    induction m with
    | zero => intro _ h0; omega
    | succ m ih =>
      intro hm hh
      have := pb_k0_t1_succ (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v185 v308 v326 v360 (harg2.unread x0) f17 ⟨m, by rw [trips16]; omega⟩
      rw [show pb_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v185 v308 v326 v360 (harg2.unread x0) f17 (m + 1) = _ from this]
      rw [ystep c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 v185 v308 v326 v360 f17 Cf hz f20]
      split_ifs with hc
      · rfl
      · exact ih (by omega) (by dsimp only at hc; omega)
  exact key 16 le_rfl (by omega)

/-- The product buffer after the loop, loaded at every ninth row from `9 h0 + t` on. -/
theorem yload (c : Dev nD) (i : grid0.Coords) (arg2 : Memref sig .tc .vmem S1x32x64x128 .fp8e4m3) (harg2 : arg2.IsWhole) (arg3 : Memref sig .tc .vmem S1x32x128 .f32) (harg3 : arg3.IsWhole) (arg4 : Memref sig .tc .vmem S1x3x32x128 .bf16) (harg4 : arg4.IsWhole) (arg5 : Memref sig .tc .vmem S3x32x520 .bf16) (harg5 : arg5.IsWhole) (arg6 : Memref sig .tc .vmem S3x64x520 .bf16) (harg6 : arg6.IsWhole) (arg7 : Memref sig .tc .vmem S3x64x520 .bf16) (harg7 : arg7.IsWhole) (arg8 : Memref sig .tc .vmem S3x520x128 .f32) (harg8 : arg8.IsWhole) (arg9 : Memref sig .tc .vmem S32x3 .f32) (harg9 : arg9.IsWhole) (arg10 : Memref sig .tc .vmem S1x3x32x128 .bf16) (harg10 : arg10.IsWhole) (arg11 : Memref sig .tc .vmem S1x3x32x64x128 .fp8e4m3) (harg11 : arg11.IsWhole) (arg12 : Memref sig .tc .vmem S1x3x32x128 .f32) (harg12 : arg12.IsWhole) (arg13 : Memref sig .tc .vmem S352x640 .f32) (harg13 : arg13.IsWhole) (arg14 : Memref sig .tc .vmem S192x640 .f32) (harg14 : arg14.IsWhole) (arg15 : Memref sig .tc .vmem S8x640 .f32) (harg15 : arg15.IsWhole) (arg16 : Memref sig .tc .vmem S208x128 .bf16) (harg16 : arg16.IsWhole) (arg17 : Memref sig .tc .vmem S288x128 .f32) (harg17 : arg17.IsWhole) (arg18 : Memref sig .tc .vmem S32x192x128 .f32) (harg18 : arg18.IsWhole) (arg19 : Memref sig .tc .vmem S864x128 .f32) (harg19 : arg19.IsWhole) (arg20 : Memref sig .tc .vmem S288x128 .f32) (harg20 : arg20.IsWhole) (arg21 : Memref sig .tc .vmem S96x128 .f32) (harg21 : arg21.IsWhole) (arg22 : Memref sig .tc .vmem S96x128 .f32) (harg22 : arg22.IsWhole) (arg23 : Memref sig .tc .vmem S96x128 .f32) (harg23 : arg23.IsWhole)
    (x0 : Vec Ideal S1x32x64x128 .fp8e4m3) (v185 v308 v326 : FVec Ideal S32x128 .f32) (v360 : Vec Ideal S208x128 .bf16) (f17 : BufTy.Contents (Elt Ideal) arg17.view.ty)
    (Cf : ℕ → ℕ → EReal) (hz : ∀ (t : Fin 3) (k : Fin 128), v360 (ix2 ⟨192 + t.val, by omega⟩ k) = (if k.val < 64 then Cf t.val k.val else 0 : EReal))
    (f20 : BufTy.Contents (Elt Ideal) arg20.view.ty)
    (t h0 o : ℕ) (ht : t < 3) (hh : h0 + 8 ≤ 32) (ho : o = 9 * h0 + t) (inb) (N : ℕ) (hN : N = 16) :
    View.readAt (Elt Ideal) arg20.view (LoadRect.mk (s := S288x128) ![o, 0] ![8, 128] ![9, 1] inb)
      (arg20.view.writes (Elt Ideal) f20 (pb_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v185 v308 v326 v360 (harg2.unread x0) f17 N).2.2)
      = (fun x : S8x128.Idx => (∑ n : Fin 64, (Cf t n.val * at4 x0 0 (h0 + (x 0).val) n.val (x 1).val) : EReal)) := by
  subst ho hN
  funext x
  obtain ⟨a, b, rfl⟩ : ∃ (a : Fin 8) (b : Fin 128), x = ix2 a b := ⟨x 0, x 1, eq_ix2 x⟩
  refine (rdS (m' := 8) (n' := 128) _ _ inb a b (by simp; omega) (by simp)).trans ?_
  rw [show (ix2 ⟨(![9 * h0 + t, 0] : Fin 2 → ℕ) 0 + 9 * a.val, by simp; omega⟩ ⟨(![9 * h0 + t, 0] : Fin 2 → ℕ) 1 + b.val, by simp⟩ : S288x128.Idx)
    = ix2 ⟨9 * (⟨h0 + a.val, by omega⟩ : Fin 32).val + (⟨t, ht⟩ : Fin 3).val, by simp; omega⟩ b from by congr 1 <;> exact Fin.ext (by simp; try omega)]
  rw [ysval c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 v185 v308 v326 v360 f17 Cf hz f20]
  refine Finset.sum_congr rfl fun n _ => ?_
  rw [at4_eq (x0 : (⟨4, ![1, 32, 64, 128]⟩ : Shape).Idx → EReal)]
  rfl

end Cert.KernelIdeal.Hand

end
-- ==== Proof.Run63.lean ====
/- The second part of the body at a point, from what its first part leaves: a run of the memory operations. -/
module

public import proofs.«01_k».proof.Proof.Gen.KernelIdeal.Loops
public import proofs.«01_k».proof.Proof.KitKI

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- The second part of the body, whatever its first part is: it leaves something in the output blocks. -/
theorem rest63 (c : Dev nD) (i : grid0.Coords) (arg2 : Memref sig .tc .vmem S1x32x64x128 .fp8e4m3) (harg2 : arg2.IsWhole) (arg3 : Memref sig .tc .vmem S1x32x128 .f32) (harg3 : arg3.IsWhole) (arg4 : Memref sig .tc .vmem S1x3x32x128 .bf16) (harg4 : arg4.IsWhole) (arg5 : Memref sig .tc .vmem S3x32x520 .bf16) (harg5 : arg5.IsWhole) (arg6 : Memref sig .tc .vmem S3x64x520 .bf16) (harg6 : arg6.IsWhole) (arg7 : Memref sig .tc .vmem S3x64x520 .bf16) (harg7 : arg7.IsWhole) (arg8 : Memref sig .tc .vmem S3x520x128 .f32) (harg8 : arg8.IsWhole) (arg9 : Memref sig .tc .vmem S32x3 .f32) (harg9 : arg9.IsWhole) (arg10 : Memref sig .tc .vmem S1x3x32x128 .bf16) (harg10 : arg10.IsWhole) (arg11 : Memref sig .tc .vmem S1x3x32x64x128 .fp8e4m3) (harg11 : arg11.IsWhole) (arg12 : Memref sig .tc .vmem S1x3x32x128 .f32) (harg12 : arg12.IsWhole) (arg13 : Memref sig .tc .vmem S352x640 .f32) (harg13 : arg13.IsWhole) (arg14 : Memref sig .tc .vmem S192x640 .f32) (harg14 : arg14.IsWhole) (arg15 : Memref sig .tc .vmem S8x640 .f32) (harg15 : arg15.IsWhole) (arg16 : Memref sig .tc .vmem S208x128 .bf16) (harg16 : arg16.IsWhole) (arg17 : Memref sig .tc .vmem S288x128 .f32) (harg17 : arg17.IsWhole) (arg18 : Memref sig .tc .vmem S32x192x128 .f32) (harg18 : arg18.IsWhole) (arg19 : Memref sig .tc .vmem S864x128 .f32) (harg19 : arg19.IsWhole) (arg20 : Memref sig .tc .vmem S288x128 .f32) (harg20 : arg20.IsWhole) (arg21 : Memref sig .tc .vmem S96x128 .f32) (harg21 : arg21.IsWhole) (arg22 : Memref sig .tc .vmem S96x128 .f32) (harg22 : arg22.IsWhole) (arg23 : Memref sig .tc .vmem S96x128 .f32) (harg23 : arg23.IsWhole)
    (x0 : Vec F S1x32x64x128 .fp8e4m3) (x1 : Vec F S1x32x128 .f32) (x2 : Vec F S1x3x32x128 .bf16) (x3 : Vec F S3x32x520 .bf16) (x4 : Vec F S3x64x520 .bf16) (x5 : Vec F S3x64x520 .bf16) (x6 : Vec F S3x520x128 .f32) (x7 : Vec F S32x3 .f32) (X13 : Vec F S352x640 .f32) (X14 : Vec F S192x640 .f32) (X15 : Vec F S8x640 .f32) (xt0 : TbBuf0 (F := F) c tbM0_0) (P0 : sProp 𝕄)
    (h23 : ∀ (E : Set ℕ) (K : (Σ' (arg0 : BitVec 32) (v3 : BitVec 32) (v5 : BitVec 32) (v6 : IVec S64x128 32) (v11 : FVec F S64x128 .f32) (v22 : FVec F S64x128 .f32) (v33 : FVec F S64x128 .f32) (v35 : Vec F S64x128 .f32), IVec S64x128 32) → sProp 𝕄), iprop(P0 ∗ (∀ r, iprop(⌜r.1 = BitVec.ofNat 32 (i 0).val ∧ r.2.1 = Scalar.remsi (BitVec.ofNat 32 (i 0).val) 128#32 ∧ r.2.2.1 = Scalar.subi (BitVec.ofNat 32 (i 0).val) (Scalar.remsi (BitVec.ofNat 32 (i 0).val) 128#32)⌝ ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare X13 ∗ owns (c : Thread nD τ) arg14 fullShare X14 ∗ owns (c : Thread nD τ) arg15 fullShare X15 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0) -∗ K r))
          ⊢ wp frame (wpE (defs₀ (F := F)) Variants.none c none) E (k0_part23 i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K) :
      ∀ (E : Set ℕ) (K : (Σ' (v3 : BitVec 32) (v5 : BitVec 32), BitVec 32) → sProp 𝕄),
        iprop(P0 ∗ (∀ r, iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare X13 ∗ owns (c : Thread nD τ) arg14 fullShare X14 ∗ owns (c : Thread nD τ) arg15 fullShare X15 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0) -∗ K r))
          ⊢ wp frame (wpE (defs₀ (F := F)) Variants.none c none) E (k0_part63 i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [k0_part63_eq_skeleton]; unfold k0_part63_skel
    rw [wp_bind]
    iintro ⟨H0, Hk⟩
    iapply (h23 E _)
    isplitl [H0]; · iexact H0
    iintro %r ⟨%hr, H2, H3, H4, H5, H6, H7, H8, H9, H10, H11, H12, H13, H14, H15, H16, H17, H18, H19, H20, H21, H22, H23, HT0⟩
    obtain ⟨arg0, v3, v5, v6, v11, v22, v33, v35, v43⟩ := r
    obtain ⟨rfl, rfl, rfl⟩ := hr
    unfold owns
    icases H2 with ⟨%f2, %hf2, H2⟩
    icases H3 with ⟨%f3, %hf3, H3⟩
    icases H4 with ⟨%f4, %hf4, H4⟩
    icases H5 with ⟨%f5, %hf5, H5⟩
    icases H6 with ⟨%f6, %hf6, H6⟩
    icases H7 with ⟨%f7, %hf7, H7⟩
    icases H8 with ⟨%f8, %hf8, H8⟩
    icases H9 with ⟨%f9, %hf9, H9⟩
    icases H13 with ⟨%f13, %hf13, H13⟩
    icases H14 with ⟨%f14, %hf14, H14⟩
    icases H15 with ⟨%f15, %hf15, H15⟩
    icases H10 with ⟨%d10, %f10, -, H10⟩
    icases H11 with ⟨%d11, %f11, -, H11⟩
    icases H12 with ⟨%d12, %f12, -, H12⟩
    icases H16 with ⟨%d16, %f16, -, H16⟩
    icases H17 with ⟨%d17, %f17, -, H17⟩
    icases H18 with ⟨%d18, %f18, -, H18⟩
    icases H19 with ⟨%d19, %f19, -, H19⟩
    icases H20 with ⟨%d20, %f20, -, H20⟩
    icases H21 with ⟨%d21, %f21, -, H21⟩
    icases H22 with ⟨%d22, %f22, -, H22⟩
    icases H23 with ⟨%d23, %f23, -, H23⟩

    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg13.eq_unread hf13; obtain rfl := harg14.eq_unread hf14; obtain rfl := harg15.eq_unread hf15
    dsimp only
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    iexact HT0

end Cert.KernelIdeal.Hand

end
-- ==== Proof.YVal.lean ====
module

public import proofs.«01_k».proof.Proof.Gen.KernelIdeal.Loops
public import proofs.«01_k».proof.Proof.KitKI
public import proofs.«01_k».proof.Proof.YPay
public import proofs.«01_k».proof.Proof.YLoop
public import proofs.«01_k».proof.Proof.Run63
public import Idealize.ShloMosaic.PureOps.Ideal
public import Idealize.ShloMosaic.Lib.IdealHost
public import Idealize.ShloMosaic.Lib.Pointwise
public import Idealize.ShloMosaic.Lib.WritesUnit

@[expose] public section

set_option maxRecDepth 16384

noncomputable section

namespace Cert.KernelIdeal.Hand

open Cert.KernelIdeal.Gen
open Idealize.ShloMosaic Idealize.ShloMosaic.TcCoe Idealize.ShloMosaic.Tactic

/-- One element of the output at lane column `s`, from the coefficient rows, the state product `YS` and the step's own rows. -/
def yv (s : ℕ) (YS : ℕ → ℕ → ℕ → EReal) (X13 : S352x640.Idx → EReal) (X15 : S8x640.Idx → EReal) (x1 : S1x32x128.Idx → EReal)
    (x2 : S1x3x32x128.Idx → EReal) (x7 : S32x3.Idx → EReal) : S1x3x32x128.Idx → EReal := fun j =>
  let h := (j 2).val
  let d := (j 3).val
  if (j 1).val = 0 then
    YS 0 h d * (at2 X13 (192 + h) s * at3 x1 0 h d) + at2 X15 0 s * (at2 X13 h s * at4 x2 0 0 h d) + at2 x7 h 2 * at4 x2 0 0 h d
  else if (j 1).val = 1 then
    YS 1 h d * (at2 X13 (224 + h) s * at3 x1 0 h d) + at2 X15 1 s * (at2 X13 (32 + h) s * at4 x2 0 0 h d)
      + at2 X15 2 s * (at2 X13 (64 + h) s * at4 x2 0 1 h d) + at2 x7 h 2 * at4 x2 0 1 h d
  else
    YS 2 h d * (at2 X13 (256 + h) s * at3 x1 0 h d) + at2 X15 3 s * (at2 X13 (96 + h) s * at4 x2 0 0 h d)
      + at2 X15 4 s * (at2 X13 (128 + h) s * at4 x2 0 1 h d) + at2 X15 5 s * (at2 X13 (160 + h) s * at4 x2 0 2 h d) + at2 x7 h 2 * at4 x2 0 2 h d

theorem yv_0 (s : ℕ) (YS : ℕ → ℕ → ℕ → EReal) (X13 : S352x640.Idx → EReal) (X15 : S8x640.Idx → EReal) (x1 : S1x32x128.Idx → EReal)
    (x2 : S1x3x32x128.Idx → EReal) (x7 : S32x3.Idx → EReal) (j : S1x3x32x128.Idx) (h d : ℕ) (h1 : (j 1).val = 0) (h2 : (j 2).val = h) (h3 : (j 3).val = d) :
    yv s YS X13 X15 x1 x2 x7 j = YS 0 h d * (at2 X13 (192 + h) s * at3 x1 0 h d) + at2 X15 0 s * (at2 X13 h s * at4 x2 0 0 h d) + at2 x7 h 2 * at4 x2 0 0 h d := by
  subst h2 h3
  simp only [yv, h1]
  rfl

theorem yv_1 (s : ℕ) (YS : ℕ → ℕ → ℕ → EReal) (X13 : S352x640.Idx → EReal) (X15 : S8x640.Idx → EReal) (x1 : S1x32x128.Idx → EReal)
    (x2 : S1x3x32x128.Idx → EReal) (x7 : S32x3.Idx → EReal) (j : S1x3x32x128.Idx) (h d : ℕ) (h1 : (j 1).val = 1) (h2 : (j 2).val = h) (h3 : (j 3).val = d) :
    yv s YS X13 X15 x1 x2 x7 j = YS 1 h d * (at2 X13 (224 + h) s * at3 x1 0 h d) + at2 X15 1 s * (at2 X13 (32 + h) s * at4 x2 0 0 h d)
      + at2 X15 2 s * (at2 X13 (64 + h) s * at4 x2 0 1 h d) + at2 x7 h 2 * at4 x2 0 1 h d := by
  subst h2 h3
  simp only [yv, h1]
  rfl

theorem yv_2 (s : ℕ) (YS : ℕ → ℕ → ℕ → EReal) (X13 : S352x640.Idx → EReal) (X15 : S8x640.Idx → EReal) (x1 : S1x32x128.Idx → EReal)
    (x2 : S1x3x32x128.Idx → EReal) (x7 : S32x3.Idx → EReal) (j : S1x3x32x128.Idx) (h d : ℕ) (h1 : (j 1).val = 2) (h2 : (j 2).val = h) (h3 : (j 3).val = d) :
    yv s YS X13 X15 x1 x2 x7 j = YS 2 h d * (at2 X13 (256 + h) s * at3 x1 0 h d) + at2 X15 3 s * (at2 X13 (96 + h) s * at4 x2 0 0 h d)
      + at2 X15 4 s * (at2 X13 (128 + h) s * at4 x2 0 1 h d) + at2 X15 5 s * (at2 X13 (160 + h) s * at4 x2 0 2 h d) + at2 x7 h 2 * at4 x2 0 2 h d := by
  subst h2 h3
  simp only [yv, h1]
  rfl

theorem off5_1 (i : grid0.Coords) : k0_off5 i 1 = (i 0).val := by
  have h : (i 0).val < 520 := (i 0).isLt
  unfold k0_off5
  generalize (i 0).val = n at *
  interval_cases n <;> rfl
theorem off6_1 (i : grid0.Coords) : k0_off6 i 1 = (i 0).val := by
  have h : (i 0).val < 520 := (i 0).isLt
  unfold k0_off6
  generalize (i 0).val = n at *
  interval_cases n <;> rfl
theorem off7_1 (i : grid0.Coords) : k0_off7 i 1 = (i 0).val := by
  have h : (i 0).val < 520 := (i 0).isLt
  unfold k0_off7
  generalize (i 0).val = n at *
  interval_cases n <;> rfl
theorem off5_0 (i : grid0.Coords) : k0_off5 i 0 = 0 := rfl
theorem off6_0 (i : grid0.Coords) : k0_off6 i 0 = 1 := rfl
theorem off7_0 (i : grid0.Coords) : k0_off7 i 0 = 2 := rfl
theorem off5_2 (i : grid0.Coords) : k0_off5 i 2 = 0 := rfl
theorem off6_2 (i : grid0.Coords) : k0_off6 i 2 = 0 := rfl
theorem off7_2 (i : grid0.Coords) : k0_off7 i 2 = 0 := rfl

/-- The left block's rows `192 + t`: the step's output rows, zero past column 64. -/
theorem lhsRow (i : grid0.Coords) (arg8 : Memref sig .tc .vmem S3x520x128 .f32) (harg8 : arg8.IsWhole) (arg16 : Memref sig .tc .vmem S208x128 .bf16)
    (x6 : Vec Ideal S3x520x128 .f32) (hx6 : ∀ (t : Fin 3) (s : Fin 520) (k : Fin 128), 64 ≤ k.val → x6 (ix3 t s k) = (0 : EReal))
    (inb5 inb6 inb7 inb16) (L : List (View.Piece (Elt Ideal) S208x128 .bf16)) (inb) (t : Fin 3) (k : Fin 128) :
    (arg16.view.readCov ((⟨Rect.unit (s := S208x128) ![192, 0] ![16, 128] inb16,
        k0_pay136 (F := Ideal) (View.readAt (Elt Ideal) arg8.view (Rect.unit (s := S3x520x128) (k0_off5 i) ![1, 1, 128] inb5).toLoadRect (harg8.unread x6))
          (View.readAt (Elt Ideal) arg8.view (Rect.unit (s := S3x520x128) (k0_off6 i) ![1, 1, 128] inb6).toLoadRect (harg8.unread x6))
          (View.readAt (Elt Ideal) arg8.view (Rect.unit (s := S3x520x128) (k0_off7 i) ![1, 1, 128] inb7).toLoadRect (harg8.unread x6))⟩ : View.Piece (Elt Ideal) S208x128 .bf16) :: L)
      (Rect.unit (s := S208x128) ![0, 0] ![208, 128] inb).toLoadRect : S208x128.Idx → EReal) (ix2 ⟨192 + t.val, by omega⟩ k)
      = if k.val < 64 then at3 x6 t.val (i 0).val k.val else 0 := by
  have hrd : ∀ f (y : S208x128.Idx), View.readAt (Elt Ideal) arg16.view (Rect.unit (s := S208x128) ![0, 0] ![208, 128] inb).toLoadRect f y = arg16.view.read (Elt Ideal) f y := by
    intro f y
    rw [View.readAt_apply]
    congr 1
    funext a
    fin_cases a <;> exact Fin.ext (by simp [LoadRect.idx, Rect.unit])
  unfold View.readCov
  rw [hrd, wr2_mem _ ![192, 0] _ _ _ _ _ (⟨t.val, by omega⟩ : Fin 16) k (by simp) (by simp)]
  have hi : (i 0).val < 520 := (i 0).isLt
  have hk : ∀ t : Fin 3, at3 x6 t.val (i 0).val k.val = x6 (ix3 t ⟨(i 0).val, hi⟩ k) := fun t =>
    (at3_eq (x6 : (⟨3, ![3, 520, 128]⟩ : Shape).Idx → EReal) t ⟨(i 0).val, hi⟩ k).symm
  have hfin : (if k.val < 64 then at3 x6 t.val (i 0).val k.val else 0 : EReal) = at3 x6 t.val (i 0).val k.val := by
    split_ifs with h
    · rfl
    · rw [hk, hx6 _ _ _ (by omega)]
  rw [hfin]
  fin_cases t
  · unfold_payloads
    pointwise [rd3]
    simp only [at3_eq (x6 : (⟨3, ![3, 520, 128]⟩ : Shape).Idx → EReal), off5_0, off5_1, off5_2, off6_0, off6_1, off6_2, off7_0, off7_1, off7_2, Nat.zero_add, Nat.add_zero, Fin.val_zero]
  · unfold_payloads
    pointwise [rd3]
    simp only [at3_eq (x6 : (⟨3, ![3, 520, 128]⟩ : Shape).Idx → EReal), off5_0, off5_1, off5_2, off6_0, off6_1, off6_2, off7_0, off7_1, off7_2, Nat.zero_add, Nat.add_zero, Fin.val_zero]
  · unfold_payloads
    pointwise [rd3]
    simp only [at3_eq (x6 : (⟨3, ![3, 520, 128]⟩ : Shape).Idx → EReal), off5_0, off5_1, off5_2, off6_0, off6_1, off6_2, off7_0, off7_1, off7_2, Nat.zero_add, Nat.add_zero, Fin.val_zero]

/-- An index of the output block lies in the piece of its token and its group of eight heads. -/
theorem cov (y : S1x3x32x128.Idx) (t g : ℕ) (inb : ∀ a, (![0, t, g, 0] : Fin 4 → ℕ) a + S1x1x8x128.size a ≤ S1x3x32x128.size a)
    (h1 : (y 1).val = t) (h2 : g ≤ (y 2).val) (h3 : (y 2).val < g + 8) :
    y ∈ (Rect.unit (s := S1x3x32x128) ![0, t, g, 0] S1x1x8x128.size inb).set := by
  have h0 : (y 0).val < 1 := (y 0).isLt
  have h4 : (y 3).val < 128 := (y 3).isLt
  refine Rect.mem_set_unit.2 fun a => ?_
  match a with
  | ⟨0, _⟩ => exact ⟨Nat.zero_le _, by show (y 0).val < 0 + 1; omega⟩
  | ⟨1, _⟩ => exact ⟨by show t ≤ (y 1).val; omega, by show (y 1).val < t + 1; omega⟩
  | ⟨2, _⟩ => exact ⟨h2, h3⟩
  | ⟨3, _⟩ => exact ⟨Nat.zero_le _, by show (y 3).val < 0 + 128; omega⟩

theorem here {α : Type*} {P : α → Prop} (a : α) (L : List α) (h : P a) : ∃ p ∈ a :: L, P p := ⟨a, List.mem_cons_self, h⟩
theorem there {α : Type*} {P : α → Prop} (a : α) (L : List α) (h : ∃ p ∈ L, P p) : ∃ p ∈ a :: L, P p :=
  h.imp fun _ hp => ⟨List.mem_cons_of_mem a hp.1, hp.2⟩

/-- The state product entering an output element. -/
def ysum (s : ℕ) (x6 : S3x520x128.Idx → EReal) (x0 : S1x32x64x128.Idx → EReal) : ℕ → ℕ → ℕ → EReal :=
  fun t h d => ∑ n : Fin 64, at3 x6 t s n.val * at4 x0 0 h n.val d

set_option maxHeartbeats 8000000 in
/-- The twelve pieces cover the output block. -/
theorem ycov (c : Dev nD) (i : grid0.Coords) (arg2 : Memref sig .tc .vmem S1x32x64x128 .fp8e4m3) (harg2 : arg2.IsWhole) (arg3 : Memref sig .tc .vmem S1x32x128 .f32) (harg3 : arg3.IsWhole) (arg4 : Memref sig .tc .vmem S1x3x32x128 .bf16) (harg4 : arg4.IsWhole) (arg5 : Memref sig .tc .vmem S3x32x520 .bf16) (harg5 : arg5.IsWhole) (arg6 : Memref sig .tc .vmem S3x64x520 .bf16) (harg6 : arg6.IsWhole) (arg7 : Memref sig .tc .vmem S3x64x520 .bf16) (harg7 : arg7.IsWhole) (arg8 : Memref sig .tc .vmem S3x520x128 .f32) (harg8 : arg8.IsWhole) (arg9 : Memref sig .tc .vmem S32x3 .f32) (harg9 : arg9.IsWhole) (arg10 : Memref sig .tc .vmem S1x3x32x128 .bf16) (harg10 : arg10.IsWhole) (arg11 : Memref sig .tc .vmem S1x3x32x64x128 .fp8e4m3) (harg11 : arg11.IsWhole) (arg12 : Memref sig .tc .vmem S1x3x32x128 .f32) (harg12 : arg12.IsWhole) (arg13 : Memref sig .tc .vmem S352x640 .f32) (harg13 : arg13.IsWhole) (arg14 : Memref sig .tc .vmem S192x640 .f32) (harg14 : arg14.IsWhole) (arg15 : Memref sig .tc .vmem S8x640 .f32) (harg15 : arg15.IsWhole) (arg16 : Memref sig .tc .vmem S208x128 .bf16) (harg16 : arg16.IsWhole) (arg17 : Memref sig .tc .vmem S288x128 .f32) (harg17 : arg17.IsWhole) (arg18 : Memref sig .tc .vmem S32x192x128 .f32) (harg18 : arg18.IsWhole) (arg19 : Memref sig .tc .vmem S864x128 .f32) (harg19 : arg19.IsWhole) (arg20 : Memref sig .tc .vmem S288x128 .f32) (harg20 : arg20.IsWhole) (arg21 : Memref sig .tc .vmem S96x128 .f32) (harg21 : arg21.IsWhole) (arg22 : Memref sig .tc .vmem S96x128 .f32) (harg22 : arg22.IsWhole) (arg23 : Memref sig .tc .vmem S96x128 .f32) (harg23 : arg23.IsWhole)
    (x0 : Vec Ideal S1x32x64x128 .fp8e4m3) (x1 : Vec Ideal S1x32x128 .f32) (x2 : Vec Ideal S1x3x32x128 .bf16) (x6 : Vec Ideal S3x520x128 .f32) (x7 : Vec Ideal S32x3 .f32) (X13 : Vec Ideal S352x640 .f32) (X15 : Vec Ideal S8x640 .f32)
    (v6 : IVec S64x128 32) (v11 v22 v33 : FVec Ideal S64x128 .f32) (v35 : Vec Ideal S64x128 .f32) (v43 : IVec S64x128 32) (f17 : BufTy.Contents (Elt Ideal) arg17.view.ty) (f20 : BufTy.Contents (Elt Ideal) arg20.view.ty)
    (y : S1x3x32x128.Idx) :
    ∃ p ∈ (rest63.sl.H10_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x6 x7 X13 X15 v6 v11 v22 v33 v35 v43 f17 f20), y ∈ p.1.set := by
  sl_unfold_run_names
  have h1 : (y 1).val < 3 := (y 1).isLt
  have h2 : (y 2).val < 32 := (y 2).isLt
  have ht : (y 1).val = 2 ∨ (y 1).val = 1 ∨ (y 1).val = 0 := by omega
  have hg : (y 2).val / 8 = 3 ∨ (y 2).val / 8 = 2 ∨ (y 2).val / 8 = 1 ∨ (y 2).val / 8 = 0 := by omega
  rcases ht with ht | ht | ht
  · rcases hg with hg | hg | hg | hg
    · exact here _ _ (cov y 2 24 (by decide) ht (by omega) (by omega))
    · exact there _ _ (here _ _ (cov y 2 16 (by decide) ht (by omega) (by omega)))
    · exact there _ _ (there _ _ (here _ _ (cov y 2 8 (by decide) ht (by omega) (by omega))))
    · exact there _ _ (there _ _ (there _ _ (here _ _ (cov y 2 0 (by decide) ht (by omega) (by omega)))))
  · refine there _ _ (there _ _ (there _ _ (there _ _ ?_)))
    rcases hg with hg | hg | hg | hg
    · exact here _ _ (cov y 1 24 (by decide) ht (by omega) (by omega))
    · exact there _ _ (here _ _ (cov y 1 16 (by decide) ht (by omega) (by omega)))
    · exact there _ _ (there _ _ (here _ _ (cov y 1 8 (by decide) ht (by omega) (by omega))))
    · exact there _ _ (there _ _ (there _ _ (here _ _ (cov y 1 0 (by decide) ht (by omega) (by omega)))))
  · refine there _ _ (there _ _ (there _ _ (there _ _ (there _ _ (there _ _ (there _ _ (there _ _ ?_)))))))
    rcases hg with hg | hg | hg | hg
    · exact here _ _ (cov y 0 24 (by decide) ht (by omega) (by omega))
    · exact there _ _ (here _ _ (cov y 0 16 (by decide) ht (by omega) (by omega)))
    · exact there _ _ (there _ _ (here _ _ (cov y 0 8 (by decide) ht (by omega) (by omega))))
    · exact there _ _ (there _ _ (there _ _ (here _ _ (cov y 0 0 (by decide) ht (by omega) (by omega)))))

set_option maxHeartbeats 8000000 in
/-- The output block of one grid step, element by element. -/
theorem yval (c : Dev nD) (i : grid0.Coords) (arg2 : Memref sig .tc .vmem S1x32x64x128 .fp8e4m3) (harg2 : arg2.IsWhole) (arg3 : Memref sig .tc .vmem S1x32x128 .f32) (harg3 : arg3.IsWhole) (arg4 : Memref sig .tc .vmem S1x3x32x128 .bf16) (harg4 : arg4.IsWhole) (arg5 : Memref sig .tc .vmem S3x32x520 .bf16) (harg5 : arg5.IsWhole) (arg6 : Memref sig .tc .vmem S3x64x520 .bf16) (harg6 : arg6.IsWhole) (arg7 : Memref sig .tc .vmem S3x64x520 .bf16) (harg7 : arg7.IsWhole) (arg8 : Memref sig .tc .vmem S3x520x128 .f32) (harg8 : arg8.IsWhole) (arg9 : Memref sig .tc .vmem S32x3 .f32) (harg9 : arg9.IsWhole) (arg10 : Memref sig .tc .vmem S1x3x32x128 .bf16) (harg10 : arg10.IsWhole) (arg11 : Memref sig .tc .vmem S1x3x32x64x128 .fp8e4m3) (harg11 : arg11.IsWhole) (arg12 : Memref sig .tc .vmem S1x3x32x128 .f32) (harg12 : arg12.IsWhole) (arg13 : Memref sig .tc .vmem S352x640 .f32) (harg13 : arg13.IsWhole) (arg14 : Memref sig .tc .vmem S192x640 .f32) (harg14 : arg14.IsWhole) (arg15 : Memref sig .tc .vmem S8x640 .f32) (harg15 : arg15.IsWhole) (arg16 : Memref sig .tc .vmem S208x128 .bf16) (harg16 : arg16.IsWhole) (arg17 : Memref sig .tc .vmem S288x128 .f32) (harg17 : arg17.IsWhole) (arg18 : Memref sig .tc .vmem S32x192x128 .f32) (harg18 : arg18.IsWhole) (arg19 : Memref sig .tc .vmem S864x128 .f32) (harg19 : arg19.IsWhole) (arg20 : Memref sig .tc .vmem S288x128 .f32) (harg20 : arg20.IsWhole) (arg21 : Memref sig .tc .vmem S96x128 .f32) (harg21 : arg21.IsWhole) (arg22 : Memref sig .tc .vmem S96x128 .f32) (harg22 : arg22.IsWhole) (arg23 : Memref sig .tc .vmem S96x128 .f32) (harg23 : arg23.IsWhole)
    (x0 : Vec Ideal S1x32x64x128 .fp8e4m3) (x1 : Vec Ideal S1x32x128 .f32) (x2 : Vec Ideal S1x3x32x128 .bf16) (x6 : Vec Ideal S3x520x128 .f32) (x7 : Vec Ideal S32x3 .f32) (X13 : Vec Ideal S352x640 .f32) (X15 : Vec Ideal S8x640 .f32)
    (v6 : IVec S64x128 32) (v11 v22 v33 : FVec Ideal S64x128 .f32) (v35 : Vec Ideal S64x128 .f32) (v43 : IVec S64x128 32) (f17 : BufTy.Contents (Elt Ideal) arg17.view.ty) (f20 : BufTy.Contents (Elt Ideal) arg20.view.ty)
    (hx6 : ∀ (t : Fin 3) (s : Fin 520) (k : Fin 128), 64 ≤ k.val → x6 (ix3 t s k) = (0 : EReal)) (y : S1x3x32x128.Idx) :
    View.read (Elt Ideal) arg10.view (arg10.view.writes (Elt Ideal) arg10.view.junk (rest63.sl.H10_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x6 x7 X13 X15 v6 v11 v22 v33 v35 v43 f17 f20)) y
      = yv (i 0).val (ysum (i 0).val x6 x0) X13 X15 x1 x2 x7 y := by
  refine View.read_writes_apply_of_pieces (Val := Elt Ideal) (e := .bf16) _ _ (yv (i 0).val (ysum (i 0).val x6 x0) X13 X15 x1 x2 x7 : S1x3x32x128.Idx → Elt Ideal .bf16) _ ?_ y ?_
  · have hi : (i 0).val < 520 := (i 0).isLt
    have hl := lane_toNat _ hi
    have hl' : (Scalar.remsi (BitVec.ofNat 32 (i 0).val) 128#32).toNat < 128 := by omega
    have hsel := lane_sel _ hl'
    have hc : (i 0).val - (i 0).val % 128 + (i 0).val % 128 = (i 0).val := by omega
    have hm : (i 0).val % 128 % 128 = (i 0).val % 128 := by omega
    sl_unfold_run_names
    refine List.forall_mem_cons.2 ⟨?_, ?_⟩
    · intro q
      dsimp only
      idx_vars q
      rw [yload c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 _ _ _ _ _ (fun t n => at3 x6 t (i 0).val n) (lhsRow i arg8 harg8 arg16 x6 hx6 _ _ _ _ _ _) f20 2 24 218 (by omega) (by omega) rfl _ _ trips16]
      unfold_payloads
      pointwise [hsel, hl, rd2, rd3, rd4]
      rw [yv_2 _ _ _ _ _ _ _ _ (24 + q2.val) q3.val (by show 2 + 1 * q1.val = 2; omega) (by show 24 + 1 * q2.val = 24 + q2.val; omega) (by show 0 + 1 * q3.val = q3.val; omega)]
      simp only [at2_eq X13, at2_eq X15, at2_eq (x7 : S32x3.Idx → EReal), at3_eq (x1 : S1x32x128.Idx → EReal), at4_eq (x2 : S1x3x32x128.Idx → EReal),
        off8_0, off8_1, off9_0, off9_1, off10_0, off10_1, off11_0, off11_1, off12_0, off12_1, off13_0, off13_1, off14_0, off14_1, off15_0, off15_1,
        off16_0, off16_1, off25_0, off25_1, ysum, hm, hc, Nat.zero_add, Nat.add_zero, Fin.val_zero, Fin.val_one, Fin.val_two]
    refine List.forall_mem_cons.2 ⟨?_, ?_⟩
    · intro q
      dsimp only
      idx_vars q
      rw [yload c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 _ _ _ _ _ (fun t n => at3 x6 t (i 0).val n) (lhsRow i arg8 harg8 arg16 x6 hx6 _ _ _ _ _ _) f20 2 16 146 (by omega) (by omega) rfl _ _ trips16]
      unfold_payloads
      pointwise [hsel, hl, rd2, rd3, rd4]
      rw [yv_2 _ _ _ _ _ _ _ _ (16 + q2.val) q3.val (by show 2 + 1 * q1.val = 2; omega) (by show 16 + 1 * q2.val = 16 + q2.val; omega) (by show 0 + 1 * q3.val = q3.val; omega)]
      simp only [at2_eq X13, at2_eq X15, at2_eq (x7 : S32x3.Idx → EReal), at3_eq (x1 : S1x32x128.Idx → EReal), at4_eq (x2 : S1x3x32x128.Idx → EReal),
        off8_0, off8_1, off9_0, off9_1, off10_0, off10_1, off11_0, off11_1, off12_0, off12_1, off13_0, off13_1, off14_0, off14_1, off15_0, off15_1,
        off16_0, off16_1, off25_0, off25_1, ysum, hm, hc, Nat.zero_add, Nat.add_zero, Fin.val_zero, Fin.val_one, Fin.val_two]
    refine List.forall_mem_cons.2 ⟨?_, ?_⟩
    · intro q
      dsimp only
      idx_vars q
      rw [yload c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 _ _ _ _ _ (fun t n => at3 x6 t (i 0).val n) (lhsRow i arg8 harg8 arg16 x6 hx6 _ _ _ _ _ _) f20 2 8 74 (by omega) (by omega) rfl _ _ trips16]
      unfold_payloads
      pointwise [hsel, hl, rd2, rd3, rd4]
      rw [yv_2 _ _ _ _ _ _ _ _ (8 + q2.val) q3.val (by show 2 + 1 * q1.val = 2; omega) (by show 8 + 1 * q2.val = 8 + q2.val; omega) (by show 0 + 1 * q3.val = q3.val; omega)]
      simp only [at2_eq X13, at2_eq X15, at2_eq (x7 : S32x3.Idx → EReal), at3_eq (x1 : S1x32x128.Idx → EReal), at4_eq (x2 : S1x3x32x128.Idx → EReal),
        off8_0, off8_1, off9_0, off9_1, off10_0, off10_1, off11_0, off11_1, off12_0, off12_1, off13_0, off13_1, off14_0, off14_1, off15_0, off15_1,
        off16_0, off16_1, off25_0, off25_1, ysum, hm, hc, Nat.zero_add, Nat.add_zero, Fin.val_zero, Fin.val_one, Fin.val_two]
    refine List.forall_mem_cons.2 ⟨?_, ?_⟩
    · intro q
      dsimp only
      idx_vars q
      rw [yload c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 _ _ _ _ _ (fun t n => at3 x6 t (i 0).val n) (lhsRow i arg8 harg8 arg16 x6 hx6 _ _ _ _ _ _) f20 2 0 2 (by omega) (by omega) rfl _ _ trips16]
      unfold_payloads
      pointwise [hsel, hl, rd2, rd3, rd4]
      rw [yv_2 _ _ _ _ _ _ _ _ (0 + q2.val) q3.val (by show 2 + 1 * q1.val = 2; omega) (by show 0 + 1 * q2.val = 0 + q2.val; omega) (by show 0 + 1 * q3.val = q3.val; omega)]
      simp only [at2_eq X13, at2_eq X15, at2_eq (x7 : S32x3.Idx → EReal), at3_eq (x1 : S1x32x128.Idx → EReal), at4_eq (x2 : S1x3x32x128.Idx → EReal),
        off8_0, off8_1, off9_0, off9_1, off10_0, off10_1, off11_0, off11_1, off12_0, off12_1, off13_0, off13_1, off14_0, off14_1, off15_0, off15_1,
        off16_0, off16_1, off25_0, off25_1, ysum, hm, hc, Nat.zero_add, Nat.add_zero, Fin.val_zero, Fin.val_one, Fin.val_two]
    refine List.forall_mem_cons.2 ⟨?_, ?_⟩
    · intro q
      dsimp only
      idx_vars q
      rw [yload c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 _ _ _ _ _ (fun t n => at3 x6 t (i 0).val n) (lhsRow i arg8 harg8 arg16 x6 hx6 _ _ _ _ _ _) f20 1 24 217 (by omega) (by omega) rfl _ _ trips16]
      unfold_payloads
      pointwise [hsel, hl, rd2, rd3, rd4]
      rw [yv_1 _ _ _ _ _ _ _ _ (24 + q2.val) q3.val (by show 1 + 1 * q1.val = 1; omega) (by show 24 + 1 * q2.val = 24 + q2.val; omega) (by show 0 + 1 * q3.val = q3.val; omega)]
      simp only [at2_eq X13, at2_eq X15, at2_eq (x7 : S32x3.Idx → EReal), at3_eq (x1 : S1x32x128.Idx → EReal), at4_eq (x2 : S1x3x32x128.Idx → EReal),
        off8_0, off8_1, off9_0, off9_1, off10_0, off10_1, off11_0, off11_1, off12_0, off12_1, off13_0, off13_1, off14_0, off14_1, off15_0, off15_1,
        off16_0, off16_1, off25_0, off25_1, ysum, hm, hc, Nat.zero_add, Nat.add_zero, Fin.val_zero, Fin.val_one, Fin.val_two]
    refine List.forall_mem_cons.2 ⟨?_, ?_⟩
    · intro q
      dsimp only
      idx_vars q
      rw [yload c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 _ _ _ _ _ (fun t n => at3 x6 t (i 0).val n) (lhsRow i arg8 harg8 arg16 x6 hx6 _ _ _ _ _ _) f20 1 16 145 (by omega) (by omega) rfl _ _ trips16]
      unfold_payloads
      pointwise [hsel, hl, rd2, rd3, rd4]
      rw [yv_1 _ _ _ _ _ _ _ _ (16 + q2.val) q3.val (by show 1 + 1 * q1.val = 1; omega) (by show 16 + 1 * q2.val = 16 + q2.val; omega) (by show 0 + 1 * q3.val = q3.val; omega)]
      simp only [at2_eq X13, at2_eq X15, at2_eq (x7 : S32x3.Idx → EReal), at3_eq (x1 : S1x32x128.Idx → EReal), at4_eq (x2 : S1x3x32x128.Idx → EReal),
        off8_0, off8_1, off9_0, off9_1, off10_0, off10_1, off11_0, off11_1, off12_0, off12_1, off13_0, off13_1, off14_0, off14_1, off15_0, off15_1,
        off16_0, off16_1, off25_0, off25_1, ysum, hm, hc, Nat.zero_add, Nat.add_zero, Fin.val_zero, Fin.val_one, Fin.val_two]
    refine List.forall_mem_cons.2 ⟨?_, ?_⟩
    · intro q
      dsimp only
      idx_vars q
      rw [yload c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 _ _ _ _ _ (fun t n => at3 x6 t (i 0).val n) (lhsRow i arg8 harg8 arg16 x6 hx6 _ _ _ _ _ _) f20 1 8 73 (by omega) (by omega) rfl _ _ trips16]
      unfold_payloads
      pointwise [hsel, hl, rd2, rd3, rd4]
      rw [yv_1 _ _ _ _ _ _ _ _ (8 + q2.val) q3.val (by show 1 + 1 * q1.val = 1; omega) (by show 8 + 1 * q2.val = 8 + q2.val; omega) (by show 0 + 1 * q3.val = q3.val; omega)]
      simp only [at2_eq X13, at2_eq X15, at2_eq (x7 : S32x3.Idx → EReal), at3_eq (x1 : S1x32x128.Idx → EReal), at4_eq (x2 : S1x3x32x128.Idx → EReal),
        off8_0, off8_1, off9_0, off9_1, off10_0, off10_1, off11_0, off11_1, off12_0, off12_1, off13_0, off13_1, off14_0, off14_1, off15_0, off15_1,
        off16_0, off16_1, off25_0, off25_1, ysum, hm, hc, Nat.zero_add, Nat.add_zero, Fin.val_zero, Fin.val_one, Fin.val_two]
    refine List.forall_mem_cons.2 ⟨?_, ?_⟩
    · intro q
      dsimp only
      idx_vars q
      rw [yload c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 _ _ _ _ _ (fun t n => at3 x6 t (i 0).val n) (lhsRow i arg8 harg8 arg16 x6 hx6 _ _ _ _ _ _) f20 1 0 1 (by omega) (by omega) rfl _ _ trips16]
      unfold_payloads
      pointwise [hsel, hl, rd2, rd3, rd4]
      rw [yv_1 _ _ _ _ _ _ _ _ (0 + q2.val) q3.val (by show 1 + 1 * q1.val = 1; omega) (by show 0 + 1 * q2.val = 0 + q2.val; omega) (by show 0 + 1 * q3.val = q3.val; omega)]
      simp only [at2_eq X13, at2_eq X15, at2_eq (x7 : S32x3.Idx → EReal), at3_eq (x1 : S1x32x128.Idx → EReal), at4_eq (x2 : S1x3x32x128.Idx → EReal),
        off8_0, off8_1, off9_0, off9_1, off10_0, off10_1, off11_0, off11_1, off12_0, off12_1, off13_0, off13_1, off14_0, off14_1, off15_0, off15_1,
        off16_0, off16_1, off25_0, off25_1, ysum, hm, hc, Nat.zero_add, Nat.add_zero, Fin.val_zero, Fin.val_one, Fin.val_two]
    refine List.forall_mem_cons.2 ⟨?_, ?_⟩
    · intro q
      dsimp only
      idx_vars q
      rw [yload c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 _ _ _ _ _ (fun t n => at3 x6 t (i 0).val n) (lhsRow i arg8 harg8 arg16 x6 hx6 _ _ _ _ _ _) f20 0 24 216 (by omega) (by omega) rfl _ _ trips16]
      unfold_payloads
      pointwise [hsel, hl, rd2, rd3, rd4]
      rw [yv_0 _ _ _ _ _ _ _ _ (24 + q2.val) q3.val (by show 0 + 1 * q1.val = 0; omega) (by show 24 + 1 * q2.val = 24 + q2.val; omega) (by show 0 + 1 * q3.val = q3.val; omega)]
      simp only [at2_eq X13, at2_eq X15, at2_eq (x7 : S32x3.Idx → EReal), at3_eq (x1 : S1x32x128.Idx → EReal), at4_eq (x2 : S1x3x32x128.Idx → EReal),
        off8_0, off8_1, off9_0, off9_1, off10_0, off10_1, off11_0, off11_1, off12_0, off12_1, off13_0, off13_1, off14_0, off14_1, off15_0, off15_1,
        off16_0, off16_1, off25_0, off25_1, ysum, hm, hc, Nat.zero_add, Nat.add_zero, Fin.val_zero, Fin.val_one, Fin.val_two]
    refine List.forall_mem_cons.2 ⟨?_, ?_⟩
    · intro q
      dsimp only
      idx_vars q
      rw [yload c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 _ _ _ _ _ (fun t n => at3 x6 t (i 0).val n) (lhsRow i arg8 harg8 arg16 x6 hx6 _ _ _ _ _ _) f20 0 16 144 (by omega) (by omega) rfl _ _ trips16]
      unfold_payloads
      pointwise [hsel, hl, rd2, rd3, rd4]
      rw [yv_0 _ _ _ _ _ _ _ _ (16 + q2.val) q3.val (by show 0 + 1 * q1.val = 0; omega) (by show 16 + 1 * q2.val = 16 + q2.val; omega) (by show 0 + 1 * q3.val = q3.val; omega)]
      simp only [at2_eq X13, at2_eq X15, at2_eq (x7 : S32x3.Idx → EReal), at3_eq (x1 : S1x32x128.Idx → EReal), at4_eq (x2 : S1x3x32x128.Idx → EReal),
        off8_0, off8_1, off9_0, off9_1, off10_0, off10_1, off11_0, off11_1, off12_0, off12_1, off13_0, off13_1, off14_0, off14_1, off15_0, off15_1,
        off16_0, off16_1, off25_0, off25_1, ysum, hm, hc, Nat.zero_add, Nat.add_zero, Fin.val_zero, Fin.val_one, Fin.val_two]
    refine List.forall_mem_cons.2 ⟨?_, ?_⟩
    · intro q
      dsimp only
      idx_vars q
      rw [yload c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 _ _ _ _ _ (fun t n => at3 x6 t (i 0).val n) (lhsRow i arg8 harg8 arg16 x6 hx6 _ _ _ _ _ _) f20 0 8 72 (by omega) (by omega) rfl _ _ trips16]
      unfold_payloads
      pointwise [hsel, hl, rd2, rd3, rd4]
      rw [yv_0 _ _ _ _ _ _ _ _ (8 + q2.val) q3.val (by show 0 + 1 * q1.val = 0; omega) (by show 8 + 1 * q2.val = 8 + q2.val; omega) (by show 0 + 1 * q3.val = q3.val; omega)]
      simp only [at2_eq X13, at2_eq X15, at2_eq (x7 : S32x3.Idx → EReal), at3_eq (x1 : S1x32x128.Idx → EReal), at4_eq (x2 : S1x3x32x128.Idx → EReal),
        off8_0, off8_1, off9_0, off9_1, off10_0, off10_1, off11_0, off11_1, off12_0, off12_1, off13_0, off13_1, off14_0, off14_1, off15_0, off15_1,
        off16_0, off16_1, off25_0, off25_1, ysum, hm, hc, Nat.zero_add, Nat.add_zero, Fin.val_zero, Fin.val_one, Fin.val_two]
    refine List.forall_mem_cons.2 ⟨?_, ?_⟩
    · intro q
      dsimp only
      idx_vars q
      rw [yload c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 _ _ _ _ _ (fun t n => at3 x6 t (i 0).val n) (lhsRow i arg8 harg8 arg16 x6 hx6 _ _ _ _ _ _) f20 0 0 0 (by omega) (by omega) rfl _ _ trips16]
      unfold_payloads
      pointwise [hsel, hl, rd2, rd3, rd4]
      rw [yv_0 _ _ _ _ _ _ _ _ (0 + q2.val) q3.val (by show 0 + 1 * q1.val = 0; omega) (by show 0 + 1 * q2.val = 0 + q2.val; omega) (by show 0 + 1 * q3.val = q3.val; omega)]
      simp only [at2_eq X13, at2_eq X15, at2_eq (x7 : S32x3.Idx → EReal), at3_eq (x1 : S1x32x128.Idx → EReal), at4_eq (x2 : S1x3x32x128.Idx → EReal),
        off8_0, off8_1, off9_0, off9_1, off10_0, off10_1, off11_0, off11_1, off12_0, off12_1, off13_0, off13_1, off14_0, off14_1, off15_0, off15_1,
        off16_0, off16_1, off25_0, off25_1, ysum, hm, hc, Nat.zero_add, Nat.add_zero, Fin.val_zero, Fin.val_one, Fin.val_two]
    intro p hp
    exact absurd hp List.not_mem_nil
  · exact ycov c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x6 x7 X13 X15 v6 v11 v22 v33 v35 v43 f17 f20 y

end Cert.KernelIdeal.Hand

end
-- ==== Proof.Alg.lean ====
/- The arithmetic of one output element over the extended reals: the recurrence of the reference, and the
   kernel's expansion of it, with every number finite but the stored codes. -/
module

public import Idealize.ShloMosaic.PureOps.Ideal
public import Idealize.ShloMosaic.Lib.IdealHost

@[expose] public section

noncomputable section

namespace Cert.Alg

open Idealize.ShloMosaic

/-- The softplus of an extended real as both programs compute it. -/
def sp (z : EReal) : EReal := max z 0 + Ideal.log1p (Ideal.exp (0 - max (z - 0) (-(z - 0))))

theorem sp_coe (r : ℝ) : ∃ d : ℝ, sp r = (d : EReal) := by
  have h1 : (0 : EReal) - max ((r : EReal) - 0) (-((r : EReal) - 0)) = ((0 - max (r - 0) (-(r - 0)) : ℝ) : EReal) := by
    push_cast [EReal.coe_strictMono.monotone.map_max]; rfl
  have h2 : ∀ q : ℝ, ∃ l : ℝ, Ideal.log1p ((Real.exp q : ℝ) : EReal) = (l : EReal) := fun q => by
    have h3 : (1 : EReal) + ((Real.exp q : ℝ) : EReal) = ((1 + Real.exp q : ℝ) : EReal) := by push_cast; rfl
    refine ⟨Real.log (1 + Real.exp q), ?_⟩
    rw [Ideal.log1p, h3]
    have hp : (0 : ℝ) < 1 + Real.exp q := by positivity
    rw [Ideal.log_coe, if_neg hp.not_ge]
  obtain ⟨l, hl⟩ := h2 (0 - max (r - 0) (-(r - 0)))
  refine ⟨max r 0 + l, ?_⟩
  rw [sp, h1, Ideal.exp_coe, hl, EReal.coe_add, EReal.coe_strictMono.monotone.map_max, EReal.coe_zero]

/-- A decay factor from the logarithm `A` and a step. -/
def dcy (A δ : EReal) : EReal := Ideal.exp ((0 - Ideal.exp A) * δ)

theorem dcy_coe (A δ : ℝ) : ∃ a : ℝ, 0 ≤ a ∧ dcy A δ = (a : EReal) := by
  refine ⟨Real.exp ((0 - Real.exp A) * δ), (Real.exp_pos _).le, ?_⟩
  rw [dcy, Ideal.exp_coe, show (0 : EReal) = ((0 : ℝ) : EReal) from rfl, ← EReal.coe_sub, ← EReal.coe_mul, Ideal.exp_coe]

/-- A finite factor distributes over the sum of anything and a finite number. -/
theorem add_coe_mul (u : EReal) (r c : ℝ) : (u + r) * c = u * c + r * c := by
  rcases lt_trichotomy c 0 with h | h | h
  · induction u with
    | bot => simp [EReal.bot_mul_coe_of_neg h, ← EReal.coe_mul]
    | coe u => rw [← EReal.coe_add, ← EReal.coe_mul, ← EReal.coe_mul, ← EReal.coe_mul, ← EReal.coe_add, add_mul]
    | top => simp [EReal.top_mul_coe_of_neg h, EReal.top_add_coe, ← EReal.coe_mul]
  · subst h; simp
  · induction u with
    | bot => simp [EReal.bot_mul_coe_of_pos h, ← EReal.coe_mul]
    | coe u => rw [← EReal.coe_add, ← EReal.coe_mul, ← EReal.coe_mul, ← EReal.coe_mul, ← EReal.coe_add, add_mul]
    | top => simp [EReal.top_mul_coe_of_pos h, EReal.top_add_coe, ← EReal.coe_mul]

/-- A finite nonnegative factor distributes over every sum. -/
theorem sum_mul_coe {N : ℕ} (f : Fin N → EReal) (p : ℝ) (hp : 0 ≤ p) : (∑ n, f n) * (p : EReal) = ∑ n, f n * p := by
  have h : ∀ s : Finset (Fin N), (∑ n ∈ s, f n) * (p : EReal) = ∑ n ∈ s, f n * p := fun s => by
    classical
    induction s using Finset.induction_on with
    | empty => simp
    | insert a s ha ih =>
      rw [Finset.sum_insert ha, Finset.sum_insert ha, ← ih]
      exact EReal.right_distrib_of_nonneg_of_ne_top (by exact_mod_cast hp) (EReal.coe_ne_top p) _ _
  exact h _

/-- One step of the recurrence on a state that is a nonnegative finite multiple of a code plus a finite number. -/
theorem step (a p r q : ℝ) (ha : 0 ≤ a) (k : EReal) : (a : EReal) * (k * p + r) + q = k * ((p * a : ℝ) : EReal) + ((r * a + q : ℝ) : EReal) := by
  rw [EReal.left_distrib_of_nonneg_of_ne_top (by exact_mod_cast ha) (EReal.coe_ne_top a), mul_comm (a : EReal), mul_assoc,
    ← EReal.coe_mul, ← EReal.coe_mul, add_assoc, ← EReal.coe_add, mul_comm a r]

theorem coe_sum {N : ℕ} (f : Fin N → ℝ) : ((∑ n, f n : ℝ) : EReal) = ∑ n, (f n : EReal) :=
  map_sum (⟨⟨fun x : ℝ => (x : EReal), rfl⟩, EReal.coe_add⟩ : ℝ →+ EReal) _ _

/-- The output of a state that is a nonnegative finite multiple of the codes plus finite numbers. -/
theorem out (p : ℝ) (hp : 0 ≤ p) (r c : Fin 64 → ℝ) (k : Fin 64 → EReal) :
    ∑ n, (k n * (p : EReal) + (r n : EReal)) * (c n : EReal) = (∑ n, (c n : EReal) * k n) * p + ((∑ n, r n * c n : ℝ) : EReal) := by
  have h : ∀ n, (k n * (p : EReal) + (r n : EReal)) * (c n : EReal) = (c n : EReal) * k n * p + ((r n * c n : ℝ) : EReal) := fun n => by
    rw [add_coe_mul, EReal.coe_mul, mul_comm (c n : EReal) (k n), mul_assoc, mul_assoc, mul_comm (p : EReal)]
  simp only [h]
  rw [Finset.sum_add_distrib, sum_mul_coe _ p hp, coe_sum]

/-- The state after each token. -/
def h0 (k s a0 d0 x0 b0 : EReal) : EReal := a0 * (k * s) + d0 * x0 * b0
def h1 (k s a0 d0 x0 b0 a1 d1 x1 b1 : EReal) : EReal := a1 * h0 k s a0 d0 x0 b0 + d1 * x1 * b1
def h2 (k s a0 d0 x0 b0 a1 d1 x1 b1 a2 d2 x2 b2 : EReal) : EReal := a2 * h1 k s a0 d0 x0 b0 a1 d1 x1 b1 + d2 * x2 * b2

variable (s a0 a1 a2 d0 d1 d2 x0 x1 x2 D : ℝ) (b0 b1 b2 c : Fin 64 → ℝ) (k : Fin 64 → EReal)

theorem h0_form (n : Fin 64) (ha0 : 0 ≤ a0) : h0 (k n) s a0 d0 x0 (b0 n) = k n * ((s * a0 : ℝ) : EReal) + ((d0 * x0 * b0 n : ℝ) : EReal) := by
  have h := step a0 s 0 (d0 * x0 * b0 n) ha0 (k n)
  rw [EReal.coe_zero, add_zero] at h
  rw [h0, show (0 * a0 + d0 * x0 * b0 n : ℝ) = d0 * x0 * b0 n by ring] at *
  rw [← EReal.coe_mul, ← EReal.coe_mul]; exact h

theorem h1_form (n : Fin 64) (ha0 : 0 ≤ a0) (ha1 : 0 ≤ a1) : h1 (k n) s a0 d0 x0 (b0 n) a1 d1 x1 (b1 n)
    = k n * ((s * a0 * a1 : ℝ) : EReal) + ((d0 * x0 * b0 n * a1 + d1 * x1 * b1 n : ℝ) : EReal) := by
  rw [h1, h0_form s a0 d0 x0 b0 k n ha0, ← EReal.coe_mul, ← EReal.coe_mul, step _ _ _ _ ha1]

theorem h2_form (n : Fin 64) (ha0 : 0 ≤ a0) (ha1 : 0 ≤ a1) (ha2 : 0 ≤ a2) : h2 (k n) s a0 d0 x0 (b0 n) a1 d1 x1 (b1 n) a2 d2 x2 (b2 n)
    = k n * ((s * a0 * a1 * a2 : ℝ) : EReal) + (((d0 * x0 * b0 n * a1 + d1 * x1 * b1 n) * a2 + d2 * x2 * b2 n : ℝ) : EReal) := by
  rw [h2, h1_form s a0 a1 d0 d1 x0 x1 b0 b1 k n ha0 ha1, ← EReal.coe_mul, ← EReal.coe_mul, step _ _ _ _ ha2]

theorem y0 (hs : 0 ≤ s) (ha0 : 0 ≤ a0) :
    (∑ n, (c n : EReal) * k n) * ((a0 : EReal) * s) + (∑ n, (c n : EReal) * (b0 n : EReal)) * ((d0 : EReal) * x0) + (D : EReal) * x0
      = (∑ n, h0 (k n) s a0 d0 x0 (b0 n) * (c n : EReal)) + (D : EReal) * x0 := by
  simp only [h0_form s a0 d0 x0 b0 k _ ha0]
  rw [out _ (mul_nonneg hs ha0)]
  simp only [← EReal.coe_mul, ← coe_sum]
  congr 2
  · rw [mul_comm s a0]
  · congr 1; rw [Finset.sum_mul]; exact Finset.sum_congr rfl fun n _ => by ring

theorem y1 (hs : 0 ≤ s) (ha0 : 0 ≤ a0) (ha1 : 0 ≤ a1) :
    (∑ n, (c n : EReal) * k n) * ((a0 : EReal) * a1 * s) + (∑ n, (c n : EReal) * (b0 n : EReal)) * ((d0 : EReal) * a1 * x0)
      + (∑ n, (c n : EReal) * (b1 n : EReal)) * ((d1 : EReal) * x1) + (D : EReal) * x1
      = (∑ n, h1 (k n) s a0 d0 x0 (b0 n) a1 d1 x1 (b1 n) * (c n : EReal)) + (D : EReal) * x1 := by
  simp only [h1_form s a0 a1 d0 d1 x0 x1 b0 b1 k _ ha0 ha1]
  rw [out _ (mul_nonneg (mul_nonneg hs ha0) ha1)]
  simp only [← EReal.coe_mul, ← coe_sum]
  rw [add_assoc (_ * _), ← EReal.coe_add]
  congr 2
  · congr 2; ring
  · congr 1; rw [Finset.sum_mul, Finset.sum_mul, ← Finset.sum_add_distrib]; exact Finset.sum_congr rfl fun n _ => by ring

theorem y2 (hs : 0 ≤ s) (ha0 : 0 ≤ a0) (ha1 : 0 ≤ a1) (ha2 : 0 ≤ a2) :
    (∑ n, (c n : EReal) * k n) * ((a0 : EReal) * a1 * a2 * s) + (∑ n, (c n : EReal) * (b0 n : EReal)) * ((d0 : EReal) * a1 * a2 * x0)
      + (∑ n, (c n : EReal) * (b1 n : EReal)) * ((d1 : EReal) * a2 * x1) + (∑ n, (c n : EReal) * (b2 n : EReal)) * ((d2 : EReal) * x2) + (D : EReal) * x2
      = (∑ n, h2 (k n) s a0 d0 x0 (b0 n) a1 d1 x1 (b1 n) a2 d2 x2 (b2 n) * (c n : EReal)) + (D : EReal) * x2 := by
  simp only [h2_form s a0 a1 a2 d0 d1 d2 x0 x1 x2 b0 b1 b2 k _ ha0 ha1 ha2]
  rw [out _ (mul_nonneg (mul_nonneg (mul_nonneg hs ha0) ha1) ha2)]
  simp only [← EReal.coe_mul, ← coe_sum]
  rw [add_assoc (_ * _), ← EReal.coe_add, add_assoc (_ * _), ← EReal.coe_add]
  congr 2
  · congr 2; ring
  · congr 1; rw [Finset.sum_mul, Finset.sum_mul, Finset.sum_mul, ← Finset.sum_add_distrib, ← Finset.sum_add_distrib]; exact Finset.sum_congr rfl fun n _ => by ring

end Cert.Alg

end
-- ==== Proof.Coef.lean ====
/- The table the kernel's first step fills, column by column: the decay products of every head and the products of the
   read and write rows of every request. -/
module

public import proofs.«01_k».proof.Proof.YPay
public import proofs.«01_k».proof.Proof.Alg

@[expose] public section

noncomputable section

namespace Cert.KernelIdeal.Hand

open Cert.KernelIdeal.Gen
open Idealize.ShloMosaic Idealize.ShloMosaic.TcCoe Idealize.ShloMosaic.Tactic

variable (dt : S3x32x520.Idx → EReal) (B C : S3x64x520.Idx → EReal) (par : S32x3.Idx → EReal)

/-- The step of head `h` at token `t` of request `s`, and the decay factor. -/
def dN (t h s : ℕ) : EReal := Alg.sp (at3 dt t h s + at2 par h 0)
def aN (t h s : ℕ) : EReal := Alg.dcy (at2 par h 1) (dN dt par t h s)

/-- The eleven groups of 32 rows. -/
def coef (k h s : ℕ) : EReal :=
  match k with
  | 0 => dN dt par 0 h s
  | 1 => dN dt par 0 h s * aN dt par 1 h s
  | 2 => dN dt par 1 h s
  | 3 => dN dt par 0 h s * aN dt par 1 h s * aN dt par 2 h s
  | 4 => dN dt par 1 h s * aN dt par 2 h s
  | 5 => dN dt par 2 h s
  | 6 => aN dt par 0 h s
  | 7 => aN dt par 0 h s * aN dt par 1 h s
  | 8 => aN dt par 0 h s * aN dt par 1 h s * aN dt par 2 h s
  | 9 => aN dt par 1 h s
  | _ => aN dt par 2 h s

/-- The six products of a read row and a write row. -/
def dotN (t u s : ℕ) : EReal := ∑ n : Fin 64, at3 C t n.val s * at3 B u n.val s
def pairs (j s : ℕ) : EReal :=
  match j with
  | 0 => dotN B C 0 0 s
  | 1 => dotN B C 1 0 s
  | 2 => dotN B C 1 1 s
  | 3 => dotN B C 2 0 s
  | 4 => dotN B C 2 1 s
  | _ => dotN B C 2 2 s

/-- The two tables hold what the first step puts there. -/
def Good (X13 : S352x640.Idx → EReal) (X15 : S8x640.Idx → EReal) : Prop :=
  (∀ r s : ℕ, r < 352 → s < 520 → at2 X13 r s = coef dt par (r / 32) (r % 32) s)
    ∧ ∀ j s : ℕ, j < 6 → s < 520 → at2 X15 j s = pairs B C j s

/-- A table written by blocks, read at an entry: each block is checked, or the entry is in none of the later ones. -/
theorem blk_step {κ : Kind} {sp : Space} {e : EltTy} {v : View sig κ sp S352x640 e} (f : v.ty.Contents (Elt Ideal)) (k : ℕ)
    (inb : ∀ a, (![32 * k, 0] : Fin 2 → ℕ) a + (![32, 520] : Fin 2 → ℕ) a ≤ (![352, 640] : Fin 2 → ℕ) a)
    (w : S32x520.Idx → Elt Ideal e) (L : List (View.Piece (Elt Ideal) S352x640 e)) (g : Elt Ideal e) (r : Fin 352) (s : Fin 640) (hs : s.val < 520)
    (hw : r.val / 32 = k → w (ix2 ⟨r.val % 32, Nat.mod_lt _ (by norm_num)⟩ ⟨s.val, hs⟩) = g)
    (hL : r.val / 32 ≠ k → v.read (Elt Ideal) (v.writes (Elt Ideal) f L) (ix2 r s) = g) :
    v.read (Elt Ideal) (v.writes (Elt Ideal) f ((⟨Rect.unit (s := S352x640) ![32 * k, 0] ![32, 520] inb, w⟩ : View.Piece (Elt Ideal) S352x640 e) :: L)) (ix2 r s) = g := by
  by_cases h : r.val / 32 = k
  · rw [← hw h]
    refine wr2_mem f _ inb w L r s _ _ ?_ ?_
    · show r.val = 32 * k + r.val % 32; omega
    · show s.val = 0 + s.val; omega
  · rw [← hL h]
    refine wr2_row f _ inb w L r s ?_
    show r.val < 32 * k ∨ 32 * k + 32 ≤ r.val; omega

/-- The same of a table written row by row. -/
theorem row_step {κ : Kind} {sp : Space} {e : EltTy} {v : View sig κ sp S8x640 e} (f : v.ty.Contents (Elt Ideal)) (k : ℕ)
    (inb : ∀ a, (![k, 0] : Fin 2 → ℕ) a + (![1, 520] : Fin 2 → ℕ) a ≤ (![8, 640] : Fin 2 → ℕ) a)
    (w : S1x520.Idx → Elt Ideal e) (L : List (View.Piece (Elt Ideal) S8x640 e)) (g : Elt Ideal e) (r : Fin 8) (s : Fin 640) (hs : s.val < 520)
    (hw : r.val = k → w (ix2 0 ⟨s.val, hs⟩) = g)
    (hL : r.val ≠ k → v.read (Elt Ideal) (v.writes (Elt Ideal) f L) (ix2 r s) = g) :
    v.read (Elt Ideal) (v.writes (Elt Ideal) f ((⟨Rect.unit (s := S8x640) ![k, 0] ![1, 520] inb, w⟩ : View.Piece (Elt Ideal) S8x640 e) :: L)) (ix2 r s) = g := by
  by_cases h : r.val = k
  · rw [← hw h]
    refine wr2_mem f _ inb w L r s _ _ ?_ ?_
    · show r.val = k + 0; omega
    · show s.val = 0 + s.val; omega
  · rw [← hL h]
    refine wr2_row f _ inb w L r s ?_
    show r.val < k ∨ k + 1 ≤ r.val; omega

theorem two_le {m n : ℕ} (X : (⟨2, ![m, n]⟩ : Shape).Idx → EReal) (r c : ℕ) (hr : r < m) (hc : c < n) : at2 X r c = X (ix2 ⟨r, hr⟩ ⟨c, hc⟩) := by
  rw [at2, dif_pos ⟨hr, hc⟩]

end Cert.KernelIdeal.Hand

end
-- ==== Proof.YGood.lean ====
/- The output of a step from the tables' values. -/
module

public import proofs.«01_k».proof.Proof.YVal
public import proofs.«01_k».proof.Proof.Coef

@[expose] public section

noncomputable section

namespace Cert.KernelIdeal.Hand

open Cert.KernelIdeal.Gen
open Idealize.ShloMosaic Idealize.ShloMosaic.TcCoe Idealize.ShloMosaic.Tactic

/-- The two tables as functions of the arrays. -/
def T13 (dt : S3x32x520.Idx → EReal) (par : S32x3.Idx → EReal) : S352x640.Idx → EReal := fun j =>
  coef dt par ((j 0).val / 32) ((j 0).val % 32) (j 1).val
def T15 (B C : S3x64x520.Idx → EReal) : S8x640.Idx → EReal := fun j => pairs B C (j 0).val (j 1).val

theorem T13_at (dt : S3x32x520.Idx → EReal) (par : S32x3.Idx → EReal) (r s : ℕ) (hr : r < 352) (hs : s < 520) :
    at2 (T13 dt par) r s = coef dt par (r / 32) (r % 32) s := by
  rw [two_le _ r s hr (by omega)]; rfl

theorem T15_at (B C : S3x64x520.Idx → EReal) (j s : ℕ) (hj : j < 6) (hs : s < 520) : at2 (T15 B C) j s = pairs B C j s := by
  rw [two_le _ j s (by omega) (by omega)]; rfl

theorem yv_good {dt : S3x32x520.Idx → EReal} {B C : S3x64x520.Idx → EReal} {par : S32x3.Idx → EReal} {X13 : S352x640.Idx → EReal}
    {X15 : S8x640.Idx → EReal} (h : Good dt B C par X13 X15) (s : ℕ) (hs : s < 520) (YS : ℕ → ℕ → ℕ → EReal)
    (x1 : S1x32x128.Idx → EReal) (x2 : S1x3x32x128.Idx → EReal) :
    yv s YS X13 X15 x1 x2 par = yv s YS (T13 dt par) (T15 B C) x1 x2 par := by
  funext j
  have hj : (j 2).val < 32 := (j 2).isLt
  have h13 : ∀ r, r < 352 → at2 X13 r s = at2 (T13 dt par) r s := fun r hr => by rw [h.1 r s hr hs, T13_at dt par r s hr hs]
  have h15 : ∀ r, r < 6 → at2 X15 r s = at2 (T15 B C) r s := fun r hr => by rw [h.2 r s hr hs, T15_at B C r s hr hs]
  simp only [yv]
  generalize (j 2).val = q at *
  rw [h13 (192 + q) (by omega), h13 q (by omega), h13 (224 + q) (by omega), h13 (32 + q) (by omega), h13 (64 + q) (by omega),
    h13 (256 + q) (by omega), h13 (96 + q) (by omega), h13 (128 + q) (by omega), h13 (160 + q) (by omega),
    h15 0 (by omega), h15 1 (by omega), h15 2 (by omega), h15 3 (by omega), h15 4 (by omega), h15 5 (by omega)]

end Cert.KernelIdeal.Hand

end
-- ==== Proof.Init.lean ====
/- The body at a point: what it is handed it hands back, the inputs as they were. -/
module

public import proofs.«01_k».proof.Proof.Gen.KernelIdeal.Loops
public import proofs.«01_k».proof.Proof.KitKI
public import proofs.«01_k».proof.Proof.Coef

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- What the first point does before everything else: everything it is handed it hands back. -/
theorem part6_val (c : Dev nD) (i : grid0.Coords) (arg2 : Memref sig .tc .vmem S1x32x64x128 .fp8e4m3) (harg2 : arg2.IsWhole) (arg3 : Memref sig .tc .vmem S1x32x128 .f32) (harg3 : arg3.IsWhole) (arg4 : Memref sig .tc .vmem S1x3x32x128 .bf16) (harg4 : arg4.IsWhole) (arg5 : Memref sig .tc .vmem S3x32x520 .bf16) (harg5 : arg5.IsWhole) (arg6 : Memref sig .tc .vmem S3x64x520 .bf16) (harg6 : arg6.IsWhole) (arg7 : Memref sig .tc .vmem S3x64x520 .bf16) (harg7 : arg7.IsWhole) (arg8 : Memref sig .tc .vmem S3x520x128 .f32) (harg8 : arg8.IsWhole) (arg9 : Memref sig .tc .vmem S32x3 .f32) (harg9 : arg9.IsWhole) (arg10 : Memref sig .tc .vmem S1x3x32x128 .bf16) (harg10 : arg10.IsWhole) (arg11 : Memref sig .tc .vmem S1x3x32x64x128 .fp8e4m3) (harg11 : arg11.IsWhole) (arg12 : Memref sig .tc .vmem S1x3x32x128 .f32) (harg12 : arg12.IsWhole) (arg13 : Memref sig .tc .vmem S352x640 .f32) (harg13 : arg13.IsWhole) (arg14 : Memref sig .tc .vmem S192x640 .f32) (harg14 : arg14.IsWhole) (arg15 : Memref sig .tc .vmem S8x640 .f32) (harg15 : arg15.IsWhole) (arg16 : Memref sig .tc .vmem S208x128 .bf16) (harg16 : arg16.IsWhole) (arg17 : Memref sig .tc .vmem S288x128 .f32) (harg17 : arg17.IsWhole) (arg18 : Memref sig .tc .vmem S32x192x128 .f32) (harg18 : arg18.IsWhole) (arg19 : Memref sig .tc .vmem S864x128 .f32) (harg19 : arg19.IsWhole) (arg20 : Memref sig .tc .vmem S288x128 .f32) (harg20 : arg20.IsWhole) (arg21 : Memref sig .tc .vmem S96x128 .f32) (harg21 : arg21.IsWhole) (arg22 : Memref sig .tc .vmem S96x128 .f32) (harg22 : arg22.IsWhole) (arg23 : Memref sig .tc .vmem S96x128 .f32) (harg23 : arg23.IsWhole)
    (x0 : Vec Ideal S1x32x64x128 .fp8e4m3) (x1 : Vec Ideal S1x32x128 .f32) (x2 : Vec Ideal S1x3x32x128 .bf16) (x3 : Vec Ideal S3x32x520 .bf16) (x4 : Vec Ideal S3x64x520 .bf16) (x5 : Vec Ideal S3x64x520 .bf16) (x6 : Vec Ideal S3x520x128 .f32) (x7 : Vec Ideal S32x3 .f32) (xt0 : TbBuf0 (F := Ideal) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0 ∗ (∃ X13 X14 X15, ⌜Good x3 x4 x5 x7 X13 X15⌝ ∗ owns (c : Thread nD τ) arg13 fullShare X13 ∗ owns (c : Thread nD τ) arg14 fullShare X14 ∗ owns (c : Thread nD τ) arg15 fullShare X15)) -∗ K ⟨⟩))
          ⊢ wp frame (wpE (defs₀ (F := Ideal)) Variants.none c none) E (k0_part6 i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [k0_part6_eq_skeleton]; unfold k0_part6_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, HT0, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [HT0]; · iexact HT0
    iexists _, _, _
    isplitr; swap
    · isplitl [H13]
      · iexists _; isplitr; swap; · iexact H13
        ipureintro; rfl
      isplitl [H14]
      · iexists _; isplitr; swap; · iexact H14
        ipureintro; rfl
      iexists _; isplitr; swap; · iexact H15
      ipureintro; rfl
    ipureintro
    sl_unfold_run_names
    have hs' : ∀ s, s < 520 → s < 640 := fun s h => by omega
    refine ⟨fun r s hr hs => ?_, fun j s hj hs => ?_⟩
    · rw [two_le _ r s hr (hs' s hs)]
      refine blk_step f13 10 _ _ _ _ ⟨r, hr⟩ ⟨s, hs' s hs⟩ hs (fun hk => by dsimp only at hk ⊢; rw [hk]; unfold_payloads; pointwise [rd2, rd3]; simp [coef, dN, aN, Alg.sp, Alg.dcy, FloatOps.absf, at2_eq (x7 : S32x3.Idx → EReal), at3_eq (x3 : S3x32x520.Idx → EReal)]) fun n10 => ?_
      refine blk_step f13 9 _ _ _ _ ⟨r, hr⟩ ⟨s, hs' s hs⟩ hs (fun hk => by dsimp only at hk ⊢; rw [hk]; unfold_payloads; pointwise [rd2, rd3]; simp [coef, dN, aN, Alg.sp, Alg.dcy, FloatOps.absf, at2_eq (x7 : S32x3.Idx → EReal), at3_eq (x3 : S3x32x520.Idx → EReal)]) fun n9 => ?_
      refine blk_step f13 8 _ _ _ _ ⟨r, hr⟩ ⟨s, hs' s hs⟩ hs (fun hk => by dsimp only at hk ⊢; rw [hk]; unfold_payloads; pointwise [rd2, rd3]; simp [coef, dN, aN, Alg.sp, Alg.dcy, FloatOps.absf, at2_eq (x7 : S32x3.Idx → EReal), at3_eq (x3 : S3x32x520.Idx → EReal)]) fun n8 => ?_
      refine blk_step f13 7 _ _ _ _ ⟨r, hr⟩ ⟨s, hs' s hs⟩ hs (fun hk => by dsimp only at hk ⊢; rw [hk]; unfold_payloads; pointwise [rd2, rd3]; simp [coef, dN, aN, Alg.sp, Alg.dcy, FloatOps.absf, at2_eq (x7 : S32x3.Idx → EReal), at3_eq (x3 : S3x32x520.Idx → EReal)]) fun n7 => ?_
      refine blk_step f13 6 _ _ _ _ ⟨r, hr⟩ ⟨s, hs' s hs⟩ hs (fun hk => by dsimp only at hk ⊢; rw [hk]; unfold_payloads; pointwise [rd2, rd3]; simp [coef, dN, aN, Alg.sp, Alg.dcy, FloatOps.absf, at2_eq (x7 : S32x3.Idx → EReal), at3_eq (x3 : S3x32x520.Idx → EReal)]) fun n6 => ?_
      refine blk_step f13 5 _ _ _ _ ⟨r, hr⟩ ⟨s, hs' s hs⟩ hs (fun hk => by dsimp only at hk ⊢; rw [hk]; unfold_payloads; pointwise [rd2, rd3]; simp [coef, dN, aN, Alg.sp, Alg.dcy, FloatOps.absf, at2_eq (x7 : S32x3.Idx → EReal), at3_eq (x3 : S3x32x520.Idx → EReal)]) fun n5 => ?_
      refine blk_step f13 4 _ _ _ _ ⟨r, hr⟩ ⟨s, hs' s hs⟩ hs (fun hk => by dsimp only at hk ⊢; rw [hk]; unfold_payloads; pointwise [rd2, rd3]; simp [coef, dN, aN, Alg.sp, Alg.dcy, FloatOps.absf, at2_eq (x7 : S32x3.Idx → EReal), at3_eq (x3 : S3x32x520.Idx → EReal)]) fun n4 => ?_
      refine blk_step f13 3 _ _ _ _ ⟨r, hr⟩ ⟨s, hs' s hs⟩ hs (fun hk => by dsimp only at hk ⊢; rw [hk]; unfold_payloads; pointwise [rd2, rd3]; simp [coef, dN, aN, Alg.sp, Alg.dcy, FloatOps.absf, at2_eq (x7 : S32x3.Idx → EReal), at3_eq (x3 : S3x32x520.Idx → EReal)]) fun n3 => ?_
      refine blk_step f13 2 _ _ _ _ ⟨r, hr⟩ ⟨s, hs' s hs⟩ hs (fun hk => by dsimp only at hk ⊢; rw [hk]; unfold_payloads; pointwise [rd2, rd3]; simp [coef, dN, aN, Alg.sp, Alg.dcy, FloatOps.absf, at2_eq (x7 : S32x3.Idx → EReal), at3_eq (x3 : S3x32x520.Idx → EReal)]) fun n2 => ?_
      refine blk_step f13 1 _ _ _ _ ⟨r, hr⟩ ⟨s, hs' s hs⟩ hs (fun hk => by dsimp only at hk ⊢; rw [hk]; unfold_payloads; pointwise [rd2, rd3]; simp [coef, dN, aN, Alg.sp, Alg.dcy, FloatOps.absf, at2_eq (x7 : S32x3.Idx → EReal), at3_eq (x3 : S3x32x520.Idx → EReal)]) fun n1 => ?_
      refine blk_step f13 0 _ _ _ _ ⟨r, hr⟩ ⟨s, hs' s hs⟩ hs (fun hk => by dsimp only at hk ⊢; rw [hk]; unfold_payloads; pointwise [rd2, rd3]; simp [coef, dN, aN, Alg.sp, Alg.dcy, FloatOps.absf, at2_eq (x7 : S32x3.Idx → EReal), at3_eq (x3 : S3x32x520.Idx → EReal)]) fun n0 => ?_
      exact absurd hr (by dsimp only at *; omega)
    · rw [two_le _ j s (by omega) (hs' s hs)]
      refine row_step f15 5 _ _ _ _ ⟨j, by omega⟩ ⟨s, hs' s hs⟩ hs (fun hk => by dsimp only at hk ⊢; rw [hk]; unfold_payloads; pointwise [rd2, rd3]; simp [pairs, dotN, at3_eq (x4 : S3x64x520.Idx → EReal), at3_eq (x5 : S3x64x520.Idx → EReal)]) fun n5 => ?_
      refine row_step f15 4 _ _ _ _ ⟨j, by omega⟩ ⟨s, hs' s hs⟩ hs (fun hk => by dsimp only at hk ⊢; rw [hk]; unfold_payloads; pointwise [rd2, rd3]; simp [pairs, dotN, at3_eq (x4 : S3x64x520.Idx → EReal), at3_eq (x5 : S3x64x520.Idx → EReal)]) fun n4 => ?_
      refine row_step f15 3 _ _ _ _ ⟨j, by omega⟩ ⟨s, hs' s hs⟩ hs (fun hk => by dsimp only at hk ⊢; rw [hk]; unfold_payloads; pointwise [rd2, rd3]; simp [pairs, dotN, at3_eq (x4 : S3x64x520.Idx → EReal), at3_eq (x5 : S3x64x520.Idx → EReal)]) fun n3 => ?_
      refine row_step f15 2 _ _ _ _ ⟨j, by omega⟩ ⟨s, hs' s hs⟩ hs (fun hk => by dsimp only at hk ⊢; rw [hk]; unfold_payloads; pointwise [rd2, rd3]; simp [pairs, dotN, at3_eq (x4 : S3x64x520.Idx → EReal), at3_eq (x5 : S3x64x520.Idx → EReal)]) fun n2 => ?_
      refine row_step f15 1 _ _ _ _ ⟨j, by omega⟩ ⟨s, hs' s hs⟩ hs (fun hk => by dsimp only at hk ⊢; rw [hk]; unfold_payloads; pointwise [rd2, rd3]; simp [pairs, dotN, at3_eq (x4 : S3x64x520.Idx → EReal), at3_eq (x5 : S3x64x520.Idx → EReal)]) fun n1 => ?_
      refine row_step f15 0 _ _ _ _ ⟨j, by omega⟩ ⟨s, hs' s hs⟩ hs (fun hk => by dsimp only at hk ⊢; rw [hk]; unfold_payloads; pointwise [rd2, rd3]; simp [pairs, dotN, at3_eq (x4 : S3x64x520.Idx → EReal), at3_eq (x5 : S3x64x520.Idx → EReal)]) fun n0 => ?_
      exact absurd hj (by dsimp only at *; omega)

end Cert.KernelIdeal.Hand

end
-- ==== Proof.Part23V.lean ====
/- The first part of the body with the tables it leaves: what the first step puts there, and later what is there. -/
module

public import proofs.«01_k».proof.Proof.Init

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 8000000 in
/-- The body through its first loads: afterwards the two tables hold what the first step puts there. -/
theorem part23_val (c : Dev nD) (i : grid0.Coords) (arg2 : Memref sig .tc .vmem S1x32x64x128 .fp8e4m3) (harg2 : arg2.IsWhole) (arg3 : Memref sig .tc .vmem S1x32x128 .f32) (harg3 : arg3.IsWhole) (arg4 : Memref sig .tc .vmem S1x3x32x128 .bf16) (harg4 : arg4.IsWhole) (arg5 : Memref sig .tc .vmem S3x32x520 .bf16) (harg5 : arg5.IsWhole) (arg6 : Memref sig .tc .vmem S3x64x520 .bf16) (harg6 : arg6.IsWhole) (arg7 : Memref sig .tc .vmem S3x64x520 .bf16) (harg7 : arg7.IsWhole) (arg8 : Memref sig .tc .vmem S3x520x128 .f32) (harg8 : arg8.IsWhole) (arg9 : Memref sig .tc .vmem S32x3 .f32) (harg9 : arg9.IsWhole) (arg10 : Memref sig .tc .vmem S1x3x32x128 .bf16) (harg10 : arg10.IsWhole) (arg11 : Memref sig .tc .vmem S1x3x32x64x128 .fp8e4m3) (harg11 : arg11.IsWhole) (arg12 : Memref sig .tc .vmem S1x3x32x128 .f32) (harg12 : arg12.IsWhole) (arg13 : Memref sig .tc .vmem S352x640 .f32) (harg13 : arg13.IsWhole) (arg14 : Memref sig .tc .vmem S192x640 .f32) (harg14 : arg14.IsWhole) (arg15 : Memref sig .tc .vmem S8x640 .f32) (harg15 : arg15.IsWhole) (arg16 : Memref sig .tc .vmem S208x128 .bf16) (harg16 : arg16.IsWhole) (arg17 : Memref sig .tc .vmem S288x128 .f32) (harg17 : arg17.IsWhole) (arg18 : Memref sig .tc .vmem S32x192x128 .f32) (harg18 : arg18.IsWhole) (arg19 : Memref sig .tc .vmem S864x128 .f32) (harg19 : arg19.IsWhole) (arg20 : Memref sig .tc .vmem S288x128 .f32) (harg20 : arg20.IsWhole) (arg21 : Memref sig .tc .vmem S96x128 .f32) (harg21 : arg21.IsWhole) (arg22 : Memref sig .tc .vmem S96x128 .f32) (harg22 : arg22.IsWhole) (arg23 : Memref sig .tc .vmem S96x128 .f32) (harg23 : arg23.IsWhole)
    (x0 : Vec Ideal S1x32x64x128 .fp8e4m3) (x1 : Vec Ideal S1x32x128 .f32) (x2 : Vec Ideal S1x3x32x128 .bf16) (x3 : Vec Ideal S3x32x520 .bf16) (x4 : Vec Ideal S3x64x520 .bf16) (x5 : Vec Ideal S3x64x520 .bf16) (x6 : Vec Ideal S3x520x128 .f32) (x7 : Vec Ideal S32x3 .f32) (xt0 : TbBuf0 (F := Ideal) c tbM0_0) :
      ∀ (E : Set ℕ) (K : (Σ' (arg0 : BitVec 32) (v3 : BitVec 32) (v5 : BitVec 32) (v6 : IVec S64x128 32) (v11 : FVec Ideal S64x128 .f32) (v22 : FVec Ideal S64x128 .f32) (v33 : FVec Ideal S64x128 .f32) (v35 : Vec Ideal S64x128 .f32), IVec S64x128 32) → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0 ∗ (∃ X13 X14 X15, ⌜(i 0).val ≠ 0 → Good x3 x4 x5 x7 X13 X15⌝ ∗ owns (c : Thread nD τ) arg13 fullShare X13 ∗ owns (c : Thread nD τ) arg14 fullShare X14 ∗ owns (c : Thread nD τ) arg15 fullShare X15) ∗ (∀ r, iprop(⌜r.1 = BitVec.ofNat 32 (i 0).val ∧ r.2.1 = Scalar.remsi (BitVec.ofNat 32 (i 0).val) 128#32 ∧ r.2.2.1 = Scalar.subi (BitVec.ofNat 32 (i 0).val) (Scalar.remsi (BitVec.ofNat 32 (i 0).val) 128#32)⌝ ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0 ∗ (∃ X13 X14 X15, ⌜Good x3 x4 x5 x7 X13 X15⌝ ∗ owns (c : Thread nD τ) arg13 fullShare X13 ∗ owns (c : Thread nD τ) arg14 fullShare X14 ∗ owns (c : Thread nD τ) arg15 fullShare X15)) -∗ K r))
          ⊢ wp frame (wpE (defs₀ (F := Ideal)) Variants.none c none) E (k0_part23 i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [k0_part23_eq_skeleton]; unfold k0_part23_skel
    dsimp only
    by_cases hc : Scalar.cmpi .ne (Scalar.extui (Scalar.cmpi .eq (BitVec.ofNat 32 (i 0).val) 0#32)) 0#32 = 1#1
    · rw [dif_pos hc, wp_bind]
      iintro ⟨H2, H3, H4, H5, H6, H7, H8, H9, H10, H11, H12, H16, H17, H18, H19, H20, H21, H22, H23, HT0, HSC, Hk⟩
      icases HSC with ⟨%X13, %X14, %X15, -, H13, H14, H15⟩
      iapply (part6_val c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 xt0 E _)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [HT0]; · iexact HT0
      iintro ⟨H2, H3, H4, H5, H6, H7, H8, H9, H10, H11, H12, H16, H17, H18, H19, H20, H21, H22, H23, HT0, HSC⟩
      icases HSC with ⟨%Y13, %Y14, %Y15, %hG, H13, H14, H15⟩
      unfold owns
      icases H2 with ⟨%f2, %hf2, H2⟩
      icases H3 with ⟨%f3, %hf3, H3⟩
      icases H4 with ⟨%f4, %hf4, H4⟩
      icases H5 with ⟨%f5, %hf5, H5⟩
      icases H6 with ⟨%f6, %hf6, H6⟩
      icases H7 with ⟨%f7, %hf7, H7⟩
      icases H8 with ⟨%f8, %hf8, H8⟩
      icases H9 with ⟨%f9, %hf9, H9⟩
      icases H10 with ⟨%d10, %f10, -, H10⟩
      icases H11 with ⟨%d11, %f11, -, H11⟩
      icases H12 with ⟨%d12, %f12, -, H12⟩
      icases H13 with ⟨%f13, %hf13, H13⟩
      icases H14 with ⟨%f14, %hf14, H14⟩
      icases H15 with ⟨%f15, %hf15, H15⟩
      icases H16 with ⟨%d16, %f16, -, H16⟩
      icases H17 with ⟨%d17, %f17, -, H17⟩
      icases H18 with ⟨%d18, %f18, -, H18⟩
      icases H19 with ⟨%d19, %f19, -, H19⟩
      icases H20 with ⟨%d20, %f20, -, H20⟩
      icases H21 with ⟨%d21, %f21, -, H21⟩
      icases H22 with ⟨%d22, %f22, -, H22⟩
      icases H23 with ⟨%d23, %f23, -, H23⟩
      obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg13.eq_unread hf13; obtain rfl := harg14.eq_unread hf14; obtain rfl := harg15.eq_unread hf15
      sl_exec
      sl_step
      iapply Hk
      isplitr; · ipureintro; exact ⟨rfl, rfl, rfl⟩
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H16]
      · iexists _, _; isplitr; swap; · iexact H16
        ipureintro; rfl
      isplitl [H17]
      · iexists _, _; isplitr; swap; · iexact H17
        ipureintro; rfl
      isplitl [H18]
      · iexists _, _; isplitr; swap; · iexact H18
        ipureintro; rfl
      isplitl [H19]
      · iexists _, _; isplitr; swap; · iexact H19
        ipureintro; rfl
      isplitl [H20]
      · iexists _, _; isplitr; swap; · iexact H20
        ipureintro; rfl
      isplitl [H21]
      · iexists _, _; isplitr; swap; · iexact H21
        ipureintro; rfl
      isplitl [H22]
      · iexists _, _; isplitr; swap; · iexact H22
        ipureintro; rfl
      isplitl [H23]
      · iexists _, _; isplitr; swap; · iexact H23
        ipureintro; rfl
      isplitl [HT0]; · iexact HT0
      iexists Y13, Y14, Y15
      isplitr; · ipureintro; exact hG
      isplitl [H13]
      · iexists _; isplitr; · ipureintro; exact harg13.read_unread _
        iexact H13
      isplitl [H14]
      · iexists _; isplitr; · ipureintro; exact harg14.read_unread _
        iexact H14
      iexists _; isplitr; · ipureintro; exact harg15.read_unread _
      iexact H15
    · rw [dif_neg hc]
      have hi : (i 0).val ≠ 0 := fun h => hc (by rw [h]; rfl)
      iintro ⟨H2, H3, H4, H5, H6, H7, H8, H9, H10, H11, H12, H16, H17, H18, H19, H20, H21, H22, H23, HT0, HSC, Hk⟩
      icases HSC with ⟨%X13, %X14, %X15, %hG', H13, H14, H15⟩
      have hG := hG' hi
      unfold owns
      icases H2 with ⟨%f2, %hf2, H2⟩
      icases H3 with ⟨%f3, %hf3, H3⟩
      icases H4 with ⟨%f4, %hf4, H4⟩
      icases H5 with ⟨%f5, %hf5, H5⟩
      icases H6 with ⟨%f6, %hf6, H6⟩
      icases H7 with ⟨%f7, %hf7, H7⟩
      icases H8 with ⟨%f8, %hf8, H8⟩
      icases H9 with ⟨%f9, %hf9, H9⟩
      icases H10 with ⟨%d10, %f10, -, H10⟩
      icases H11 with ⟨%d11, %f11, -, H11⟩
      icases H12 with ⟨%d12, %f12, -, H12⟩
      icases H13 with ⟨%f13, %hf13, H13⟩
      icases H14 with ⟨%f14, %hf14, H14⟩
      icases H15 with ⟨%f15, %hf15, H15⟩
      icases H16 with ⟨%d16, %f16, -, H16⟩
      icases H17 with ⟨%d17, %f17, -, H17⟩
      icases H18 with ⟨%d18, %f18, -, H18⟩
      icases H19 with ⟨%d19, %f19, -, H19⟩
      icases H20 with ⟨%d20, %f20, -, H20⟩
      icases H21 with ⟨%d21, %f21, -, H21⟩
      icases H22 with ⟨%d22, %f22, -, H22⟩
      icases H23 with ⟨%d23, %f23, -, H23⟩
      obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg13.eq_unread hf13; obtain rfl := harg14.eq_unread hf14; obtain rfl := harg15.eq_unread hf15
      sl_exec
      sl_step
      iapply Hk
      isplitr; · ipureintro; exact ⟨rfl, rfl, rfl⟩
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H16]
      · iexists _, _; isplitr; swap; · iexact H16
        ipureintro; rfl
      isplitl [H17]
      · iexists _, _; isplitr; swap; · iexact H17
        ipureintro; rfl
      isplitl [H18]
      · iexists _, _; isplitr; swap; · iexact H18
        ipureintro; rfl
      isplitl [H19]
      · iexists _, _; isplitr; swap; · iexact H19
        ipureintro; rfl
      isplitl [H20]
      · iexists _, _; isplitr; swap; · iexact H20
        ipureintro; rfl
      isplitl [H21]
      · iexists _, _; isplitr; swap; · iexact H21
        ipureintro; rfl
      isplitl [H22]
      · iexists _, _; isplitr; swap; · iexact H22
        ipureintro; rfl
      isplitl [H23]
      · iexists _, _; isplitr; swap; · iexact H23
        ipureintro; rfl
      isplitl [HT0]; · iexact HT0
      iexists X13, X14, X15
      isplitr; · ipureintro; exact hG
      isplitl [H13]
      · iexists _; isplitr; · ipureintro; exact harg13.read_unread _
        iexact H13
      isplitl [H14]
      · iexists _; isplitr; · ipureintro; exact harg14.read_unread _
        iexact H14
      iexists _; isplitr; · ipureintro; exact harg15.read_unread _
      iexact H15

end Cert.KernelIdeal.Hand

end
-- ==== Proof.Run63V.lean ====
/- The second part of the body at the ideal reading, with what the output block holds. -/
module

public import proofs.«01_k».proof.Proof.YGood
public import proofs.«01_k».proof.Proof.Part23V

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 8000000 in
/-- The body up to the second state store: the output block holds the step's output. -/
theorem part63_val (c : Dev nD) (i : grid0.Coords) (arg2 : Memref sig .tc .vmem S1x32x64x128 .fp8e4m3) (harg2 : arg2.IsWhole) (arg3 : Memref sig .tc .vmem S1x32x128 .f32) (harg3 : arg3.IsWhole) (arg4 : Memref sig .tc .vmem S1x3x32x128 .bf16) (harg4 : arg4.IsWhole) (arg5 : Memref sig .tc .vmem S3x32x520 .bf16) (harg5 : arg5.IsWhole) (arg6 : Memref sig .tc .vmem S3x64x520 .bf16) (harg6 : arg6.IsWhole) (arg7 : Memref sig .tc .vmem S3x64x520 .bf16) (harg7 : arg7.IsWhole) (arg8 : Memref sig .tc .vmem S3x520x128 .f32) (harg8 : arg8.IsWhole) (arg9 : Memref sig .tc .vmem S32x3 .f32) (harg9 : arg9.IsWhole) (arg10 : Memref sig .tc .vmem S1x3x32x128 .bf16) (harg10 : arg10.IsWhole) (arg11 : Memref sig .tc .vmem S1x3x32x64x128 .fp8e4m3) (harg11 : arg11.IsWhole) (arg12 : Memref sig .tc .vmem S1x3x32x128 .f32) (harg12 : arg12.IsWhole) (arg13 : Memref sig .tc .vmem S352x640 .f32) (harg13 : arg13.IsWhole) (arg14 : Memref sig .tc .vmem S192x640 .f32) (harg14 : arg14.IsWhole) (arg15 : Memref sig .tc .vmem S8x640 .f32) (harg15 : arg15.IsWhole) (arg16 : Memref sig .tc .vmem S208x128 .bf16) (harg16 : arg16.IsWhole) (arg17 : Memref sig .tc .vmem S288x128 .f32) (harg17 : arg17.IsWhole) (arg18 : Memref sig .tc .vmem S32x192x128 .f32) (harg18 : arg18.IsWhole) (arg19 : Memref sig .tc .vmem S864x128 .f32) (harg19 : arg19.IsWhole) (arg20 : Memref sig .tc .vmem S288x128 .f32) (harg20 : arg20.IsWhole) (arg21 : Memref sig .tc .vmem S96x128 .f32) (harg21 : arg21.IsWhole) (arg22 : Memref sig .tc .vmem S96x128 .f32) (harg22 : arg22.IsWhole) (arg23 : Memref sig .tc .vmem S96x128 .f32) (harg23 : arg23.IsWhole)
    (x0 : Vec Ideal S1x32x64x128 .fp8e4m3) (x1 : Vec Ideal S1x32x128 .f32) (x2 : Vec Ideal S1x3x32x128 .bf16) (x3 : Vec Ideal S3x32x520 .bf16) (x4 : Vec Ideal S3x64x520 .bf16) (x5 : Vec Ideal S3x64x520 .bf16) (x6 : Vec Ideal S3x520x128 .f32) (x7 : Vec Ideal S32x3 .f32) (xt0 : TbBuf0 (F := Ideal) c tbM0_0)
    (hx6 : ∀ (t : Fin 3) (s : Fin 520) (k : Fin 128), 64 ≤ k.val → x6 (ix3 t s k) = (0 : EReal)) :
      ∀ (E : Set ℕ) (K : (Σ' (v3 : BitVec 32) (v5 : BitVec 32), BitVec 32) → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0 ∗ (∃ X13 X14 X15, ⌜(i 0).val ≠ 0 → Good x3 x4 x5 x7 X13 X15⌝ ∗ owns (c : Thread nD τ) arg13 fullShare X13 ∗ owns (c : Thread nD τ) arg14 fullShare X14 ∗ owns (c : Thread nD τ) arg15 fullShare X15) ∗ (∀ r, iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (yv (i 0).val (ysum (i 0).val x6 x0) (T13 x3 x7) (T15 x4 x5) x1 x2 x7) ∗ (∃ d, owns (c : Thread nD τ) arg11 fullShare d) ∗ (∃ d, owns (c : Thread nD τ) arg12 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0 ∗ (∃ X13 X14 X15, ⌜Good x3 x4 x5 x7 X13 X15⌝ ∗ owns (c : Thread nD τ) arg13 fullShare X13 ∗ owns (c : Thread nD τ) arg14 fullShare X14 ∗ owns (c : Thread nD τ) arg15 fullShare X15)) -∗ K r))
          ⊢ wp frame (wpE (defs₀ (F := Ideal)) Variants.none c none) E (k0_part63 i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [k0_part63_eq_skeleton]; unfold k0_part63_skel
    rw [wp_bind]
    iintro ⟨H2, H3, H4, H5, H6, H7, H8, H9, H10, H11, H12, H16, H17, H18, H19, H20, H21, H22, H23, HT0, HSC, Hk⟩
    iapply (part23_val c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 xt0 E _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [HT0]; · iexact HT0
    isplitl [HSC]; · iexact HSC
    iintro %r ⟨%hr, H2, H3, H4, H5, H6, H7, H8, H9, H10, H11, H12, H16, H17, H18, H19, H20, H21, H22, H23, HT0, HSC⟩
    obtain ⟨arg0, v3, v5, v6, v11, v22, v33, v35, v43⟩ := r
    obtain ⟨rfl, rfl, rfl⟩ := hr
    icases HSC with ⟨%X13, %X14, %X15, %hG, H13, H14, H15⟩
    rw [← yv_good hG (i 0).val (i 0).isLt]
    unfold owns
    icases H2 with ⟨%f2, %hf2, H2⟩
    icases H3 with ⟨%f3, %hf3, H3⟩
    icases H4 with ⟨%f4, %hf4, H4⟩
    icases H5 with ⟨%f5, %hf5, H5⟩
    icases H6 with ⟨%f6, %hf6, H6⟩
    icases H7 with ⟨%f7, %hf7, H7⟩
    icases H8 with ⟨%f8, %hf8, H8⟩
    icases H9 with ⟨%f9, %hf9, H9⟩
    icases H13 with ⟨%f13, %hf13, H13⟩
    icases H14 with ⟨%f14, %hf14, H14⟩
    icases H15 with ⟨%f15, %hf15, H15⟩
    icases H10 with ⟨%d10, %f10, -, H10⟩
    icases H11 with ⟨%d11, %f11, -, H11⟩
    icases H12 with ⟨%d12, %f12, -, H12⟩
    icases H16 with ⟨%d16, %f16, -, H16⟩
    icases H17 with ⟨%d17, %f17, -, H17⟩
    icases H18 with ⟨%d18, %f18, -, H18⟩
    icases H19 with ⟨%d19, %f19, -, H19⟩
    icases H20 with ⟨%d20, %f20, -, H20⟩
    icases H21 with ⟨%d21, %f21, -, H21⟩
    icases H22 with ⟨%d22, %f22, -, H22⟩
    icases H23 with ⟨%d23, %f23, -, H23⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg13.eq_unread hf13; obtain rfl := harg14.eq_unread hf14; obtain rfl := harg15.eq_unread hf15
    dsimp only
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; swap; · iexact H10
      ipureintro
      funext y
      exact yval c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x6 x7 X13 X15 v6 v11 v22 v33 v35 v43 f17 f20 hx6 y
    isplitl [H11]
    · iexists _, _; isplitr; swap; · iexact H11
      ipureintro; rfl
    isplitl [H12]
    · iexists _, _; isplitr; swap; · iexact H12
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [HT0]; · iexact HT0
    iexists X13, X14, X15
    isplitr; · ipureintro; exact hG
    isplitl [H13]
    · iexists _; isplitr; · ipureintro; exact harg13.read_unread _
      iexact H13
    isplitl [H14]
    · iexists _; isplitr; · ipureintro; exact harg14.read_unread _
      iexact H14
    iexists _; isplitr; · ipureintro; exact harg15.read_unread _
    iexact H15

end Cert.KernelIdeal.Hand

end
-- ==== Proof.BodyV.lean ====
/- The whole body at the ideal reading, with what the output block holds. -/
module

public import proofs.«01_k».proof.Proof.Run63V

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 8000000 in
/-- The whole body: the output block holds the step's output, and the tables are kept. -/
theorem body_val (c : Dev nD) (i : grid0.Coords) (arg2 : Memref sig .tc .vmem S1x32x64x128 .fp8e4m3) (harg2 : arg2.IsWhole) (arg3 : Memref sig .tc .vmem S1x32x128 .f32) (harg3 : arg3.IsWhole) (arg4 : Memref sig .tc .vmem S1x3x32x128 .bf16) (harg4 : arg4.IsWhole) (arg5 : Memref sig .tc .vmem S3x32x520 .bf16) (harg5 : arg5.IsWhole) (arg6 : Memref sig .tc .vmem S3x64x520 .bf16) (harg6 : arg6.IsWhole) (arg7 : Memref sig .tc .vmem S3x64x520 .bf16) (harg7 : arg7.IsWhole) (arg8 : Memref sig .tc .vmem S3x520x128 .f32) (harg8 : arg8.IsWhole) (arg9 : Memref sig .tc .vmem S32x3 .f32) (harg9 : arg9.IsWhole) (arg10 : Memref sig .tc .vmem S1x3x32x128 .bf16) (harg10 : arg10.IsWhole) (arg11 : Memref sig .tc .vmem S1x3x32x64x128 .fp8e4m3) (harg11 : arg11.IsWhole) (arg12 : Memref sig .tc .vmem S1x3x32x128 .f32) (harg12 : arg12.IsWhole) (arg13 : Memref sig .tc .vmem S352x640 .f32) (harg13 : arg13.IsWhole) (arg14 : Memref sig .tc .vmem S192x640 .f32) (harg14 : arg14.IsWhole) (arg15 : Memref sig .tc .vmem S8x640 .f32) (harg15 : arg15.IsWhole) (arg16 : Memref sig .tc .vmem S208x128 .bf16) (harg16 : arg16.IsWhole) (arg17 : Memref sig .tc .vmem S288x128 .f32) (harg17 : arg17.IsWhole) (arg18 : Memref sig .tc .vmem S32x192x128 .f32) (harg18 : arg18.IsWhole) (arg19 : Memref sig .tc .vmem S864x128 .f32) (harg19 : arg19.IsWhole) (arg20 : Memref sig .tc .vmem S288x128 .f32) (harg20 : arg20.IsWhole) (arg21 : Memref sig .tc .vmem S96x128 .f32) (harg21 : arg21.IsWhole) (arg22 : Memref sig .tc .vmem S96x128 .f32) (harg22 : arg22.IsWhole) (arg23 : Memref sig .tc .vmem S96x128 .f32) (harg23 : arg23.IsWhole)
    (x0 : Vec Ideal S1x32x64x128 .fp8e4m3) (x1 : Vec Ideal S1x32x128 .f32) (x2 : Vec Ideal S1x3x32x128 .bf16) (x3 : Vec Ideal S3x32x520 .bf16) (x4 : Vec Ideal S3x64x520 .bf16) (x5 : Vec Ideal S3x64x520 .bf16) (x6 : Vec Ideal S3x520x128 .f32) (x7 : Vec Ideal S32x3 .f32) (xt0 : TbBuf0 (F := Ideal) c tbM0_0)
    (hx6 : ∀ (t : Fin 3) (s : Fin 520) (k : Fin 128), 64 ≤ k.val → x6 (ix3 t s k) = (0 : EReal)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0 ∗ (∃ X13 X14 X15, ⌜(i 0).val ≠ 0 → Good x3 x4 x5 x7 X13 X15⌝ ∗ owns (c : Thread nD τ) arg13 fullShare X13 ∗ owns (c : Thread nD τ) arg14 fullShare X14 ∗ owns (c : Thread nD τ) arg15 fullShare X15) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (yv (i 0).val (ysum (i 0).val x6 x0) (T13 x3 x7) (T15 x4 x5) x1 x2 x7) ∗ (∃ d, owns (c : Thread nD τ) arg11 fullShare d) ∗ (∃ d, owns (c : Thread nD τ) arg12 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ tbPt0 c tbM0_0 xt0 ∗ (∃ X13 X14 X15, ⌜Good x3 x4 x5 x7 X13 X15⌝ ∗ owns (c : Thread nD τ) arg13 fullShare X13 ∗ owns (c : Thread nD τ) arg14 fullShare X14 ∗ owns (c : Thread nD τ) arg15 fullShare X15)) -∗ K ⟨⟩))
          ⊢ wp frame (wpE (defs₀ (F := Ideal)) Variants.none c none) E (cc0_ssm_spec_decode i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [cc0_ssm_spec_decode_eq_skeleton]; unfold cc0_ssm_spec_decode_skel
    rw [wp_bind]
    iintro ⟨H2, H3, H4, H5, H6, H7, H8, H9, H10, H11, H12, H16, H17, H18, H19, H20, H21, H22, H23, HT0, HSC, Hk⟩
    iapply (part63_val c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 xt0 hx6 E _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [HT0]; · iexact HT0
    isplitl [HSC]; · iexact HSC
    iintro %r ⟨H2, H3, H4, H5, H6, H7, H8, H9, H10, H11, H12, H16, H17, H18, H19, H20, H21, H22, H23, HT0, HSC⟩
    obtain ⟨v3, v5, v1630⟩ := r
    icases HSC with ⟨%X13, %X14, %X15, %hG, H13, H14, H15⟩
    unfold owns
    icases H10 with ⟨%f10, %hf10, H10⟩
    icases H2 with ⟨%f2, %hf2, H2⟩
    icases H3 with ⟨%f3, %hf3, H3⟩
    icases H4 with ⟨%f4, %hf4, H4⟩
    icases H5 with ⟨%f5, %hf5, H5⟩
    icases H6 with ⟨%f6, %hf6, H6⟩
    icases H7 with ⟨%f7, %hf7, H7⟩
    icases H8 with ⟨%f8, %hf8, H8⟩
    icases H9 with ⟨%f9, %hf9, H9⟩
    icases H13 with ⟨%f13, %hf13, H13⟩
    icases H14 with ⟨%f14, %hf14, H14⟩
    icases H15 with ⟨%f15, %hf15, H15⟩
    icases H11 with ⟨%d11, %f11, -, H11⟩
    icases H12 with ⟨%d12, %f12, -, H12⟩
    icases H16 with ⟨%d16, %f16, -, H16⟩
    icases H17 with ⟨%d17, %f17, -, H17⟩
    icases H18 with ⟨%d18, %f18, -, H18⟩
    icases H19 with ⟨%d19, %f19, -, H19⟩
    icases H20 with ⟨%d20, %f20, -, H20⟩
    icases H21 with ⟨%d21, %f21, -, H21⟩
    icases H22 with ⟨%d22, %f22, -, H22⟩
    icases H23 with ⟨%d23, %f23, -, H23⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg13.eq_unread hf13; obtain rfl := harg14.eq_unread hf14; obtain rfl := harg15.eq_unread hf15
    dsimp only
    by_cases hb : Scalar.cmpi .ne v1630 0#32 = 1#1
    all_goals
      sl_exec
      sl_step
      iapply Hk
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _; isplitr; · ipureintro; exact harg10.read_unread _
        iexact H10
      isplitl [H11]
      · iexists _, _; isplitr; swap; · iexact H11
        ipureintro; rfl
      isplitl [H12]
      · iexists _, _; isplitr; swap; · iexact H12
        ipureintro; rfl
      isplitl [H16]
      · iexists _, _; isplitr; swap; · iexact H16
        ipureintro; rfl
      isplitl [H17]
      · iexists _, _; isplitr; swap; · iexact H17
        ipureintro; rfl
      isplitl [H18]
      · iexists _, _; isplitr; swap; · iexact H18
        ipureintro; rfl
      isplitl [H19]
      · iexists _, _; isplitr; swap; · iexact H19
        ipureintro; rfl
      isplitl [H20]
      · iexists _, _; isplitr; swap; · iexact H20
        ipureintro; rfl
      isplitl [H21]
      · iexists _, _; isplitr; swap; · iexact H21
        ipureintro; rfl
      isplitl [H22]
      · iexists _, _; isplitr; swap; · iexact H22
        ipureintro; rfl
      isplitl [H23]
      · iexists _, _; isplitr; swap; · iexact H23
        ipureintro; rfl
      isplitl [HT0]; · iexact HT0
      iexists X13, X14, X15
      isplitr; · ipureintro; exact hG
      isplitl [H13]
      · iexists _; isplitr; · ipureintro; exact harg13.read_unread _
        iexact H13
      isplitl [H14]
      · iexists _; isplitr; · ipureintro; exact harg14.read_unread _
        iexact H14
      iexists _; isplitr; · ipureintro; exact harg15.read_unread _
      iexact H15

end Cert.KernelIdeal.Hand

end
-- ==== Proof.FrameV.lean ====
/- The run of the whole launch at the ideal reading, with what the first result holds: the invariant keeps the tables the
   first step fills, and every block of the first result is the step's output. -/
module

public import proofs.«01_k».proof.Proof.BodyV
public import proofs.«01_k».proof.Proof.FrameKI

@[expose] public section

set_option maxRecDepth 16384

noncomputable section

namespace Cert.KernelIdeal.HandV

open Cert.KernelIdeal.Gen
open Cert.KernelIdeal.Hand hiding frame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The blocks, at their literal shapes -/

/-- What window 0 holds at point `t`. -/
abbrev bl0 (hO : Ok m) (c : Dev nD) (t : Fin (cfgM m hO).N) : Vec Ideal S1x32x64x128 .fp8e4m3 := iblk m hO c 0 t
/-- What window 1 holds at point `t`. -/
abbrev bl1 (hO : Ok m) (c : Dev nD) (t : Fin (cfgM m hO).N) : Vec Ideal S1x32x128 .f32 := iblk m hO c 1 t
/-- What window 2 holds at point `t`. -/
abbrev bl2 (hO : Ok m) (c : Dev nD) (t : Fin (cfgM m hO).N) : Vec Ideal S1x3x32x128 .bf16 := iblk m hO c 2 t
/-- What window 3 holds at point `t`. -/
abbrev bl3 (hO : Ok m) (c : Dev nD) (t : Fin (cfgM m hO).N) : Vec Ideal S3x32x520 .bf16 := iblk m hO c 3 t
/-- What window 4 holds at point `t`. -/
abbrev bl4 (hO : Ok m) (c : Dev nD) (t : Fin (cfgM m hO).N) : Vec Ideal S3x64x520 .bf16 := iblk m hO c 4 t
/-- What window 5 holds at point `t`. -/
abbrev bl5 (hO : Ok m) (c : Dev nD) (t : Fin (cfgM m hO).N) : Vec Ideal S3x64x520 .bf16 := iblk m hO c 5 t
/-- What window 6 holds at point `t`. -/
abbrev bl6 (hO : Ok m) (c : Dev nD) (t : Fin (cfgM m hO).N) : Vec Ideal S3x520x128 .f32 := iblk m hO c 6 t
/-- What window 7 holds at point `t`. -/
abbrev bl7 (hO : Ok m) (c : Dev nD) (t : Fin (cfgM m hO).N) : Vec Ideal S32x3 .f32 := iblk m hO c 7 t
/-- Window 3 holds the same block at every point. -/
theorem bl3_const (hO : Ok m) (c : Dev nD) (t t' : Fin (cfgM m hO).N) : bl3 m hO c t = bl3 m hO c t' := rfl
/-- Window 4 holds the same block at every point. -/
theorem bl4_const (hO : Ok m) (c : Dev nD) (t t' : Fin (cfgM m hO).N) : bl4 m hO c t = bl4 m hO c t' := rfl
/-- Window 5 holds the same block at every point. -/
theorem bl5_const (hO : Ok m) (c : Dev nD) (t t' : Fin (cfgM m hO).N) : bl5 m hO c t = bl5 m hO c t' := rfl
/-- Window 7 holds the same block at every point. -/
theorem bl7_const (hO : Ok m) (c : Dev nD) (t t' : Fin (cfgM m hO).N) : bl7 m hO c t = bl7 m hO c t' := rfl

/-- The first result's block at point `t`. -/
def yblk (hO : Ok m) (c : Dev nD) (t : Fin (cfgM m hO).N) : Vec Ideal S1x3x32x128 .bf16 :=
  yv (grid0.coords t 0).val (ysum (grid0.coords t 0).val (bl6 m hO c t) (bl0 m hO c t)) (T13 (bl3 m hO c t) (bl7 m hO c t))
    (T15 (bl4 m hO c t) (bl5 m hO c t)) (bl1 m hO c t) (bl2 m hO c t) (bl7 m hO c t)

/-- The output windows nothing is said of: the codes and the scales. -/
def forgetsV : Fin 11 → Bool := fun w => w.val == 9 || w.val == 10

/-- The tables the first step fills, filled once a step has run. -/
def tabs (hO : Ok m) (c : Dev nD) (n : ℕ) : sProp 𝕄 :=
  iprop(∃ X13 X14 X15, ⌜n ≠ 0 → ∀ t, Good (bl3 m hO c t) (bl4 m hO c t) (bl5 m hO c t) (bl7 m hO c t) X13 X15⌝
    ∗ owns (c : Thread nD τ) scM0_0 fullShare X13 ∗ owns (c : Thread nD τ) scM0_1 fullShare X14 ∗ owns (c : Thread nD τ) scM0_2 fullShare X15)

/-- The other scratch buffers and the generator register, at some contents. -/
def rest (c : Dev nD) : sProp 𝕄 :=
  iprop(((∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ (∃ r, prngReg c r))

/-- The proof data: the arrays as the region finds them, each input's buffer at its block, the first result's at the step's
    output, and the tables kept from the first step on. -/
def datsV (hO : Ok m) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => yblk m hO c t
    | ⟨9, h⟩ => Pipeline.Dat.unnamed (cfg := (cfgM m hO)) ⟨9, h⟩ t
    | ⟨10, h⟩ => Pipeline.Dat.unnamed (cfg := (cfgM m hO)) ⟨10, h⟩ t
  Φ t := iprop(tabs m hO c t.val ∗ rest c ∗ tbPt0 c tbM0_0 (tbl m 0))
  q _ := fullShare
  owed _ := 0

theorem A_eqV (hO : Ok m) (c : Dev nD) (w : Fin (cfgM m hO).W) : (datsV m hO 0 c).A w = V m c (Pipeline.arrRef spec0 w) := by
  dsimp only [datsV]

theorem afterV_0 (hO : Ok m) (c : Dev nD) (t : Fin (cfgM m hO).N) : (datsV m hO 0 c).after 0 t = iblk m hO c 0 t := by dsimp only [datsV]; try rfl
theorem afterV_1 (hO : Ok m) (c : Dev nD) (t : Fin (cfgM m hO).N) : (datsV m hO 0 c).after 1 t = iblk m hO c 1 t := by dsimp only [datsV]; try rfl
theorem afterV_2 (hO : Ok m) (c : Dev nD) (t : Fin (cfgM m hO).N) : (datsV m hO 0 c).after 2 t = iblk m hO c 2 t := by dsimp only [datsV]; try rfl
theorem afterV_3 (hO : Ok m) (c : Dev nD) (t : Fin (cfgM m hO).N) : (datsV m hO 0 c).after 3 t = iblk m hO c 3 t := by dsimp only [datsV]; try rfl
theorem afterV_4 (hO : Ok m) (c : Dev nD) (t : Fin (cfgM m hO).N) : (datsV m hO 0 c).after 4 t = iblk m hO c 4 t := by dsimp only [datsV]; try rfl
theorem afterV_5 (hO : Ok m) (c : Dev nD) (t : Fin (cfgM m hO).N) : (datsV m hO 0 c).after 5 t = iblk m hO c 5 t := by dsimp only [datsV]; try rfl
theorem afterV_6 (hO : Ok m) (c : Dev nD) (t : Fin (cfgM m hO).N) : (datsV m hO 0 c).after 6 t = iblk m hO c 6 t := by dsimp only [datsV]; try rfl
theorem afterV_7 (hO : Ok m) (c : Dev nD) (t : Fin (cfgM m hO).N) : (datsV m hO 0 c).after 7 t = iblk m hO c 7 t := by dsimp only [datsV]; try rfl
theorem afterV_8 (hO : Ok m) (c : Dev nD) (t : Fin (cfgM m hO).N) : (datsV m hO 0 c).after 8 t = yblk m hO c t := by dsimp only [datsV]; try rfl
theorem beforeV_0 (hO : Ok m) (c : Dev nD) (t : Fin (cfgM m hO).N) (d) : (datsV m hO 0 c).before 0 t d = iblk m hO c 0 t :=
  before0_0_of m hO (datsV m hO 0 c) (A_eqV m hO c 0) (afterV_0 m hO c) t d
theorem beforeV_1 (hO : Ok m) (c : Dev nD) (t : Fin (cfgM m hO).N) (d) : (datsV m hO 0 c).before 1 t d = iblk m hO c 1 t :=
  before0_1_of m hO (datsV m hO 0 c) (A_eqV m hO c 1) (afterV_1 m hO c) t d
theorem beforeV_2 (hO : Ok m) (c : Dev nD) (t : Fin (cfgM m hO).N) (d) : (datsV m hO 0 c).before 2 t d = iblk m hO c 2 t :=
  before0_2_of m hO (datsV m hO 0 c) (A_eqV m hO c 2) (afterV_2 m hO c) t d
theorem beforeV_3 (hO : Ok m) (c : Dev nD) (t : Fin (cfgM m hO).N) (d) : (datsV m hO 0 c).before 3 t d = iblk m hO c 3 t :=
  before0_3_of m hO (datsV m hO 0 c) (A_eqV m hO c 3) (afterV_3 m hO c) t d
theorem beforeV_4 (hO : Ok m) (c : Dev nD) (t : Fin (cfgM m hO).N) (d) : (datsV m hO 0 c).before 4 t d = iblk m hO c 4 t :=
  before0_4_of m hO (datsV m hO 0 c) (A_eqV m hO c 4) (afterV_4 m hO c) t d
theorem beforeV_5 (hO : Ok m) (c : Dev nD) (t : Fin (cfgM m hO).N) (d) : (datsV m hO 0 c).before 5 t d = iblk m hO c 5 t :=
  before0_5_of m hO (datsV m hO 0 c) (A_eqV m hO c 5) (afterV_5 m hO c) t d
theorem beforeV_6 (hO : Ok m) (c : Dev nD) (t : Fin (cfgM m hO).N) (d) : (datsV m hO 0 c).before 6 t d = iblk m hO c 6 t :=
  before0_6_of m hO (datsV m hO 0 c) (A_eqV m hO c 6) (afterV_6 m hO c) t d
theorem beforeV_7 (hO : Ok m) (c : Dev nD) (t : Fin (cfgM m hO).N) (d) : (datsV m hO 0 c).before 7 t d = iblk m hO c 7 t :=
  before0_7_of m hO (datsV m hO 0 c) (A_eqV m hO c 7) (afterV_7 m hO c) t d

/-! ## The body obligation, at a generic point -/

/-- What the body is called with at point `t`, -/
def bodyPreV (hO : Ok m) (c : Dev nD) (t : Fin (cfgM m hO).N) : sProp 𝕄 :=
  iprop((datsV m hO 0 c).Φ t.castSucc ∗ (datsV m hO 0 c).owesAt () t.castSucc
    ∗ (∃ d, owns (c : Thread nD τ) (ms0_0 m hO t) fullShare ((datsV m hO 0 c).before 0 t d))
    ∗ (∃ d, owns (c : Thread nD τ) (ms0_1 m hO t) fullShare ((datsV m hO 0 c).before 1 t d))
    ∗ (∃ d, owns (c : Thread nD τ) (ms0_2 m hO t) fullShare ((datsV m hO 0 c).before 2 t d))
    ∗ (∃ d, owns (c : Thread nD τ) (ms0_3 m hO t) fullShare ((datsV m hO 0 c).before 3 t d))
    ∗ (∃ d, owns (c : Thread nD τ) (ms0_4 m hO t) fullShare ((datsV m hO 0 c).before 4 t d))
    ∗ (∃ d, owns (c : Thread nD τ) (ms0_5 m hO t) fullShare ((datsV m hO 0 c).before 5 t d))
    ∗ (∃ d, owns (c : Thread nD τ) (ms0_6 m hO t) fullShare ((datsV m hO 0 c).before 6 t d))
    ∗ (∃ d, owns (c : Thread nD τ) (ms0_7 m hO t) fullShare ((datsV m hO 0 c).before 7 t d))
    ∗ (∃ d, owns (c : Thread nD τ) (ms0_8 m hO t) fullShare ((datsV m hO 0 c).before 8 t d))
    ∗ (∃ d, owns (c : Thread nD τ) (ms0_9 m hO t) fullShare d)
    ∗ (∃ d, owns (c : Thread nD τ) (ms0_10 m hO t) fullShare d))

/-- and what it returns. -/
def bodyPostV (hO : Ok m) (c : Dev nD) (t : Fin (cfgM m hO).N) : sProp 𝕄 :=
  iprop((datsV m hO 0 c).Φ t.succ ∗ (datsV m hO 0 c).owesAt () t.succ
    ∗ owns (c : Thread nD τ) (ms0_0 m hO t) fullShare ((datsV m hO 0 c).after 0 t)
    ∗ owns (c : Thread nD τ) (ms0_1 m hO t) fullShare ((datsV m hO 0 c).after 1 t)
    ∗ owns (c : Thread nD τ) (ms0_2 m hO t) fullShare ((datsV m hO 0 c).after 2 t)
    ∗ owns (c : Thread nD τ) (ms0_3 m hO t) fullShare ((datsV m hO 0 c).after 3 t)
    ∗ owns (c : Thread nD τ) (ms0_4 m hO t) fullShare ((datsV m hO 0 c).after 4 t)
    ∗ owns (c : Thread nD τ) (ms0_5 m hO t) fullShare ((datsV m hO 0 c).after 5 t)
    ∗ owns (c : Thread nD τ) (ms0_6 m hO t) fullShare ((datsV m hO 0 c).after 6 t)
    ∗ owns (c : Thread nD τ) (ms0_7 m hO t) fullShare ((datsV m hO 0 c).after 7 t)
    ∗ owns (c : Thread nD τ) (ms0_8 m hO t) fullShare ((datsV m hO 0 c).after 8 t)
    ∗ (∃ d, owns (c : Thread nD τ) (ms0_9 m hO t) fullShare d)
    ∗ (∃ d, owns (c : Thread nD τ) (ms0_10 m hO t) fullShare d))

/-- A point of the one-axis grid is its coordinate. -/
theorem coord_val (t : Fin grid0.N) : (grid0.coords t 0).val = t.val := by
  rw [Pipeline.Grid.coords_val t 0 (S := 1) (B := 520) (by decide) rfl]
  have : t.val < 520 := t.isLt
  omega

/-- What the padded rows hold beyond the 64 columns. -/
def Padded (hO : Ok m) : Prop := ∀ (c : Dev nD) (t : Fin (cfgM m hO).N) (u : Fin 3) (s : Fin 520) (k : Fin 128),
  64 ≤ k.val → bl6 m hO c t (ix3 u s k) = (0 : EReal)

set_option maxHeartbeats 4000000 in
/-- The body at any point. -/
theorem sound_bodyV (hO : Ok m) (hP : Padded m hO) (c : Dev nD) (t : Fin (cfgM m hO).N) :
    bodyPreV m hO c t ⊢ wp frame (wpE (defs₀ (F := Ideal)) Variants.none c none) Set.univ (bodyAt0 (adm m hO) t) (fun _ => bodyPostV m hO c t) := by
  unfold bodyPreV bodyPostV bodyAt0
  simp only [beforeV_0, beforeV_1, beforeV_2, beforeV_3, beforeV_4, beforeV_5, beforeV_6, beforeV_7]
  rw [show (datsV m hO 0 c).owesAt () t.succ = (datsV m hO 0 c).owesAt () t.castSucc from rfl,
    afterV_0, afterV_1, afterV_2, afterV_3, afterV_4, afterV_5, afterV_6, afterV_7, afterV_8]
  rw [show (datsV m hO 0 c).Φ t.castSucc = iprop(tabs m hO c t.val ∗ rest c ∗ tbPt0 c tbM0_0 (tbl m 0)) from rfl,
    show (datsV m hO 0 c).Φ t.succ = iprop(tabs m hO c (t.val + 1) ∗ rest c ∗ tbPt0 c tbM0_0 (tbl m 0)) from rfl]
  unfold tabs rest yblk
  iintro ⟨⟨⟨%X13, %X14, %X15, %hG, HS0, HS1, HS2⟩, ⟨⟨HS3, HS4, HS5, HS6, HS7, HS8, HS9, HS10⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
  iapply (body_val c (grid0.coords t) _ _ _ _ _ _ _ _ _ _ _ _ _ _ _ _ _ _ _ _ _ _ _ _ _ _ _ _ _ _ _ _ _ _ _ _ _ _ _ _ _ _ _ _ (bl0 m hO c t) (bl1 m hO c t) (bl2 m hO c t) (bl3 m hO c t) (bl4 m hO c t) (bl5 m hO c t) (bl6 m hO c t) (bl7 m hO c t) (tbl m 0) (hP c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HT0]; · iexact HT0
  isplitl [HS0 HS1 HS2]
  · iexists X13, X14, X15
    isplitr; · ipureintro; intro h; exact hG (by rwa [coord_val] at h) t
    isplitl [HS0]; · iexact HS0
    isplitl [HS1]; · iexact HS1
    iexact HS2
  iintro ⟨H0, H1, H2, H3, H4, H5, H6, H7, H8, H9, H10, HS3, HS4, HS5, HS6, HS7, HS8, HS9, HS10, HT0, ⟨%Y13, %Y14, %Y15, %hG', HS0, HS1, HS2⟩⟩
  isplitl [HS0 HS1 HS2 HS3 HS4 HS5 HS6 HS7 HS8 HS9 HS10 Hg HT0]
  · isplitl [HS0 HS1 HS2]
    · iexists Y13, Y14, Y15
      isplitr; · ipureintro; intro _ t'; exact hG'
      isplitl [HS0]; · iexact HS0
      isplitl [HS1]; · iexact HS1
      iexact HS2
    isplitl [HS3 HS4 HS5 HS6 HS7 HS8 HS9 HS10 Hg]
    · isplitl [HS3 HS4 HS5 HS6 HS7 HS8 HS9 HS10]
      · isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        iexact HS10
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body. -/
theorem body_obligationV (hO : Ok m) (hP : Padded m hO) (c : Dev nD) :
    BodyObligation (datsV m hO 0 c) (defs₀ (F := Ideal)) Variants.none () Set.univ forgetsV := fun t => by
  rw [bigSep_W0, bigSep_W0, defs₀_row m hO]
  exact triple_restated (sound_bodyV m hO hP c t) rfl .rfl fun _ => .rfl

/-! ## The run -/

/-- The invariant at entry, from what the region hands in. -/
theorem phi_in (hO : Ok m) (c : Dev nD) : iprop(Pipeline.ΦA spec0 c ∗ Pipeline.ΦT pre0 (tbl m) c) ⊢ (datsV m hO 0 c).Φ 0 := by
  rw [show (datsV m hO 0 c).Φ 0 = iprop(tabs m hO c 0 ∗ rest c ∗ tbPt0 c tbM0_0 (tbl m 0)) from rfl, PhiT0_eq, PhiA0_eq]
  unfold tabs rest
  iintro ⟨⟨⟨⟨%X13, HS0⟩, ⟨%X14, HS1⟩, ⟨%X15, HS2⟩, HR⟩, Hg⟩, HT0⟩
  isplitl [HS0 HS1 HS2]
  · iexists X13, X14, X15
    isplitr; · ipureintro; intro h; exact absurd rfl h
    isplitl [HS0]; · iexact HS0
    isplitl [HS1]; · iexact HS1
    iexact HS2
  isplitl [HR Hg]
  · isplitl [HR]; · iexact HR
    iexact Hg
  iexact HT0

/-- What is handed back at exit. -/
theorem phi_out (hO : Ok m) (c : Dev nD) : (datsV m hO 0 c).Φ (Fin.last (cfgM m hO).N) ⊢ Pipeline.ΦA spec0 c := by
  rw [show (datsV m hO 0 c).Φ (Fin.last (cfgM m hO).N) = iprop(tabs m hO c (cfgM m hO).N ∗ rest c ∗ tbPt0 c tbM0_0 (tbl m 0)) from rfl, PhiA0_eq]
  unfold tabs rest
  iintro ⟨⟨%X13, %X14, %X15, %hG, HS0, HS1, HS2⟩, ⟨HR, Hg⟩, HT0⟩
  isplitl [HS0 HS1 HS2 HR]
  · isplitl [HS0]; · iexists _; iexact HS0
    isplitl [HS1]; · iexists _; iexact HS1
    isplitl [HS2]; · iexists _; iexact HS2
    iexact HR
  iexact Hg

set_option backward.isDefEq.respectTransparency.types false in
/-- The launch. -/
theorem run_mainV (hO : Ok m) (hP : Padded m hO) : θ_run defs (onTc (τ := τ) (main (F := Ideal))) (s₀ m ρ)
    (Pipeline.RDat.FramePost ((Pipeline.pin pcfgs fun _ => adm m hO) 0) (fun c => (datsV m hO 0 c).toRForget forgetsV) (V m)) :=
  Pipeline.θ_run_frameP_track_forget (Q' := _) pcfgs (fun _ => adm m hO) (datsV m hO) (0 : Fin 1) launch0 defs₀ Variants.none forgetsV m ρ main
    (hbody := fun c => (body_obligationV m hO hP c).loose) (hshare := fun c => (datsV m hO 0 c).share_full fun _ => rfl)
    (howed := fun _ _ => rfl) (V := V m) (hmain := hmain m Variants.none) (hA := A_eqV m hO) (hpf := V_pre m)
    (hin := phi_in m hO) (hout := phi_out m hO)

end Cert.KernelIdeal.HandV

end
-- ==== Proof.HostKI.lean ====
/- What the kernel's windows hold when the region is entered, element by element of the arguments. -/
module

public import proofs.«01_k».proof.Proof.KitKI
public import proofs.«01_k».proof.Proof.YPay
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

/-- The arguments, at their shapes. -/
abbrev g0 (c : Dev nD) : S520x3x32x128.Idx → EReal := m ((c : Thread nD τ).loc main_arg0)
abbrev g1 (c : Dev nD) : S520x3x32.Idx → EReal := m ((c : Thread nD τ).loc main_arg1)
abbrev g2 (c : Dev nD) : S32.Idx → EReal := m ((c : Thread nD τ).loc main_arg2)
abbrev g3 (c : Dev nD) : S32.Idx → EReal := m ((c : Thread nD τ).loc main_arg3)
abbrev g4 (c : Dev nD) : S520x3x1x64.Idx → EReal := m ((c : Thread nD τ).loc main_arg4)
abbrev g5 (c : Dev nD) : S520x3x1x64.Idx → EReal := m ((c : Thread nD τ).loc main_arg5)
abbrev g6 (c : Dev nD) : S32.Idx → EReal := m ((c : Thread nD τ).loc main_arg6)
abbrev g7 (c : Dev nD) : S653x32x128x64.Idx → EReal := m ((c : Thread nD τ).loc main_arg7)
abbrev g8 (c : Dev nD) : S653x32x128.Idx → EReal := m ((c : Thread nD τ).loc main_arg8)
abbrev g9 (c : Dev nD) : S520.Idx → BitVec 32 := m ((c : Thread nD τ).loc main_arg9)

/-! ## The arrays the host operations fill -/

theorem V_codes (c : Dev nD) (i : Fin 653) (h : Fin 32) (n : Fin 64) (d : Fin 128) :
    (V m c main_v0 : S653x32x64x128.Idx → EReal) (ix4 i h n d) = g7 m c (ix4 i h d n) := by
  have e : (V m c main_v0 : S653x32x64x128.Idx → EReal) = transpose S653x32x64x128 [0, 1, 3, 2] (g7 m c) transposes_S653x32x128x64_S653x32x64x128_0_1_3_2 := by
    unfold V g7; unfold hostOps0; after_results; try rfl
  rw [e]; pointwise

theorem V_dt (c : Dev nD) (u : Fin 3) (h : Fin 32) (s : Fin 520) :
    (V m c main_v1 : S3x32x520.Idx → EReal) (ix3 u h s) = g1 m c (ix3 s u h) := by
  have e : (V m c main_v1 : S3x32x520.Idx → EReal) = transpose S3x32x520 [1, 2, 0] (g1 m c) transposes_S520x3x32_S3x32x520_1_2_0 := by
    unfold V g1; unfold hostOps0; after_results; try rfl
  rw [e]; pointwise

theorem V_b (c : Dev nD) (u : Fin 3) (n : Fin 64) (s : Fin 520) :
    (V m c main_v3 : S3x64x520.Idx → EReal) (ix3 u n s) = g4 m c (ix4 s u 0 n) := by
  have e : (V m c main_v3 : S3x64x520.Idx → EReal) = transpose S3x64x520 [1, 2, 0] (shapeCast S520x3x64 (g4 m c) shapeCasts_S520x3x1x64_S520x3x64) transposes_S520x3x64_S3x64x520_1_2_0 := by
    unfold V g4; unfold hostOps0; after_results; try rfl
  rw [e]; pointwise

theorem V_c (c : Dev nD) (u : Fin 3) (n : Fin 64) (s : Fin 520) :
    (V m c main_v5 : S3x64x520.Idx → EReal) (ix3 u n s) = g5 m c (ix4 s u 0 n) := by
  have e : (V m c main_v5 : S3x64x520.Idx → EReal) = transpose S3x64x520 [1, 2, 0] (shapeCast S520x3x64 (g5 m c) shapeCasts_S520x3x1x64_S520x3x64) transposes_S520x3x64_S3x64x520_1_2_0 := by
    unfold V g5; unfold hostOps0; after_results; try rfl
  rw [e]; pointwise

/-- The rows of the output projection: converted, padded with zeros to 128 columns. -/
theorem V_crows (c : Dev nD) : (V m c main_v9 : S3x520x128.Idx → EReal)
    = pad S3x520x128 ![0, 0, 0] ![0, 0, 64] ![0, 0, 0]
        (extf (F := Ideal) .f32 (transpose S3x520x64 [1, 0, 2] (shapeCast S520x3x64 (g5 m c) shapeCasts_S520x3x1x64_S520x3x64) transposes_S520x3x64_S3x520x64_1_0_2) bitsLt_bf16_f32)
        (constant (F := Ideal) S_ .f32 0x00000000#32) pads_S3x520x64_S3x520x128_000_000_0640 h_S_ := by
  unfold V g5; unfold hostOps0; after_results; try rfl

theorem V_crows_lo (c : Dev nD) (u : Fin 3) (s : Fin 520) (k : Fin 128) (n : Fin 64) (hk : k.val = n.val) :
    (V m c main_v9 : S3x520x128.Idx → EReal) (ix3 u s k) = g5 m c (ix4 s u 0 n) := by
  have h : k.val < 64 := hk ▸ n.isLt
  have e : n = ⟨k.val, h⟩ := Fin.ext hk.symm
  rw [V_crows, e]
  pointwise
  exact dif_pos h

theorem V_crows_hi (c : Dev nD) (u : Fin 3) (s : Fin 520) (k : Fin 128) (hk : 64 ≤ k.val) :
    (V m c main_v9 : S3x520x128.Idx → EReal) (ix3 u s k) = (0 : EReal) := by
  rw [V_crows]
  pointwise
  exact dif_neg (by omega)

theorem V_par (c : Dev nD) (h : Fin 32) :
    (V m c main_v13 : S32x3.Idx → EReal) (ix2 h 0) = g2 m c (ix1 h) ∧ (V m c main_v13 : S32x3.Idx → EReal) (ix2 h 1) = g3 m c (ix1 h)
      ∧ (V m c main_v13 : S32x3.Idx → EReal) (ix2 h 2) = g6 m c (ix1 h) := by
  have e : (V m c main_v13 : S32x3.Idx → EReal) = concatenate S32x3 1
      [⟨S32x1, broadcastInDim S32x1 ![0] bcast_S32_S32x1_0 (g2 m c)⟩, ⟨S32x1, broadcastInDim S32x1 ![0] bcast_S32_S32x1_0 (g3 m c)⟩,
        ⟨S32x1, broadcastInDim S32x1 ![0] bcast_S32_S32x1_0 (g6 m c)⟩] concatenates_S32x1_S32x1_S32x1_S32x3_d1 := by
    unfold V g2 g3 g6; unfold hostOps0; after_results; try rfl
  rw [e]
  refine ⟨?_, ?_, ?_⟩ <;> pointwise

end Cert.KernelIdeal.Hand

end
-- ==== Proof.Blocks.lean ====
/- What each window's block holds, element by element of the arguments. -/
module

public import proofs.«01_k».proof.Proof.FrameV
public import proofs.«01_k».proof.Proof.HostKI
public import proofs.«01_k».proof.Proof.Ids
public import Idealize.ShloMosaic.Lib.Pipeline.ValueKit

@[expose] public section

set_option maxRecDepth 16384

noncomputable section

namespace Cert.KernelIdeal.HandV

open Cert.KernelIdeal.Gen
open Cert.KernelIdeal.Hand hiding frame
open Idealize.ShloMosaic Idealize.ShloMosaic.TcCoe Idealize.ShloMosaic.Tactic
open Idealize.SL Idealize.SL.Sem

variable (m : (ℓ : Loc nD τ sig) → Buf (Elt Ideal) ℓ)

/-! ## The windows that hold their whole array -/

theorem bl3_at (hO : Ok m) (c : Dev nD) (t : Fin (cfgM m hO).N) (j : S3x32x520.Idx) : bl3 m hO c t j = (V m c main_v1 : S3x32x520.Idx → EReal) j := by
  refine congrArg (V m c main_v1 : S3x32x520.Idx → EReal) (funext fun a => Fin.ext ?_)
  refine Pipeline.Window.rect_emb_val_of_index_zero ((cfgM m hO).win 3) t a ?_ j
  match a with
  | ⟨0, _⟩ => rfl
  | ⟨1, _⟩ => rfl
  | ⟨2, _⟩ => rfl

theorem bl4_at (hO : Ok m) (c : Dev nD) (t : Fin (cfgM m hO).N) (j : S3x64x520.Idx) : bl4 m hO c t j = (V m c main_v3 : S3x64x520.Idx → EReal) j := by
  refine congrArg (V m c main_v3 : S3x64x520.Idx → EReal) (funext fun a => Fin.ext ?_)
  refine Pipeline.Window.rect_emb_val_of_index_zero ((cfgM m hO).win 4) t a ?_ j
  match a with
  | ⟨0, _⟩ => rfl
  | ⟨1, _⟩ => rfl
  | ⟨2, _⟩ => rfl

theorem bl5_at (hO : Ok m) (c : Dev nD) (t : Fin (cfgM m hO).N) (j : S3x64x520.Idx) : bl5 m hO c t j = (V m c main_v5 : S3x64x520.Idx → EReal) j := by
  refine congrArg (V m c main_v5 : S3x64x520.Idx → EReal) (funext fun a => Fin.ext ?_)
  refine Pipeline.Window.rect_emb_val_of_index_zero ((cfgM m hO).win 5) t a ?_ j
  match a with
  | ⟨0, _⟩ => rfl
  | ⟨1, _⟩ => rfl
  | ⟨2, _⟩ => rfl

theorem bl6_at (hO : Ok m) (c : Dev nD) (t : Fin (cfgM m hO).N) (j : S3x520x128.Idx) : bl6 m hO c t j = (V m c main_v9 : S3x520x128.Idx → EReal) j := by
  refine congrArg (V m c main_v9 : S3x520x128.Idx → EReal) (funext fun a => Fin.ext ?_)
  refine Pipeline.Window.rect_emb_val_of_index_zero ((cfgM m hO).win 6) t a ?_ j
  match a with
  | ⟨0, _⟩ => rfl
  | ⟨1, _⟩ => rfl
  | ⟨2, _⟩ => rfl

theorem bl7_at (hO : Ok m) (c : Dev nD) (t : Fin (cfgM m hO).N) (j : S32x3.Idx) : bl7 m hO c t j = (V m c main_v13 : S32x3.Idx → EReal) j := by
  refine congrArg (V m c main_v13 : S32x3.Idx → EReal) (funext fun a => Fin.ext ?_)
  refine Pipeline.Window.rect_emb_val_of_index_zero ((cfgM m hO).win 7) t a ?_ j
  match a with
  | ⟨0, _⟩ => rfl
  | ⟨1, _⟩ => rfl

/-! ## The windows that move with the step -/

/-- The grid's point as a row of the batch. -/
abbrev row (hO : Ok m) (t : Fin (cfgM m hO).N) : Fin 520 := ⟨t.val, t.isLt⟩

theorem bl2_at (hO : Ok m) (c : Dev nD) (t : Fin (cfgM m hO).N) (u : Fin 3) (h : Fin 32) (d : Fin 128) :
    bl2 m hO c t (ix4 0 u h d) = g0 m c (ix4 (row m hO t) u h d) := by
  rw [show g0 m c = (V m c main_arg0 : S520x3x32x128.Idx → EReal) from (V_main_arg0 m c).symm]
  refine congrArg (V m c main_arg0 : S520x3x32x128.Idx → EReal) (funext fun a => Fin.ext ?_)
  refine (Pipeline.Window.rect_emb_val ((cfgM m hO).win 2) t (ix4 0 u h d) a).trans ?_
  have e : ((cfgM m hO).win 2).index t = ![t.val, 0, 0, 0] := by
    have hc := coord_val t
    have ht : t.val < 520 := t.isLt
    show cc0_transform_2 (grid0.coords t) = _
    unfold cc0_transform_2
    dsimp only
    rw [hc, BitVec.toNat_ofNat, Nat.mod_eq_of_lt (by omega)]
    rfl
  rw [e]
  match a with
  | ⟨0, _⟩ => show t.val * 1 + 0 = t.val; omega
  | ⟨1, _⟩ => show 0 * 3 + u.val = u.val; omega
  | ⟨2, _⟩ => show 0 * 32 + h.val = h.val; omega
  | ⟨3, _⟩ => show 0 * 128 + d.val = d.val; omega

/-- The table's word a point reads is the row's id. -/
theorem tbl_at (t : Fin grid0.N) :
    (tbl m).at 0 (Rect.unit (s := S520) (k0_off1 (grid0.coords t)) S1.size (k0_off1_inb (grid0.coords t))) numel1_S1 = g9 m 0 (ix1 ⟨t.val, t.isLt⟩) := by
  have e : tbl m 0 = m (((0 : Dev nD) : Thread nD τ).loc main_arg9) := V_main_arg9 m 0
  refine (congrFun e _).trans (congrArg (g9 m 0) (funext fun a => Fin.ext ?_))
  have hc := coord_val t
  have ht : t.val < 520 := t.isLt
  match a with
  | ⟨0, _⟩ =>
    refine (ValueKit.rect_emb_unit_val _ _ _ _ _).trans ?_
    have h0 : ∀ (r : (Rect.unit (s := S520) (k0_off1 (grid0.coords t)) S1.size (k0_off1_inb (grid0.coords t))).shape.Idx), (r 0).val = 0 := fun r => by
      have h : (r 0).val < 1 := (r 0).isLt
      omega
    refine (congrArg (k0_off1 (grid0.coords t) 0 + ·) (h0 _)).trans ?_
    show (BitVec.ofNat 32 (grid0.coords t 0).val).toNat + 0 = t.val
    rw [hc, BitVec.toNat_ofNat, Nat.mod_eq_of_lt (by omega)]
    rfl

theorem index0 (hO : Ok m) (t : Fin (cfgM m hO).N) : ((cfgM m hO).win 0).index t = ![(g9 m 0 (ix1 (row m hO t))).toNat, 0, 0, 0] := by
  show cc0_transform_0 k0_off1_inb numel1_S1 (tbl m) (grid0.coords t) = _
  unfold cc0_transform_0
  dsimp only
  erw [tbl_at m t]
  rfl

theorem index1 (hO : Ok m) (t : Fin (cfgM m hO).N) : ((cfgM m hO).win 1).index t = ![(g9 m 0 (ix1 (row m hO t))).toNat, 0, 0] := by
  show cc0_transform_1 k0_off1_inb numel1_S1 (tbl m) (grid0.coords t) = _
  unfold cc0_transform_1
  dsimp only
  erw [tbl_at m t]
  rfl

theorem bl0_at (hO : Ok m) (c : Dev nD) (t : Fin (cfgM m hO).N) (i : Fin 653) (hi : (g9 m 0 (ix1 (row m hO t))).toNat = i.val)
    (h : Fin 32) (n : Fin 64) (d : Fin 128) : bl0 m hO c t (ix4 0 h n d) = g7 m c (ix4 i h d n) := by
  rw [← V_codes m c i h n d]
  refine congrArg (V m c main_v0 : S653x32x64x128.Idx → EReal) (funext fun a => Fin.ext ?_)
  refine (Pipeline.Window.rect_emb_val ((cfgM m hO).win 0) t (ix4 0 h n d) a).trans ?_
  rw [index0 m hO t, hi]
  match a with
  | ⟨0, _⟩ => show i.val * 1 + 0 = i.val; omega
  | ⟨1, _⟩ => show 0 * 32 + h.val = h.val; omega
  | ⟨2, _⟩ => show 0 * 64 + n.val = n.val; omega
  | ⟨3, _⟩ => show 0 * 128 + d.val = d.val; omega

theorem bl1_at (hO : Ok m) (c : Dev nD) (t : Fin (cfgM m hO).N) (i : Fin 653) (hi : (g9 m 0 (ix1 (row m hO t))).toNat = i.val)
    (h : Fin 32) (d : Fin 128) : bl1 m hO c t (ix3 0 h d) = g8 m c (ix3 i h d) := by
  rw [show g8 m c = (V m c main_arg8 : S653x32x128.Idx → EReal) from (V_main_arg8 m c).symm]
  refine congrArg (V m c main_arg8 : S653x32x128.Idx → EReal) (funext fun a => Fin.ext ?_)
  refine (Pipeline.Window.rect_emb_val ((cfgM m hO).win 1) t (ix3 0 h d) a).trans ?_
  rw [index1 m hO t, hi]
  match a with
  | ⟨0, _⟩ => show i.val * 1 + 0 = i.val; omega
  | ⟨1, _⟩ => show 0 * 32 + h.val = h.val; omega
  | ⟨2, _⟩ => show 0 * 128 + d.val = d.val; omega

/-- The rows are zero beyond the 64 columns. -/
theorem padded (hO : Ok m) : Padded m hO := fun c t u s k hk => by
  rw [bl6_at]; exact V_crows_hi m c u s k hk

/-! ## The first result, row by row -/

theorem index8 (hO : Ok m) (t : Fin (cfgM m hO).N) : ((cfgM m hO).win 8).index t = ![t.val, 0, 0, 0] := by
  have hc := coord_val t
  have ht : t.val < 520 := t.isLt
  show cc0_transform_8 (grid0.coords t) = _
  unfold cc0_transform_8
  dsimp only
  rw [hc, BitVec.toNat_ofNat, Nat.mod_eq_of_lt (by omega)]
  rfl

theorem inj8 (hO : Ok m) (t t' : Fin (cfgM m hO).N) (h : ((cfgM m hO).win 8).index t = ((cfgM m hO).win 8).index t') : t = t' := by
  rw [index8, index8] at h
  exact Fin.ext (congrFun h 0)

/-- Every point writes its block back. -/
theorem flush8 (hO : Ok m) (t : Fin (cfgM m hO).N) : ((cfgM m hO).win 8).flush t = true := by
  have e : ((cfgM m hO).win 8).isOut = true := rfl
  unfold Pipeline.Window.flush
  rw [e, Bool.true_and, Bool.or_eq_true]
  have hN : (cfgM m hO).N = (cfgM m hO).grid.N := rfl
  by_cases h : t.val + 1 = (cfgM m hO).grid.N
  · exact Or.inl (decide_eq_true h)
  · refine Or.inr (decide_eq_true ⟨by have := t.isLt; omega, fun e => ?_⟩)
    have := congrArg Fin.val (inj8 m hO _ _ e)
    dsimp only at this
    omega

/-- The first result after the run. -/
def yarr (hO : Ok m) (c : Dev nD) : S520x3x32x128.Idx → EReal := (datsV m hO 0 c).arrAt 8 (cfgM m hO).N

theorem emb8 (hO : Ok m) (t : Fin (cfgM m hO).N) (u : Fin 3) (h : Fin 32) (d : Fin 128) :
    (((cfgM m hO).win 8).rect t).emb (ix4 (0 : Fin 1) u h d : S1x3x32x128.Idx) = (ix4 (row m hO t) u h d : S520x3x32x128.Idx) := by
  funext a
  apply Fin.ext
  refine (Pipeline.Window.rect_emb_val ((cfgM m hO).win 8) t (ix4 (0 : Fin 1) u h d : S1x3x32x128.Idx) a).trans ?_
  rw [index8]
  match a with
  | ⟨0, _⟩ => show t.val * 1 + 0 = t.val; omega
  | ⟨1, _⟩ => show 0 * 3 + u.val = u.val; omega
  | ⟨2, _⟩ => show 0 * 32 + h.val = h.val; omega
  | ⟨3, _⟩ => show 0 * 128 + d.val = d.val; omega

theorem disj8 (hO : Ok m) : ∀ t t' : Fin (cfgM m hO).N, ((cfgM m hO).win 8).flush t = true → ((cfgM m hO).win 8).flush t' = true → t ≠ t' →
    Disjoint (((cfgM m hO).win 8).blk t).view.set (((cfgM m hO).win 8).blk t').view.set :=
  ((cfgM m hO).win 8).hdisj_of_index_inj fun t t' _ _ e => inj8 m hO t t' e

theorem arr8 (hO : Ok m) (c : Dev nD) (t : Fin (cfgM m hO).N) (j : (((cfgM m hO).win 8).xblock ((cfgM m hO).grid.coords t)).Idx) :
    (datsV m hO 0 c).arrAt 8 (cfgM m hO).N ((((cfgM m hO).win 8).blk t).view.emb j)
      = _root_.cast (congrArg (Elt Ideal) (((cfgM m hO).win 8).blk t).view.elt_eq.symm) ((datsV m hO 0 c).flushed 8 t j) :=
  (datsV m hO 0 c).arrAt_emb_eq_flushed 8 (disj8 m hO) t (flush8 m hO t) j

theorem read8 (hO : Ok m) (c : Dev nD) (t : Fin (cfgM m hO).N) (j : S1x3x32x128.Idx) :
    yarr m hO c ((((cfgM m hO).win 8).rect t).emb j) = (datsV m hO 0 c).flushed 8 t j := by
  refine Eq.trans ?_ ((arr8 m hO c t j).trans ?_)
  · rfl
  · rfl

theorem flushed8 (hO : Ok m) (c : Dev nD) (t : Fin (cfgM m hO).N) (j : S1x3x32x128.Idx) :
    (datsV m hO 0 c).flushed 8 t j = yblk m hO c t j := by
  rw [← afterV_8]
  rfl

theorem yarr_at (hO : Ok m) (c : Dev nD) (t : Fin (cfgM m hO).N) (u : Fin 3) (h : Fin 32) (d : Fin 128) :
    yarr m hO c (ix4 (row m hO t) u h d) = yblk m hO c t (ix4 0 u h d) := by
  rw [← emb8, read8, flushed8]

end Cert.KernelIdeal.HandV

end
-- ==== Proof.RefVal.lean ====
/- What the reference computes, one output element as a function of the arguments. -/
module

public import proofs.«01_k».proof.Proof.Gen.ReferenceIdeal.Value
public import proofs.«01_k».proof.Proof.Alg
public import Idealize.ShloMosaic.PureOps.Ideal
public import Idealize.ShloMosaic.Lib.IdealHost
public import Idealize.ShloMosaic.Lib.Pointwise
public import Idealize.ShloMosaic.Lib.WritesUnit

@[expose] public section

set_option maxRecDepth 16384

noncomputable section

namespace Cert.ReferenceIdeal.Hand

open Cert.ReferenceIdeal Cert.ReferenceIdeal.Gen Idealize.ShloMosaic Idealize.ShloMosaic.TcCoe Idealize.ShloMosaic.Tactic Cert.Alg

variable (x : S520x3x32x128.Idx → EReal) (dt : S520x3x32.Idx → EReal) (bias A : S32.Idx → EReal) (B C : S520x3x1x64.Idx → EReal)
  (D : S32.Idx → EReal) (K : S520x32x128x64.Idx → EReal) (S : S520x32x128.Idx → EReal)

/-- The step of request `b`, token `t`, head `h`, and its decay factor. -/
def del (b : Fin 520) (t : Fin 3) (h : Fin 32) : EReal := sp (dt (ix3 b t h) + bias (ix1 h))
def dec (b : Fin 520) (t : Fin 3) (h : Fin 32) : EReal := dcy (A (ix1 h)) (del dt bias b t h)

/-- The output of request `b` at head `h` and position `d` after each of the three tokens. -/
def yr0 (b : Fin 520) (h : Fin 32) (d : Fin 128) : EReal :=
  (∑ n : Fin 64, h0 (K (ix4 b h d n)) (S (ix3 b h d)) (dec dt bias A b 0 h) (del dt bias b 0 h) (x (ix4 b 0 h d)) (B (ix4 b 0 0 n)) * C (ix4 b 0 0 n))
    + D (ix1 h) * x (ix4 b 0 h d)
def yr1 (b : Fin 520) (h : Fin 32) (d : Fin 128) : EReal :=
  (∑ n : Fin 64, h1 (K (ix4 b h d n)) (S (ix3 b h d)) (dec dt bias A b 0 h) (del dt bias b 0 h) (x (ix4 b 0 h d)) (B (ix4 b 0 0 n))
      (dec dt bias A b 1 h) (del dt bias b 1 h) (x (ix4 b 1 h d)) (B (ix4 b 1 0 n)) * C (ix4 b 1 0 n))
    + D (ix1 h) * x (ix4 b 1 h d)
def yr2 (b : Fin 520) (h : Fin 32) (d : Fin 128) : EReal :=
  (∑ n : Fin 64, h2 (K (ix4 b h d n)) (S (ix3 b h d)) (dec dt bias A b 0 h) (del dt bias b 0 h) (x (ix4 b 0 h d)) (B (ix4 b 0 0 n))
      (dec dt bias A b 1 h) (del dt bias b 1 h) (x (ix4 b 1 h d)) (B (ix4 b 1 0 n))
      (dec dt bias A b 2 h) (del dt bias b 2 h) (x (ix4 b 2 h d)) (B (ix4 b 2 0 n)) * C (ix4 b 2 0 n))
    + D (ix1 h) * x (ix4 b 2 h d)
def yr : S520x3x32x128.Idx → EReal := fun j =>
  if (j 1).val = 0 then yr0 x dt bias A B C D K S (j 0) (j 2) (j 3)
  else if (j 1).val = 1 then yr1 x dt bias A B C D K S (j 0) (j 2) (j 3)
  else yr2 x dt bias A B C D K S (j 0) (j 2) (j 3)

theorem sel (z a b : EReal) : Scalar.select (Ideal.cmp .one z z) a b = b := by
  simp [Scalar.select, Ideal.cmp]

theorem emb3 {o : Fin 4 → ℕ} (h : ∀ a, o a + S520x1x32x128.size a ≤ S520x3x32x128.size a) (a : Fin 520) (b : Fin 1) (c : Fin 32) (d : Fin 128) (t : Fin 3)
    (ho : o 0 = 0 ∧ o 1 + b.val = t.val ∧ o 2 = 0 ∧ o 3 = 0) :
    (Rect.unit (s := S520x3x32x128) o S520x1x32x128.size h).emb (ix4 a b c d) = ix4 a t c d := by
  obtain ⟨h0, h1, h2, h3⟩ := ho
  funext k
  apply Fin.ext
  match k with
  | ⟨0, _⟩ => show o 0 + 1 * a.val = a.val; omega
  | ⟨1, _⟩ => show o 1 + 1 * b.val = t.val; omega
  | ⟨2, _⟩ => show o 2 + 1 * c.val = c.val; omega
  | ⟨3, _⟩ => show o 3 + 1 * d.val = d.val; omega

set_option maxHeartbeats 4000000 in
theorem out_eq (x0 : Vec Ideal S520x3x32x128 .bf16) (x1 : Vec Ideal S520x3x32 .bf16) (x2 : Vec Ideal S32 .f32) (x3 : Vec Ideal S32 .f32) (x4 : Vec Ideal S520x3x1x64 .bf16) (x5 : Vec Ideal S520x3x1x64 .bf16) (x6 : Vec Ideal S32 .f32) (x7 : Vec Ideal S520x32x128x64 .fp8e4m3) (x8 : Vec Ideal S520x32x128 .f32) (y : S520x3x32x128.Idx) :
    out0_9 x0 x1 x2 x3 x4 x5 x6 x7 x8 y = yr x0 x1 x2 x3 x4 x5 x6 x7 x8 y := by
  unfold out0_9
  refine View.canon_apply_of_pieces (Val := Elt Ideal) (e := .bf16) (yr x0 x1 x2 x3 x4 x5 x6 x7 x8 : S520x3x32x128.Idx → Elt Ideal .bf16) _ ?_ y (cover0_9 _ _ _ y)
  have e9 : ∀ (a : Fin 520) (b : Fin 1) (c : Fin 32) (d : Fin 128), r0_9.emb (ix4 a b c d) = ix4 a 2 c d := fun a b c d => emb3 _ a b c d 2 (by simp)
  have e6 : ∀ (a : Fin 520) (b : Fin 1) (c : Fin 32) (d : Fin 128), r0_6.emb (ix4 a b c d) = ix4 a 1 c d := fun a b c d => emb3 _ a b c d 1 (by simp)
  have e3 : ∀ (a : Fin 520) (b : Fin 1) (c : Fin 32) (d : Fin 128), r0_3.emb (ix4 a b c d) = ix4 a 0 c d := fun a b c d => emb3 _ a b c d 0 (by simp)
  refine List.forall_mem_cons.2 ⟨?_, List.forall_mem_cons.2 ⟨?_, List.forall_mem_cons.2 ⟨?_, fun p hp => absurd hp List.not_mem_nil⟩⟩⟩
  · intro q
    dsimp only
    idx_vars q
    unfold_payloads
    pointwise [View.ld]
    rw [e9]
    simp [yr, yr2, h2, h1, h0, dec, del, dcy, sp, FloatOps.absf]
  · intro q
    dsimp only
    idx_vars q
    unfold_payloads
    pointwise [View.ld]
    rw [e6]
    simp [yr, yr1, h2, h1, h0, dec, del, dcy, sp, FloatOps.absf]
  · intro q
    dsimp only
    idx_vars q
    unfold_payloads
    pointwise [View.ld]
    rw [e3]
    simp [yr, yr0, h2, h1, h0, dec, del, dcy, sp, FloatOps.absf]

end Cert.ReferenceIdeal.Hand

end
-- ==== Proof.RefEq.lean ====
/- The kernel's expansion of one output element equals the reference's recurrence, for finite arguments. -/
module

public import proofs.«01_k».proof.Proof.RefVal

@[expose] public section

noncomputable section

namespace Cert.ReferenceIdeal.Hand

open Cert.ReferenceIdeal Cert.ReferenceIdeal.Gen Idealize.ShloMosaic Idealize.ShloMosaic.TcCoe Idealize.ShloMosaic.Tactic Cert.Alg

variable (x : S520x3x32x128.Idx → EReal) (dt : S520x3x32.Idx → EReal) (bias A : S32.Idx → EReal) (B C : S520x3x1x64.Idx → EReal)
  (D : S32.Idx → EReal) (K : S520x32x128x64.Idx → EReal) (S : S520x32x128.Idx → EReal)

/-- The product of the read row of token `t` and the write row of token `u`, and of the read row and the codes. -/
def dot (b : Fin 520) (t u : Fin 3) : EReal := ∑ n : Fin 64, C (ix4 b t 0 n) * B (ix4 b u 0 n)
def dotK (b : Fin 520) (t : Fin 3) (h : Fin 32) (d : Fin 128) : EReal := ∑ n : Fin 64, C (ix4 b t 0 n) * K (ix4 b h d n)

/-- The kernel's form of the output after each token. -/
def kr0 (b : Fin 520) (h : Fin 32) (d : Fin 128) : EReal :=
  dotK C K b 0 h d * (dec dt bias A b 0 h * S (ix3 b h d)) + dot B C b 0 0 * (del dt bias b 0 h * x (ix4 b 0 h d)) + D (ix1 h) * x (ix4 b 0 h d)
def kr1 (b : Fin 520) (h : Fin 32) (d : Fin 128) : EReal :=
  dotK C K b 1 h d * (dec dt bias A b 0 h * dec dt bias A b 1 h * S (ix3 b h d))
    + dot B C b 1 0 * (del dt bias b 0 h * dec dt bias A b 1 h * x (ix4 b 0 h d))
    + dot B C b 1 1 * (del dt bias b 1 h * x (ix4 b 1 h d)) + D (ix1 h) * x (ix4 b 1 h d)
def kr2 (b : Fin 520) (h : Fin 32) (d : Fin 128) : EReal :=
  dotK C K b 2 h d * (dec dt bias A b 0 h * dec dt bias A b 1 h * dec dt bias A b 2 h * S (ix3 b h d))
    + dot B C b 2 0 * (del dt bias b 0 h * dec dt bias A b 1 h * dec dt bias A b 2 h * x (ix4 b 0 h d))
    + dot B C b 2 1 * (del dt bias b 1 h * dec dt bias A b 2 h * x (ix4 b 1 h d))
    + dot B C b 2 2 * (del dt bias b 2 h * x (ix4 b 2 h d)) + D (ix1 h) * x (ix4 b 2 h d)

/-- An array of real numbers. -/
def RealArr {s : Shape} (f : s.Idx → EReal) : Prop := ∃ r : s.Idx → ℝ, ∀ j, f j = (r j : EReal)

/-- The step and the decay factor are real, the factor not negative. -/
theorem del_dec (hdt : RealArr dt) (hb : RealArr bias) (hA : RealArr A) (b : Fin 520) (t : Fin 3) (h : Fin 32) :
    ∃ δ a : ℝ, 0 ≤ a ∧ del dt bias b t h = (δ : EReal) ∧ dec dt bias A b t h = (a : EReal) := by
  obtain ⟨Dt, hdt⟩ := hdt
  obtain ⟨Bi, hb⟩ := hb
  obtain ⟨Al, hA⟩ := hA
  obtain ⟨δ, hδ⟩ := sp_coe (Dt (ix3 b t h) + Bi (ix1 h))
  have e : del dt bias b t h = (δ : EReal) := by rw [del, hdt, hb, ← EReal.coe_add, hδ]
  obtain ⟨a, ha, hd⟩ := dcy_coe (Al (ix1 h)) δ
  exact ⟨δ, a, ha, e, by rw [dec, e, hA, hd]⟩

variable {x dt bias A B C D S}

theorem kr0_eq (hx : RealArr x) (hdt : RealArr dt) (hb : RealArr bias) (hA : RealArr A) (hB : RealArr B) (hC : RealArr C) (hD : RealArr D) (b : Fin 520) (h : Fin 32) (d : Fin 128)
    (hS : ∃ s : ℝ, 0 ≤ s ∧ S (ix3 b h d) = (s : EReal)) : kr0 x dt bias A B C D K S b h d = yr0 x dt bias A B C D K S b h d := by
  obtain ⟨δ0, a0, ha0, e0, f0⟩ := del_dec dt bias A hdt hb hA b 0 h
  obtain ⟨X, hx⟩ := hx
  obtain ⟨b', hB⟩ := hB
  obtain ⟨c', hC⟩ := hC
  obtain ⟨d', hD⟩ := hD
  obtain ⟨s, hs, hS⟩ := hS
  unfold kr0 yr0 dot dotK
  simp only [e0, f0, hx, hB, hC, hD, hS]
  exact y0 s a0 δ0 (X (ix4 b 0 h d)) (d' (ix1 h)) (fun n => b' (ix4 b 0 0 n)) (fun n => c' (ix4 b 0 0 n)) (fun n => K (ix4 b h d n)) hs ha0

theorem kr1_eq (hx : RealArr x) (hdt : RealArr dt) (hb : RealArr bias) (hA : RealArr A) (hB : RealArr B) (hC : RealArr C) (hD : RealArr D) (b : Fin 520) (h : Fin 32) (d : Fin 128)
    (hS : ∃ s : ℝ, 0 ≤ s ∧ S (ix3 b h d) = (s : EReal)) : kr1 x dt bias A B C D K S b h d = yr1 x dt bias A B C D K S b h d := by
  obtain ⟨δ0, a0, ha0, e0, f0⟩ := del_dec dt bias A hdt hb hA b 0 h
  obtain ⟨δ1, a1, ha1, e1, f1⟩ := del_dec dt bias A hdt hb hA b 1 h
  obtain ⟨X, hx⟩ := hx
  obtain ⟨b', hB⟩ := hB
  obtain ⟨c', hC⟩ := hC
  obtain ⟨d', hD⟩ := hD
  obtain ⟨s, hs, hS⟩ := hS
  unfold kr1 yr1 dot dotK
  simp only [e0, f0, e1, f1, hx, hB, hC, hD, hS]
  exact y1 s a0 a1 δ0 δ1 (X (ix4 b 0 h d)) (X (ix4 b 1 h d)) (d' (ix1 h)) (fun n => b' (ix4 b 0 0 n)) (fun n => b' (ix4 b 1 0 n))
    (fun n => c' (ix4 b 1 0 n)) (fun n => K (ix4 b h d n)) hs ha0 ha1

theorem kr2_eq (hx : RealArr x) (hdt : RealArr dt) (hb : RealArr bias) (hA : RealArr A) (hB : RealArr B) (hC : RealArr C) (hD : RealArr D) (b : Fin 520) (h : Fin 32) (d : Fin 128)
    (hS : ∃ s : ℝ, 0 ≤ s ∧ S (ix3 b h d) = (s : EReal)) : kr2 x dt bias A B C D K S b h d = yr2 x dt bias A B C D K S b h d := by
  obtain ⟨δ0, a0, ha0, e0, f0⟩ := del_dec dt bias A hdt hb hA b 0 h
  obtain ⟨δ1, a1, ha1, e1, f1⟩ := del_dec dt bias A hdt hb hA b 1 h
  obtain ⟨δ2, a2, ha2, e2, f2⟩ := del_dec dt bias A hdt hb hA b 2 h
  obtain ⟨X, hx⟩ := hx
  obtain ⟨b', hB⟩ := hB
  obtain ⟨c', hC⟩ := hC
  obtain ⟨d', hD⟩ := hD
  obtain ⟨s, hs, hS⟩ := hS
  unfold kr2 yr2 dot dotK
  simp only [e0, f0, e1, f1, e2, f2, hx, hB, hC, hD, hS]
  exact y2 s a0 a1 a2 δ0 δ1 δ2 (X (ix4 b 0 h d)) (X (ix4 b 1 h d)) (X (ix4 b 2 h d)) (d' (ix1 h)) (fun n => b' (ix4 b 0 0 n)) (fun n => b' (ix4 b 1 0 n))
    (fun n => b' (ix4 b 2 0 n)) (fun n => c' (ix4 b 2 0 n)) (fun n => K (ix4 b h d n)) hs ha0 ha1 ha2

end Cert.ReferenceIdeal.Hand

end
-- ==== Proof.Elem.lean ====
/- One row of the kernel's first result, in terms of the arguments. -/
module

public import proofs.«01_k».proof.Proof.Blocks
public import proofs.«01_k».proof.Proof.RefEq

@[expose] public section

set_option maxRecDepth 16384

noncomputable section

namespace Cert.KernelIdeal.HandV

open Cert.KernelIdeal.Gen
open Cert.KernelIdeal.Hand hiding frame
open Idealize.ShloMosaic Idealize.ShloMosaic.TcCoe Idealize.ShloMosaic.Tactic
open Idealize.SL Idealize.SL.Sem
open Cert.ReferenceIdeal.Hand (del dec dot dotK kr0 kr1 kr2)

variable (m : (ℓ : Loc nD τ sig) → Buf (Elt Ideal) ℓ) (hO : Ok m) (c : Dev nD) (t : Fin (cfgM m hO).N)

theorem dN_at (u : Fin 3) (h : Fin 32) :
    dN (bl3 m hO c t) (bl7 m hO c t) u.val h.val t.val = del (g1 m c) (g2 m c) (row m hO t) u h := by
  have e1 := at3_eq (bl3 m hO c t) u h (row m hO t)
  have e2 := at2_eq (bl7 m hO c t) h 0
  rw [bl3_at, V_dt] at e1
  rw [bl7_at, (V_par m c h).1] at e2
  exact congrArg Alg.sp (congrArg₂ (· + ·) e1.symm e2.symm)

theorem aN_at (u : Fin 3) (h : Fin 32) :
    aN (bl3 m hO c t) (bl7 m hO c t) u.val h.val t.val = dec (g1 m c) (g2 m c) (g3 m c) (row m hO t) u h := by
  have e2 := at2_eq (bl7 m hO c t) h 1
  rw [bl7_at, (V_par m c h).2.1] at e2
  exact congrArg₂ Alg.dcy e2.symm (dN_at m hO c t u h)

theorem D_at (h : Fin 32) : at2 (bl7 m hO c t) h.val 2 = g6 m c (ix1 h) := by
  have e2 := at2_eq (bl7 m hO c t) h 2
  rw [bl7_at, (V_par m c h).2.2] at e2
  exact e2.symm

theorem x_at (u : Fin 3) (h : Fin 32) (d : Fin 128) : at4 (bl2 m hO c t) 0 u.val h.val d.val = g0 m c (ix4 (row m hO t) u h d) := by
  have e := at4_eq (bl2 m hO c t) 0 u h d
  rw [bl2_at] at e
  exact e.symm

theorem dot_at (u v : Fin 3) : dotN (bl4 m hO c t) (bl5 m hO c t) u.val v.val t.val = dot (g4 m c) (g5 m c) (row m hO t) u v := by
  refine Finset.sum_congr rfl fun n _ => ?_
  have e1 := at3_eq (bl5 m hO c t) u n (row m hO t)
  have e2 := at3_eq (bl4 m hO c t) v n (row m hO t)
  rw [bl5_at, V_c] at e1
  rw [bl4_at, V_b] at e2
  exact congrArg₂ (· * ·) e1.symm e2.symm

/-- A row of the first table. -/
theorem T13_row (k r : ℕ) (hk : k < 11) (h : Fin 32) (hr : r = 32 * k + h.val) :
    at2 (T13 (bl3 m hO c t) (bl7 m hO c t)) r t.val = coef (bl3 m hO c t) (bl7 m hO c t) k h.val t.val := by
  have hh := h.isLt
  have ht : t.val < 520 := t.isLt
  rw [T13_at _ _ r t.val (by omega) ht, show r / 32 = k by omega, show r % 32 = h.val by omega]

theorem T15_row (j : ℕ) (hj : j < 6) :
    at2 (T15 (bl4 m hO c t) (bl5 m hO c t)) j t.val = pairs (bl4 m hO c t) (bl5 m hO c t) j t.val :=
  T15_at _ _ j t.val hj t.isLt

variable (i : Fin 653) (hi : (g9 m 0 (ix1 (row m hO t))).toNat = i.val)
variable (K : Cert.ReferenceIdeal.S520x32x128x64.Idx → EReal) (S : Cert.ReferenceIdeal.S520x32x128.Idx → EReal)

include hi in
theorem s_at (hS : ∀ h d, S (ix3 (row m hO t) h d) = g8 m c (ix3 i h d)) (h : Fin 32) (d : Fin 128) :
    at3 (bl1 m hO c t) 0 h.val d.val = S (ix3 (row m hO t) h d) := by
  have e := at3_eq (bl1 m hO c t) 0 h d
  rw [bl1_at m hO c t i hi, ← hS] at e
  exact e.symm

include hi in
theorem ysum_at (hK : ∀ h d n, K (ix4 (row m hO t) h d n) = g7 m c (ix4 i h d n)) (u : Fin 3) (h : Fin 32) (d : Fin 128) :
    ysum t.val (bl6 m hO c t) (bl0 m hO c t) u.val h.val d.val = dotK (g5 m c) K (row m hO t) u h d := by
  refine Finset.sum_congr rfl fun n _ => ?_
  have e1 := at3_eq (bl6 m hO c t) u (row m hO t) ⟨n.val, lt_trans n.isLt (by norm_num)⟩
  have e2 := at4_eq (bl0 m hO c t) 0 h n d
  rw [bl6_at, V_crows_lo m c u (row m hO t) _ n rfl] at e1
  rw [bl0_at m hO c t i hi, ← hK] at e2
  exact congrArg₂ (· * ·) e1.symm e2.symm

variable (hK : ∀ h d n, K (ix4 (row m hO t) h d n) = g7 m c (ix4 i h d n)) (hS : ∀ h d, S (ix3 (row m hO t) h d) = g8 m c (ix3 i h d))
  (h : Fin 32) (d : Fin 128)

include hi hK hS

/-- The first token. -/
theorem elem0 : yblk m hO c t (ix4 0 0 h d) = kr0 (g0 m c) (g1 m c) (g2 m c) (g3 m c) (g4 m c) (g5 m c) (g6 m c) K S (row m hO t) h d := by
  unfold yblk
  rw [coord_val, yv_0 _ _ _ _ _ _ _ _ h.val d.val rfl rfl rfl, T13_row m hO c t 6 _ (by norm_num) h (by omega), T13_row m hO c t 0 _ (by norm_num) h (by omega),
    T15_row m hO c t 0 (by norm_num), D_at, s_at m hO c t i hi S hS]
  simp only [coef, pairs]
  have a0 := aN_at m hO c t 0 h
  have d0 := dN_at m hO c t 0 h
  have x0 := x_at m hO c t 0 h d
  have b00 := dot_at m hO c t 0 0
  have s0 := ysum_at m hO c t i hi K hK 0 h d
  simp only [Fin.val_zero, Fin.val_one, Fin.val_two] at a0 d0 x0 b00 s0
  rw [a0, d0, x0, b00, s0]
  rfl

/-- The second token. -/
theorem elem1 : yblk m hO c t (ix4 0 1 h d) = kr1 (g0 m c) (g1 m c) (g2 m c) (g3 m c) (g4 m c) (g5 m c) (g6 m c) K S (row m hO t) h d := by
  unfold yblk
  rw [coord_val, yv_1 _ _ _ _ _ _ _ _ h.val d.val rfl rfl rfl, T13_row m hO c t 7 _ (by norm_num) h (by omega), T13_row m hO c t 1 _ (by norm_num) h (by omega),
    T13_row m hO c t 2 _ (by norm_num) h (by omega), T15_row m hO c t 1 (by norm_num), T15_row m hO c t 2 (by norm_num), D_at, s_at m hO c t i hi S hS]
  simp only [coef, pairs]
  have a0 := aN_at m hO c t 0 h
  have a1 := aN_at m hO c t 1 h
  have d0 := dN_at m hO c t 0 h
  have d1 := dN_at m hO c t 1 h
  have x0 := x_at m hO c t 0 h d
  have x1 := x_at m hO c t 1 h d
  have b10 := dot_at m hO c t 1 0
  have b11 := dot_at m hO c t 1 1
  have s1 := ysum_at m hO c t i hi K hK 1 h d
  simp only [Fin.val_zero, Fin.val_one, Fin.val_two] at a0 a1 d0 d1 x0 x1 b10 b11 s1
  rw [a0, a1, d0, d1, x0, x1, b10, b11, s1]
  rfl

/-- The third token. -/
theorem elem2 : yblk m hO c t (ix4 0 2 h d) = kr2 (g0 m c) (g1 m c) (g2 m c) (g3 m c) (g4 m c) (g5 m c) (g6 m c) K S (row m hO t) h d := by
  unfold yblk
  rw [coord_val, yv_2 _ _ _ _ _ _ _ _ h.val d.val rfl rfl rfl, T13_row m hO c t 8 _ (by norm_num) h (by omega), T13_row m hO c t 3 _ (by norm_num) h (by omega),
    T13_row m hO c t 4 _ (by norm_num) h (by omega), T13_row m hO c t 5 _ (by norm_num) h (by omega), T15_row m hO c t 3 (by norm_num),
    T15_row m hO c t 4 (by norm_num), T15_row m hO c t 5 (by norm_num), D_at, s_at m hO c t i hi S hS]
  simp only [coef, pairs]
  have a0 := aN_at m hO c t 0 h
  have a1 := aN_at m hO c t 1 h
  have a2 := aN_at m hO c t 2 h
  have d0 := dN_at m hO c t 0 h
  have d1 := dN_at m hO c t 1 h
  have d2 := dN_at m hO c t 2 h
  have x0 := x_at m hO c t 0 h d
  have x1 := x_at m hO c t 1 h d
  have x2 := x_at m hO c t 2 h d
  have b20 := dot_at m hO c t 2 0
  have b21 := dot_at m hO c t 2 1
  have b22 := dot_at m hO c t 2 2
  have s2 := ysum_at m hO c t i hi K hK 2 h d
  simp only [Fin.val_zero, Fin.val_one, Fin.val_two] at a0 a1 a2 d0 d1 d2 x0 x1 x2 b20 b21 b22 s2
  rw [a0, a1, a2, d0, d1, d2, x0, x1, x2, b20, b21, b22, s2]
  rfl

end Cert.KernelIdeal.HandV

end
-- ==== Proof.RefArr.lean ====
/- The reference's result after its run, in terms of the arguments. -/
module

public import proofs.«01_k».proof.Proof.RefVal
public import Idealize.ShloMosaic.Lib.Pipeline.ValueKit

@[expose] public section

set_option maxRecDepth 16384

noncomputable section

namespace Cert.ReferenceIdeal.Hand

open Cert.ReferenceIdeal Cert.ReferenceIdeal.Gen Idealize.ShloMosaic Idealize.ShloMosaic.TcCoe Idealize.ShloMosaic.Tactic Idealize.SL.Sem

variable (m : (ℓ : Loc nD τ sig) → Buf (Elt Ideal) ℓ) (c : Dev nD)

/-- The arguments, at their shapes, and the gathered codes and scales. -/
abbrev w0 : S520x3x32x128.Idx → EReal := m ((c : Thread nD τ).loc main_arg0)
abbrev w1 : S520x3x32.Idx → EReal := m ((c : Thread nD τ).loc main_arg1)
abbrev w2 : S32.Idx → EReal := m ((c : Thread nD τ).loc main_arg2)
abbrev w3 : S32.Idx → EReal := m ((c : Thread nD τ).loc main_arg3)
abbrev w4 : S520x3x1x64.Idx → EReal := m ((c : Thread nD τ).loc main_arg4)
abbrev w5 : S520x3x1x64.Idx → EReal := m ((c : Thread nD τ).loc main_arg5)
abbrev w6 : S32.Idx → EReal := m ((c : Thread nD τ).loc main_arg6)
abbrev w7 : S653x32x128x64.Idx → EReal := m ((c : Thread nD τ).loc main_arg7)
abbrev w8 : S653x32x128.Idx → EReal := m ((c : Thread nD τ).loc main_arg8)
abbrev w9 : S520.Idx → BitVec 32 := m ((c : Thread nD τ).loc main_arg9)
abbrev wK : S520x32x128x64.Idx → EReal := V m c main_v6
abbrev wS : S520x32x128.Idx → EReal := V m c main_v13

/-! ## The two gathers -/

theorem toInt_small {v : BitVec 32} (hv : v.toNat < 2 ^ 31) : v.toInt = v.toNat := by
  simp only [BitVec.toInt]; split <;> omega

/-- An id that is not negative is not moved before the gather. -/
theorem sel_id (v : BitVec 32) (hv : v.toNat < 653) : Scalar.select (IntOp.cmpi .slt v 0#32) (IntOp.addi v 653#32) v = v := by
  have h : IntOp.cmpi .slt v 0#32 = 0#1 := by
    have : ¬ v.toInt < 0 := by
      rw [toInt_small (by omega)]; omega
    simp [IntOp.cmpi, BitVec.slt, this]
  rw [h]; rfl

theorem gather_codes (x : S653x32x128x64.Idx → EReal) (idx : IVec S520x1 32) (b : Fin 520) (h : Fin 32) (d : Fin 128) (n : Fin 64) (i : Fin 653)
    (hi : (idx (ix2 b 0)).toInt.toNat = i.val) :
    Host.gather gather_S653x32x128x64_S520x1_S520x32x128x64_123_0_n_n_0_1_13212864 x idx (ix4 b h d n) = x (ix4 i h d n) := by
  unfold Host.gather
  congr 1
  funext a
  refine Fin.ext ?_
  have hsi : ∀ k, gather_S653x32x128x64_S520x1_S520x32x128x64_123_0_n_n_0_1_13212864.siIdx (ix4 b h d n) k = (ix2 b 0 : S520x1.Idx) := fun k => by
    funext e; refine Fin.ext ?_
    match e with
    | ⟨0, _⟩ => rfl
    | ⟨1, _⟩ => have := k.isLt; show k.val = 0; change k.val < 1 at this; omega
  match a with
  | ⟨0, _⟩ =>
    show min (idx _).toInt.toNat (653 - 1) + 0 + 0 = i.val
    rw [hsi, hi]
    have := i.isLt
    omega
  | ⟨1, _⟩ => show 0 + 0 + h.val = h.val; omega
  | ⟨2, _⟩ => show 0 + 0 + d.val = d.val; omega
  | ⟨3, _⟩ => show 0 + 0 + n.val = n.val; omega

theorem gather_scales (x : S653x32x128.Idx → EReal) (idx : IVec S520x1 32) (b : Fin 520) (h : Fin 32) (d : Fin 128) (i : Fin 653)
    (hi : (idx (ix2 b 0)).toInt.toNat = i.val) :
    Host.gather gather_S653x32x128_S520x1_S520x32x128_12_0_n_n_0_1_132128 x idx (ix3 b h d) = x (ix3 i h d) := by
  unfold Host.gather
  congr 1
  funext a
  refine Fin.ext ?_
  have hsi : ∀ k, gather_S653x32x128_S520x1_S520x32x128_12_0_n_n_0_1_132128.siIdx (ix3 b h d) k = (ix2 b 0 : S520x1.Idx) := fun k => by
    funext e; refine Fin.ext ?_
    match e with
    | ⟨0, _⟩ => rfl
    | ⟨1, _⟩ => have := k.isLt; show k.val = 0; change k.val < 1 at this; omega
  match a with
  | ⟨0, _⟩ =>
    show min (idx _).toInt.toNat (653 - 1) + 0 + 0 = i.val
    rw [hsi, hi]
    have := i.isLt
    omega
  | ⟨1, _⟩ => show 0 + 0 + h.val = h.val; omega
  | ⟨2, _⟩ => show 0 + 0 + d.val = d.val; omega

/-- The start indices both gathers read. -/
def starts : IVec S520x1 32 :=
  broadcastInDim S520x1 ![0] bcast_S520_S520x1_0
    (select (cmpi .slt (w9 m c) (broadcastInDim S520 ![] bcast_S_S520 (constantI S_ 32 0#32)))
      (addi (w9 m c) (broadcastInDim S520 ![] bcast_S_S520 (constantI S_ 32 653#32))) (w9 m c))

theorem starts_at (b : Fin 520) (hb : (w9 m c (ix1 b)).toNat < 653) : (starts m c (ix2 b 0)).toInt.toNat = (w9 m c (ix1 b)).toNat := by
  have e : starts m c (ix2 b 0) = Scalar.select (IntOp.cmpi .slt (w9 m c (ix1 b)) 0#32) (IntOp.addi (w9 m c (ix1 b)) 653#32) (w9 m c (ix1 b)) := by
    unfold starts
    pointwise
    try rfl
  rw [e, sel_id _ hb, toInt_small (by omega)]
  rfl

theorem wK_at (b : Fin 520) (i : Fin 653) (hi : (w9 m c (ix1 b)).toNat = i.val) (h : Fin 32) (d : Fin 128) (n : Fin 64) :
    wK m c (ix4 b h d n) = w7 m c (ix4 i h d n) := by
  have e : wK m c = Host.gather gather_S653x32x128x64_S520x1_S520x32x128x64_123_0_n_n_0_1_13212864 (w7 m c) (starts m c) := by
    unfold wK V starts w7 w9; unfold hostOps0; after_results; try rfl
  rw [e]
  exact gather_codes _ _ b h d n i ((starts_at m c b (hi ▸ i.isLt)).trans hi)

theorem wS_at (b : Fin 520) (i : Fin 653) (hi : (w9 m c (ix1 b)).toNat = i.val) (h : Fin 32) (d : Fin 128) :
    wS m c (ix3 b h d) = w8 m c (ix3 i h d) := by
  have e : wS m c = Host.gather gather_S653x32x128_S520x1_S520x32x128_12_0_n_n_0_1_132128 (w8 m c) (starts m c) := by
    unfold wS V starts w8 w9; unfold hostOps0; after_results; try rfl
  rw [e]
  exact gather_scales _ _ b h d i ((starts_at m c b (hi ▸ i.isLt)).trans hi)

/-! ## The whole array -/

/-- The result after the run. -/
def rarr : S520x3x32x128.Idx → EReal := (dats m 0 c).arrAt 9 cfg0.N

/-- The one grid point. -/
def t0 : Fin cfg0.N := ⟨0, by decide⟩

theorem flush9 : (cfg0.win 9).flush t0 = true := by decide +kernel

theorem ib0 : (iblk m c 0 t0 : S520x3x32x128.Idx → EReal) = w0 m c := by
  rw [show w0 m c = (V m c main_arg0 : S520x3x32x128.Idx → EReal) from (V_main_arg0 m c).symm]
  funext j
  refine congrArg (V m c main_arg0 : S520x3x32x128.Idx → EReal) (funext fun a => Fin.ext ?_)
  refine Pipeline.Window.rect_emb_val_of_index_zero (cfg0.win 0) t0 a ?_ j
  match a with
  | ⟨0, _⟩ => rfl
  | ⟨1, _⟩ => rfl
  | ⟨2, _⟩ => rfl
  | ⟨3, _⟩ => rfl

theorem ib1 : (iblk m c 1 t0 : S520x3x32.Idx → EReal) = w1 m c := by
  rw [show w1 m c = (V m c main_arg1 : S520x3x32.Idx → EReal) from (V_main_arg1 m c).symm]
  funext j
  refine congrArg (V m c main_arg1 : S520x3x32.Idx → EReal) (funext fun a => Fin.ext ?_)
  refine Pipeline.Window.rect_emb_val_of_index_zero (cfg0.win 1) t0 a ?_ j
  match a with
  | ⟨0, _⟩ => rfl
  | ⟨1, _⟩ => rfl
  | ⟨2, _⟩ => rfl

theorem ib2 : (iblk m c 2 t0 : S32.Idx → EReal) = w2 m c := by
  rw [show w2 m c = (V m c main_arg2 : S32.Idx → EReal) from (V_main_arg2 m c).symm]
  funext j
  refine congrArg (V m c main_arg2 : S32.Idx → EReal) (funext fun a => Fin.ext ?_)
  refine Pipeline.Window.rect_emb_val_of_index_zero (cfg0.win 2) t0 a ?_ j
  match a with
  | ⟨0, _⟩ => rfl

theorem ib3 : (iblk m c 3 t0 : S32.Idx → EReal) = w3 m c := by
  rw [show w3 m c = (V m c main_arg3 : S32.Idx → EReal) from (V_main_arg3 m c).symm]
  funext j
  refine congrArg (V m c main_arg3 : S32.Idx → EReal) (funext fun a => Fin.ext ?_)
  refine Pipeline.Window.rect_emb_val_of_index_zero (cfg0.win 3) t0 a ?_ j
  match a with
  | ⟨0, _⟩ => rfl

theorem ib4 : (iblk m c 4 t0 : S520x3x1x64.Idx → EReal) = w4 m c := by
  rw [show w4 m c = (V m c main_arg4 : S520x3x1x64.Idx → EReal) from (V_main_arg4 m c).symm]
  funext j
  refine congrArg (V m c main_arg4 : S520x3x1x64.Idx → EReal) (funext fun a => Fin.ext ?_)
  refine Pipeline.Window.rect_emb_val_of_index_zero (cfg0.win 4) t0 a ?_ j
  match a with
  | ⟨0, _⟩ => rfl
  | ⟨1, _⟩ => rfl
  | ⟨2, _⟩ => rfl
  | ⟨3, _⟩ => rfl

theorem ib5 : (iblk m c 5 t0 : S520x3x1x64.Idx → EReal) = w5 m c := by
  rw [show w5 m c = (V m c main_arg5 : S520x3x1x64.Idx → EReal) from (V_main_arg5 m c).symm]
  funext j
  refine congrArg (V m c main_arg5 : S520x3x1x64.Idx → EReal) (funext fun a => Fin.ext ?_)
  refine Pipeline.Window.rect_emb_val_of_index_zero (cfg0.win 5) t0 a ?_ j
  match a with
  | ⟨0, _⟩ => rfl
  | ⟨1, _⟩ => rfl
  | ⟨2, _⟩ => rfl
  | ⟨3, _⟩ => rfl

theorem ib6 : (iblk m c 6 t0 : S32.Idx → EReal) = w6 m c := by
  rw [show w6 m c = (V m c main_arg6 : S32.Idx → EReal) from (V_main_arg6 m c).symm]
  funext j
  refine congrArg (V m c main_arg6 : S32.Idx → EReal) (funext fun a => Fin.ext ?_)
  refine Pipeline.Window.rect_emb_val_of_index_zero (cfg0.win 6) t0 a ?_ j
  match a with
  | ⟨0, _⟩ => rfl

theorem ib7 : (iblk m c 7 t0 : S520x32x128x64.Idx → EReal) = wK m c := by
  funext j
  refine congrArg (V m c main_v6 : S520x32x128x64.Idx → EReal) (funext fun a => Fin.ext ?_)
  refine Pipeline.Window.rect_emb_val_of_index_zero (cfg0.win 7) t0 a ?_ j
  match a with
  | ⟨0, _⟩ => rfl
  | ⟨1, _⟩ => rfl
  | ⟨2, _⟩ => rfl
  | ⟨3, _⟩ => rfl

theorem ib8 : (iblk m c 8 t0 : S520x32x128.Idx → EReal) = wS m c := by
  funext j
  refine congrArg (V m c main_v13 : S520x32x128.Idx → EReal) (funext fun a => Fin.ext ?_)
  refine Pipeline.Window.rect_emb_val_of_index_zero (cfg0.win 8) t0 a ?_ j
  match a with
  | ⟨0, _⟩ => rfl
  | ⟨1, _⟩ => rfl
  | ⟨2, _⟩ => rfl

theorem emb9 (j : S520x3x32x128.Idx) : ((cfg0.win 9).rect t0).emb j = j := by
  funext a
  refine Fin.ext ?_
  refine Pipeline.Window.rect_emb_val_of_index_zero (cfg0.win 9) t0 a ?_ j
  match a with
  | ⟨0, _⟩ => rfl
  | ⟨1, _⟩ => rfl
  | ⟨2, _⟩ => rfl
  | ⟨3, _⟩ => rfl

theorem arr9 (j : ((cfg0.win 9).xblock (cfg0.grid.coords t0)).Idx) :
    (dats m 0 c).arrAt 9 cfg0.N (((cfg0.win 9).blk t0).view.emb j)
      = _root_.cast (congrArg (Elt Ideal) ((cfg0.win 9).blk t0).view.elt_eq.symm) ((dats m 0 c).flushed 9 t0 j) :=
  (dats m 0 c).arrAt_emb_eq_flushed 9 Value.disjoint9 t0 flush9 j

theorem read9 (j : S520x3x32x128.Idx) : rarr m c (((cfg0.win 9).rect t0).emb j) = (dats m 0 c).flushed 9 t0 j := by
  refine Eq.trans ?_ ((arr9 m c j).trans ?_)
  · rfl
  · rfl

theorem flushed9 (j : S520x3x32x128.Idx) : (dats m 0 c).flushed 9 t0 j
    = out0_9 (iblk m c 0 t0) (iblk m c 1 t0) (iblk m c 2 t0) (iblk m c 3 t0) (iblk m c 4 t0) (iblk m c 5 t0) (iblk m c 6 t0) (iblk m c 7 t0) (iblk m c 8 t0) j := by
  rw [Value.flushed9]
  rfl

theorem rarr_eq : rarr m c = yr (w0 m c) (w1 m c) (w2 m c) (w3 m c) (w4 m c) (w5 m c) (w6 m c) (wK m c) (wS m c) := by
  funext j
  have e := (read9 m c j).trans ((flushed9 m c j).trans (out_eq _ _ _ _ _ _ _ _ _ j))
  rw [emb9, ib0, ib1, ib2, ib3, ib4, ib5, ib6, ib7, ib8] at e
  exact e

end Cert.ReferenceIdeal.Hand

end
-- ==== Proof.AlgClaim.lean ====
/- The first result of the kernel equals the reference's, with both runs' arguments unchanged. -/
module

public import proofs.«01_k».proof.Proof.Elem
public import proofs.«01_k».proof.Proof.RefArr
public import proofs.«01_k».proof.Proof.Adm
public import Idealize.ShloMosaic.Lib.Claim

@[expose] public section

set_option maxRecDepth 16384

noncomputable section

namespace Cert.KernelIdeal.HandV

open Cert.KernelIdeal.Gen
open Cert.KernelIdeal.Hand hiding frame
open Idealize.ShloMosaic Idealize.ShloMosaic.TcCoe Idealize.ShloMosaic.Tactic
open Idealize.SL Idealize.SL.Sem
open Cert.ReferenceIdeal.Hand (RealArr yr yr0 yr1 yr2 kr0_eq kr1_eq kr2_eq)

variable (m : (ℓ : Loc nD τ sig) → Buf (Elt Ideal) ℓ)

/-- After the run the first result is the array named above. -/
theorem post8 (hO : Ok m) (r : PUnit × MemSt nD τ sig (Elt Ideal))
    (h : Pipeline.RDat.FramePost ((Pipeline.pin pcfgs fun _ => adm m hO) 0) (fun c => (datsV m hO 0 c).toRForget forgetsV) (V m) r) (c : Dev nD) :
    r.2.mem ((c : Thread nD τ).loc main_v14_0) = (yarr m hO c : S520x3x32x128.Idx → EReal) :=
  ((datsV m hO 0 c).toRForget_arrAt_iff (fgt := forgetsV) (w := 8) rfl (cfgM m hO).N _).1 ((h c).1 8)

/-- The kernel's first result is the reference's function of the arguments, the codes and scales taken at the ids. -/
theorem yarr_eq (hO : Ok m) (c : Dev nD) (hids : ∀ w, (g9 m 0 w).toNat < 653)
    (K : Cert.ReferenceIdeal.S520x32x128x64.Idx → EReal) (S : Cert.ReferenceIdeal.S520x32x128.Idx → EReal)
    (hK : ∀ (b : Fin 520) (i : Fin 653), (g9 m 0 (ix1 b)).toNat = i.val → ∀ h d n, K (ix4 b h d n) = g7 m c (ix4 i h d n))
    (hS : ∀ (b : Fin 520) (i : Fin 653), (g9 m 0 (ix1 b)).toNat = i.val → ∀ h d, S (ix3 b h d) = g8 m c (ix3 i h d))
    (r0 : RealArr (g0 m c)) (r1 : RealArr (g1 m c)) (r2 : RealArr (g2 m c)) (r3 : RealArr (g3 m c)) (r4 : RealArr (g4 m c)) (r5 : RealArr (g5 m c))
    (r6 : RealArr (g6 m c)) (r8 : ∀ j, ∃ s : ℝ, 0 ≤ s ∧ g8 m c j = (s : EReal)) :
    yarr m hO c = yr (g0 m c) (g1 m c) (g2 m c) (g3 m c) (g4 m c) (g5 m c) (g6 m c) K S := by
  have all : ∀ (b : Fin 520) (u : Fin 3) (h : Fin 32) (d : Fin 128),
      yarr m hO c (ix4 b u h d) = yr (g0 m c) (g1 m c) (g2 m c) (g3 m c) (g4 m c) (g5 m c) (g6 m c) K S (ix4 b u h d) := fun b u h d => by
    have hb := b.isLt
    let t : Fin (cfgM m hO).N := ⟨b.val, hb⟩
    let i : Fin 653 := ⟨(g9 m 0 (ix1 b)).toNat, hids _⟩
    have hs : ∃ s : ℝ, 0 ≤ s ∧ S (ix3 b h d) = (s : EReal) := by rw [hS b i rfl]; exact r8 _
    refine (yarr_at m hO c t u h d).trans ?_
    match u with
    | ⟨0, _⟩ => exact (elem0 m hO c t i rfl K S (hK b i rfl) (hS b i rfl) h d).trans (kr0_eq K r0 r1 r2 r3 r4 r5 r6 b h d hs)
    | ⟨1, _⟩ => exact (elem1 m hO c t i rfl K S (hK b i rfl) (hS b i rfl) h d).trans (kr1_eq K r0 r1 r2 r3 r4 r5 r6 b h d hs)
    | ⟨2, _⟩ => exact (elem2 m hO c t i rfl K S (hK b i rfl) (hS b i rfl) h d).trans (kr2_eq K r0 r1 r2 r3 r4 r5 r6 b h d hs)
  funext j
  have e : j = ix4 (j 0) (j 1) (j 2) (j 3) := by
    funext a
    match a with
    | ⟨0, _⟩ => rfl
    | ⟨1, _⟩ => rfl
    | ⟨2, _⟩ => rfl
    | ⟨3, _⟩ => rfl
  rw [e]
  exact all (j 0) (j 1) (j 2) (j 3)

theorem realArr {s : Shape} {f : s.Idx → EReal} (h : ∀ j, ∃ r : ℝ, f j = (r : EReal)) : RealArr f := ⟨fun j => (h j).choose, fun j => (h j).choose_spec⟩

/-- The value claim. -/
theorem algebraic : Cert.algebraic_KernelIdeal_ReferenceIdeal_pre_admissible (hKernelIdeal := Cert.KernelIdeal.Gen.facts)
    (hReferenceIdeal := Cert.ReferenceIdeal.Gen.facts) (hPre_admissible := Cert.Pre_admissible.Gen.facts) := by
  intro m g m' g' hpre hargs
  have hids : ∀ w, (g9 m 0 w).toNat < 653 := Cert.Ids.admissible_lt _ _ _ _ _ _ _ _ _ _ (hpre 0).1
  have hO : Ok m := Cert.Ids.ok_KernelIdeal m hids
  refine ⟨fun c => (yarr m hO c : S520x3x32x128.Idx → EReal), ?_, ?_⟩
  · exact (θ_run defs _ _).mono (fun r h c => ⟨post8 m hO r h.1 c, h.2 c⟩)
      (θ_run_and (run_mainV m g hO (padded m hO))
        (frame_of m g hO (fun c => (datsV m hO 0 c).toRForget forgetsV) (A_eqV m hO) (run_mainV m g hO (padded m hO))))
  · refine (θ_run Cert.ReferenceIdeal.defs _ _).mono (fun r h c => ⟨(h c).1.trans ?_, (h c).2⟩) (Cert.ReferenceIdeal.Value.run_blocks m' g')
    obtain rfl : c = 0 := Subsingleton.elim _ _
    obtain ⟨a0, a1, a2, a3, a4, a5, a6, a7, a8, a9⟩ := hargs 0
    obtain ⟨-, p0, p1, p2, p3, p4, p5, p6, p8⟩ := hpre 0
    obtain ⟨r0, r1, r2, r3, r4, r5, r6, r8⟩ := Cert.Ids.admissible_real _ _ _ _ _ _ _ _ _ _ p0 p1 p2 p3 p4 p5 p6 p8
    have ew7 : Cert.ReferenceIdeal.Hand.w7 m' 0 = g7 m 0 := a7
    have ew8 : Cert.ReferenceIdeal.Hand.w8 m' 0 = g8 m 0 := a8
    have ew9 : Cert.ReferenceIdeal.Hand.w9 m' 0 = g9 m 0 := a9
    have e := yarr_eq m hO 0 hids (Cert.ReferenceIdeal.Hand.wK m' 0) (Cert.ReferenceIdeal.Hand.wS m' 0)
      (fun b i hi h d n => (Cert.ReferenceIdeal.Hand.wK_at m' 0 b i (ew9 ▸ hi) h d n).trans (congrFun ew7 _))
      (fun b i hi h d => (Cert.ReferenceIdeal.Hand.wS_at m' 0 b i (ew9 ▸ hi) h d).trans (congrFun ew8 _))
      (realArr r0) (realArr r1) (realArr r2) (realArr r3) (realArr r4) (realArr r5) (realArr r6) r8
    have e' := Cert.ReferenceIdeal.Hand.rarr_eq m' 0
    have w0 : Cert.ReferenceIdeal.Hand.w0 m' 0 = g0 m 0 := a0
    have w1 : Cert.ReferenceIdeal.Hand.w1 m' 0 = g1 m 0 := a1
    have w2 : Cert.ReferenceIdeal.Hand.w2 m' 0 = g2 m 0 := a2
    have w3 : Cert.ReferenceIdeal.Hand.w3 m' 0 = g3 m 0 := a3
    have w4 : Cert.ReferenceIdeal.Hand.w4 m' 0 = g4 m 0 := a4
    have w5 : Cert.ReferenceIdeal.Hand.w5 m' 0 = g5 m 0 := a5
    have w6 : Cert.ReferenceIdeal.Hand.w6 m' 0 = g6 m 0 := a6
    rw [w0, w1, w2, w3, w4, w5, w6] at e'
    exact e'.trans e.symm

end Cert.KernelIdeal.HandV

end
-- ==== Proof.lean ====
/- The claims of this certificate: the two frames of the kernel, its frame at the ideal reading, the frame of
   the reference, the rule that relates the two readings of the kernel, and its first result against the reference. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.Gen.Pre_admissible
public import proofs.«01_k».proof.Proof.Gen.ReferenceIdeal.Value
public import proofs.«01_k».proof.Proof.FrameK
public import proofs.«01_k».proof.Proof.FrameKI
public import proofs.«01_k».proof.Proof.Ids
public import proofs.«01_k».proof.Proof.Adm
public import proofs.«01_k».proof.Proof.AlgClaim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_in_range.Gen.facts, Cert.Pre_admissible.Gen.facts,
    fun m ρ h => Cert.Kernel.Hand.frame m ρ (Cert.Ids.ok_Kernel m (Cert.Ids.in_range_lt _ _ _ _ _ _ _ _ _ _ (h 0))),
    fun m ρ h => Cert.KernelIdeal.Hand.frame m ρ (Cert.Ids.ok_KernelIdeal m (Cert.Ids.in_range_lt _ _ _ _ _ _ _ _ _ _ (h 0))),
    fun m ρ h => Cert.KernelIdeal.Hand.frame m ρ (Cert.Ids.ok_KernelIdeal m (Cert.Ids.admissible_lt _ _ _ _ _ _ _ _ _ _ (h 0).1)),
    fun m ρ _ => Cert.ReferenceIdeal.Gen.frame m ρ,
    fun m ρ _ => Cert.ReferenceIdeal.Gen.frame m ρ,
    IdealRules.bf16_pack.statement _,
    Cert.KernelIdeal.HandV.algebraic⟩

end Cert.Proof

end
